-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_ffn [hPre_finite_ffn : Cert.Pre_finite_ffn.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_ffn.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_ffn [hPre_finite_ffn : Cert.Pre_finite_ffn.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_ffn.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_ffn [hKernel7Ideal : Cert.Kernel7Ideal.Facts] [hPre_finite_ffn : Cert.Pre_finite_ffn.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_ffn m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_ffn [hReference7Ideal : Cert.Reference7Ideal.Facts] [hPre_finite_ffn : Cert.Pre_finite_ffn.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_ffn m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def algebraic_Kernel2Ideal_Reference3Ideal [hKernel2Ideal : Cert.Kernel2Ideal.Facts] [hReference3Ideal : Cert.Reference3Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel2Ideal m →
    (∀ c : Dev Cert.Kernel2Ideal.nD,
      m' ((c.tc : Thread Cert.Reference3Ideal.nD Cert.Reference3Ideal.τ).loc Cert.Reference3Ideal.main_arg0) = m ((c.tc : Thread Cert.Kernel2Ideal.nD Cert.Kernel2Ideal.τ).loc Cert.Kernel2Ideal.main_arg0)
      ∧ m' ((c.tc : Thread Cert.Reference3Ideal.nD Cert.Reference3Ideal.τ).loc Cert.Reference3Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite_ffn [hKernel7Ideal : Cert.Kernel7Ideal.Facts] [hReference7Ideal : Cert.Reference7Ideal.Facts] [hPre_finite_ffn : Cert.Pre_finite_ffn.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_ffn m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_v20) = v1 c
          ∧ r.2.mem ((c.tc : Thread Cert.Reference7Ideal.nD Cert.Reference7Ideal.τ).loc Cert.Reference7Ideal.main_v23) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v7) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite_ffn (hKernel7Ideal := hKernel7Ideal) (hPre_finite_ffn := hPre_finite_ffn)
    ∧ quiescent_Reference7Ideal (hReference7Ideal := hReference7Ideal)
    ∧ quiescent_Reference7Ideal_pre_finite_ffn (hReference7Ideal := hReference7Ideal) (hPre_finite_ffn := hPre_finite_ffn)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ algebraic_Kernel2Ideal_Reference3Ideal (hKernel2Ideal := hKernel2Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite_ffn (hKernel7Ideal := hKernel7Ideal) (hReference7Ideal := hReference7Ideal) (hPre_finite_ffn := hPre_finite_ffn)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S8x4096x192 : Shape := ⟨3, ![8, 4096, 192]⟩
abbrev S8x4096x128 : Shape := ⟨3, ![8, 4096, 128]⟩
abbrev S_ : Shape := ⟨0, ![]⟩

class Facts : Prop where
  bitsLt_bf16_f32 : FTy.bits .bf16 < FTy.bits .f32
  bcast_S_S8x4096x192 : S_.BroadcastsInDim S8x4096x192 (![] : Fin 0 → Fin S8x4096x192.rank)
  reducesTo_S8x4096x192_S_d0_1_2 : S8x4096x192.ReducesTo [0, 1, 2] S_
  h_S_ : 0 < S_.numel
  bcast_S_S8x4096x128 : S_.BroadcastsInDim S8x4096x128 (![] : Fin 0 → Fin S8x4096x128.rank)
  reducesTo_S8x4096x128_S_d0_1_2 : S8x4096x128.ReducesTo [0, 1, 2] S_

variable [Facts]

def fn_part1 {F : FTy → Type} [FloatOps F] (main_v16 : IVec S_ 1) (main_v17 : FVec F S8x4096x128 .f32) : IVec S_ 1 :=
  let main_v18 : FVec F S8x4096x128 .f32 := Host.absf main_v17
  let main_cst_4 : FVec F S_ .f32 := constant S_ .f32 0x7F800000#32
  let main_v19 : FVec F S8x4096x128 .f32 := broadcastInDim S8x4096x128 ![] bcast_S_S8x4096x128 main_cst_4
  let main_v20 : IVec S8x4096x128 1 := cmpf .olt main_v18 main_v19
  let main_c_5 : IVec S_ 1 := constantI S_ 1 1#1
  let main_v21 : IVec S_ 1 := (fun x v => Host.reduce IntOp.andi x v reducesTo_S8x4096x128_S_d0_1_2 h_S_) main_v20 main_c_5
  let main_v22 : IVec S_ 1 := andi main_v16 main_v21
  main_v22

def fn {F : FTy → Type} [FloatOps F] (main_arg0 : FVec F S8x4096x192 .bf16) (main_arg1 : FVec F S8x4096x192 .bf16) (main_arg2 : FVec F S8x4096x128 .bf16) (main_arg3 : FVec F S8x4096x128 .bf16) : IVec S_ 1 :=
  let main_v0 : FVec F S8x4096x192 .f32 := (extf .f32 · bitsLt_bf16_f32) main_arg0
  let main_v1 : FVec F S8x4096x192 .f32 := Host.absf main_v0
  let main_cst : FVec F S_ .f32 := constant S_ .f32 0x7F800000#32
  let main_v2 : FVec F S8x4096x192 .f32 := broadcastInDim S8x4096x192 ![] bcast_S_S8x4096x192 main_cst
  let main_v3 : IVec S8x4096x192 1 := cmpf .olt main_v1 main_v2
  let main_c : IVec S_ 1 := constantI S_ 1 1#1
  let main_v4 : IVec S_ 1 := (fun x v => Host.reduce IntOp.andi x v reducesTo_S8x4096x192_S_d0_1_2 h_S_) main_v3 main_c
  let main_v5 : FVec F S8x4096x192 .f32 := (extf .f32 · bitsLt_bf16_f32) main_arg1
  let main_v6 : FVec F S8x4096x192 .f32 := Host.absf main_v5
  let main_cst_0 : FVec F S_ .f32 := constant S_ .f32 0x7F800000#32
  let main_v7 : FVec F S8x4096x192 .f32 := broadcastInDim S8x4096x192 ![] bcast_S_S8x4096x192 main_cst_0
  let main_v8 : IVec S8x4096x192 1 := cmpf .olt main_v6 main_v7
  let main_c_1 : IVec S_ 1 := constantI S_ 1 1#1
  let main_v9 : IVec S_ 1 := (fun x v => Host.reduce IntOp.andi x v reducesTo_S8x4096x192_S_d0_1_2 h_S_) main_v8 main_c_1
  let main_v10 : IVec S_ 1 := andi main_v4 main_v9
  let main_v11 : FVec F S8x4096x128 .f32 := (extf .f32 · bitsLt_bf16_f32) main_arg2
  let main_v12 : FVec F S8x4096x128 .f32 := Host.absf main_v11
  let main_cst_2 : FVec F S_ .f32 := constant S_ .f32 0x7F800000#32
  let main_v13 : FVec F S8x4096x128 .f32 := broadcastInDim S8x4096x128 ![] bcast_S_S8x4096x128 main_cst_2
  let main_v14 : IVec S8x4096x128 1 := cmpf .olt main_v12 main_v13
  let main_c_3 : IVec S_ 1 := constantI S_ 1 1#1
  let main_v15 : IVec S_ 1 := (fun x v => Host.reduce IntOp.andi x v reducesTo_S8x4096x128_S_d0_1_2 h_S_) main_v14 main_c_3
  let main_v16 : IVec S_ 1 := andi main_v10 main_v15
  let main_v17 : FVec F S8x4096x128 .f32 := (extf .f32 · bitsLt_bf16_f32) main_arg3
  fn_part1 (F := F) main_v16 main_v17
-- ==== Pre_finite_ffn.lean ====
abbrev S4096x2048 : Shape := ⟨2, ![4096, 2048]⟩
abbrev S8x704x2048 : Shape := ⟨3, ![8, 704, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S8x704x2048 : S_.BroadcastsInDim S8x704x2048 (![] : Fin 0 → Fin S8x704x2048.rank)
  reducesTo_S8x704x2048_S_d0_1_2 : S8x704x2048.ReducesTo [0, 1, 2] S_

variable [Facts]

def fn {F : FTy → Type} [FloatOps F] (main_arg0 : FVec F S4096x2048 .bf16) (main_arg1 : FVec F S8x704x2048 .bf16) (main_arg2 : FVec F S8x704x2048 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S8x704x2048 .f32 := (extf .f32 · bitsLt_bf16_f32) main_arg1
  let main_v6 : FVec F S8x704x2048 .f32 := Host.absf main_v5
  let main_cst_0 : FVec F S_ .f32 := constant S_ .f32 0x7F800000#32
  let main_v7 : FVec F S8x704x2048 .f32 := broadcastInDim S8x704x2048 ![] bcast_S_S8x704x2048 main_cst_0
  let main_v8 : IVec S8x704x2048 1 := cmpf .olt main_v6 main_v7
  let main_c_1 : IVec S_ 1 := constantI S_ 1 1#1
  let main_v9 : IVec S_ 1 := (fun x v => Host.reduce IntOp.andi x v reducesTo_S8x704x2048_S_d0_1_2 h_S_) main_v8 main_c_1
  let main_v10 : IVec S_ 1 := andi main_v4 main_v9
  let main_v11 : FVec F S8x704x2048 .f32 := (extf .f32 · bitsLt_bf16_f32) main_arg2
  let main_v12 : FVec F S8x704x2048 .f32 := Host.absf main_v11
  let main_cst_2 : FVec F S_ .f32 := constant S_ .f32 0x7F800000#32
  let main_v13 : FVec F S8x704x2048 .f32 := broadcastInDim S8x704x2048 ![] bcast_S_S8x704x2048 main_cst_2
  let main_v14 : IVec S8x704x2048 1 := cmpf .olt main_v12 main_v13
  let main_c_3 : IVec S_ 1 := constantI S_ 1 1#1
  let main_v15 : IVec S_ 1 := (fun x v => Host.reduce IntOp.andi x v reducesTo_S8x704x2048_S_d0_1_2 h_S_) main_v14 main_c_3
  let main_v16 : IVec S_ 1 := andi main_v10 main_v15
  main_v16
-- ==== Kernel.lean ====
abbrev S8x4096x192 : Shape := ⟨3, ![8, 4096, 192]⟩
abbrev S8x4096x128 : Shape := ⟨3, ![8, 4096, 128]⟩
abbrev S3 : Shape := ⟨1, ![3]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S1x2048x192 : Shape := ⟨3, ![1, 2048, 192]⟩
abbrev S1 : Shape := ⟨1, ![1]⟩
abbrev S1x2048x128 : Shape := ⟨3, ![1, 2048, 128]⟩
abbrev S1x2048x1 : Shape := ⟨3, ![1, 2048, 1]⟩
abbrev S1x4096x192 : Shape := ⟨3, ![1, 4096, 192]⟩
abbrev S2048x192 : Shape := ⟨2, ![2048, 192]⟩
abbrev S2048x128 : Shape := ⟨2, ![2048, 128]⟩
abbrev S4096x192 : Shape := ⟨2, ![4096, 192]⟩
abbrev S256x256 : Shape := ⟨2, ![256, 256]⟩
abbrev S256x512 : Shape := ⟨2, ![256, 512]⟩
abbrev S256x768 : Shape := ⟨2, ![256, 768]⟩
abbrev S256x1024 : Shape := ⟨2, ![256, 1024]⟩
abbrev S256x1280 : Shape := ⟨2, ![256, 1280]⟩
abbrev S256x1536 : Shape := ⟨2, ![256, 1536]⟩
abbrev S256x1792 : Shape := ⟨2, ![256, 1792]⟩
abbrev S256x2048 : Shape := ⟨2, ![256, 2048]⟩
abbrev S1x256x192 : Shape := ⟨3, ![1, 256, 192]⟩
abbrev S256x192 : Shape := ⟨2, ![256, 192]⟩
abbrev S1x256x1 : Shape := ⟨3, ![1, 256, 1]⟩
abbrev S256x1 : Shape := ⟨2, ![256, 1]⟩
abbrev S1x256x128 : Shape := ⟨3, ![1, 256, 128]⟩
abbrev S256x128 : Shape := ⟨2, ![256, 128]⟩
abbrev S1x512x192 : Shape := ⟨3, ![1, 512, 192]⟩
abbrev S512x192 : Shape := ⟨2, ![512, 192]⟩
abbrev S512x128 : Shape := ⟨2, ![512, 128]⟩
abbrev S1x512x128 : Shape := ⟨3, ![1, 512, 128]⟩
abbrev S1x768x192 : Shape := ⟨3, ![1, 768, 192]⟩
abbrev S768x192 : Shape := ⟨2, ![768, 192]⟩
abbrev S768x128 : Shape := ⟨2, ![768, 128]⟩
abbrev S1x768x128 : Shape := ⟨3, ![1, 768, 128]⟩
abbrev S1x1024x192 : Shape := ⟨3, ![1, 1024, 192]⟩
abbrev S1024x192 : Shape := ⟨2, ![1024, 192]⟩
abbrev S1024x128 : Shape := ⟨2, ![1024, 128]⟩
abbrev S1x1024x128 : Shape := ⟨3, ![1, 1024, 128]⟩
abbrev S1x1280x192 : Shape := ⟨3, ![1, 1280, 192]⟩
abbrev S1280x192 : Shape := ⟨2, ![1280, 192]⟩
abbrev S1280x128 : Shape := ⟨2, ![1280, 128]⟩
abbrev S1x1280x128 : Shape := ⟨3, ![1, 1280, 128]⟩
abbrev S1x1536x192 : Shape := ⟨3, ![1, 1536, 192]⟩
abbrev S1536x192 : Shape := ⟨2, ![1536, 192]⟩
abbrev S1536x128 : Shape := ⟨2, ![1536, 128]⟩
abbrev S1x1536x128 : Shape := ⟨3, ![1, 1536, 128]⟩
abbrev S1x1792x192 : Shape := ⟨3, ![1, 1792, 192]⟩
abbrev S1792x192 : Shape := ⟨2, ![1792, 192]⟩
abbrev S1792x128 : Shape := ⟨2, ![1792, 128]⟩
abbrev S1x1792x128 : Shape := ⟨3, ![1, 1792, 128]⟩

abbrev nBuf : Space → Nat
  | .hbm => 67
  | .vmem => 20
  | .smem => 2
  | _ => 0

abbrev bufTy : (tb : Table) → Fin (tcTables nBuf tb) → BufTy
  | .hbm, ⟨0, _⟩ => ⟨S8x4096x192, .bf16⟩
  | .hbm, ⟨1, _⟩ => ⟨S8x4096x192, .bf16⟩
  | .hbm, ⟨2, _⟩ => ⟨S8x4096x128, .bf16⟩
  | .hbm, ⟨3, _⟩ => ⟨S8x4096x128, .bf16⟩
  | .hbm, ⟨4, _⟩ => ⟨S8x4096x192, .f32⟩
  | .hbm, ⟨5, _⟩ => ⟨S8x4096x192, .f32⟩
  | .hbm, ⟨6, _⟩ => ⟨S8x4096x128, .f32⟩
  | .hbm, ⟨7, _⟩ => ⟨S8x4096x128, .f32⟩
  | .hbm, ⟨8, _⟩ => ⟨S8x4096x4096, .f32⟩
  | .hbm, ⟨9, _⟩ => ⟨S4096, .i32⟩
  | .hbm, ⟨10, _⟩ => ⟨S1x4096, .i32⟩
  | .hbm, ⟨11, _⟩ => ⟨S4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x4096x4096, .i1⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096x1, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x4096, .f32⟩
  | .hbm, ⟨33, _⟩ => ⟨S4096, .i32⟩
  | .hbm, ⟨34, _⟩ => ⟨S1x4096, .i32⟩
  | .hbm, ⟨35, _⟩ => ⟨S4096, .i32⟩
  | .hbm, ⟨36, _⟩ => ⟨S4096x1, .i32⟩
  | .hbm, ⟨37, _⟩ => ⟨S4096x4096, .i32⟩
  | .hbm, ⟨38, _⟩ => ⟨S4096x4096, .i32⟩
  | .hbm, ⟨39, _⟩ => ⟨S4096x4096, .i1⟩
  | .hbm, ⟨40, _⟩ => ⟨S_, .f32⟩
  | .hbm, ⟨41, _⟩ => ⟨S_, .f32⟩
  | .hbm, ⟨42, _⟩ => ⟨S8x4096x4096, .i1⟩
  | .hbm, ⟨43, _⟩ => ⟨S8x4096x4096, .f32⟩
  | .hbm, ⟨44, _⟩ => ⟨S8x4096x4096, .f32⟩
  | .hbm, ⟨45, _⟩ => ⟨S_, .f32⟩
  | .hbm, ⟨46, _⟩ => ⟨S8x4096, .f32⟩
  | .hbm, ⟨47, _⟩ => ⟨S_, .f32⟩
  | .hbm, ⟨48, _⟩ => ⟨S8x4096, .f32⟩
  | .hbm, ⟨49, _⟩ => ⟨S8x4096, .f32⟩
  | .hbm, ⟨50, _⟩ => ⟨S8x4096x1, .f32⟩
  | .hbm, ⟨51, _⟩ => ⟨S8x4096x4096, .f32⟩
  | .hbm, ⟨52, _⟩ => ⟨S8x4096x4096, .f32⟩
  | .hbm, ⟨53, _⟩ => ⟨S8x4096x4096, .f32⟩
  | .hbm, ⟨54, _⟩ => ⟨S_, .f32⟩
  | .hbm, ⟨55, _⟩ => ⟨S8x4096, .f32⟩
  | .hbm, ⟨56, _⟩ => ⟨S8x4096x1, .f32⟩
  | .hbm, ⟨57, _⟩ => ⟨S8x4096x4096, .f32⟩
  | .hbm, ⟨58, _⟩ => ⟨S8x4096x4096, .f32⟩
  | .hbm, ⟨59, _⟩ => ⟨S8x4096x128, .f32⟩
  | .hbm, ⟨60, _⟩ => ⟨S8x4096x128, .f32⟩
  | .hbm, ⟨61, _⟩ => ⟨S_, .f32⟩
  | .hbm, ⟨62, _⟩ => ⟨S8x4096, .f32⟩
  | .hbm, ⟨63, _⟩ => ⟨S8x4096x1, .f32⟩
  | .hbm, ⟨64, _⟩ => ⟨S8x4096x192, .f32⟩
  | .hbm, ⟨65, _⟩ => ⟨S8x4096x192, .f32⟩
  | .hbm, ⟨66, _⟩ => ⟨S8x4096x128, .f32⟩
  | .local _ .vmem, ⟨0, _⟩ => ⟨S1x2048x192, .bf16⟩
  | .local _ .vmem, ⟨1, _⟩ => ⟨S1x2048x192, .bf16⟩
  | .local _ .vmem, ⟨2, _⟩ => ⟨S1x2048x192, .bf16⟩
  | .local _ .vmem, ⟨3, _⟩ => ⟨S1x2048x192, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x1, .f32⟩
  | .local _ .vmem, ⟨9, _⟩ => ⟨S1x2048x1, .f32⟩
  | .local _ .vmem, ⟨10, _⟩ => ⟨S1x2048x1, .f32⟩
  | .local _ .vmem, ⟨11, _⟩ => ⟨S1x2048x1, .f32⟩
  | .local _ .vmem, ⟨12, _⟩ => ⟨S1x4096x192, .f32⟩
  | .local _ .vmem, ⟨13, _⟩ => ⟨S1x4096x192, .f32⟩
  | .local _ .vmem, ⟨14, _⟩ => ⟨S1x2048x192, .f32⟩
  | .local _ .vmem, ⟨15, _⟩ => ⟨S1x2048x192, .f32⟩
  | .local _ .vmem, ⟨16, _⟩ => ⟨S1x2048x128, .f32⟩
  | .local _ .vmem, ⟨17, _⟩ => ⟨S1x2048x128, .f32⟩
  | .local _ .vmem, ⟨18, _⟩ => ⟨S2048x192, .f32⟩
  | .local _ .vmem, ⟨19, _⟩ => ⟨S2048x128, .f32⟩
  | .local _ .smem, ⟨0, _⟩ => ⟨S3, .i32⟩
  | .local _ .smem, ⟨1, _⟩ => ⟨S3, .i32⟩
  | _, _ => ⟨S8x4096x192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_v46_2 : Ref sig .tc := ⟨.hbm, 66, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 3], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (v1 : BitVec 32) : BitVec 32 :=
  let c2048_i32 : BitVec 32 := 2048#32
  let v102 : BitVec 32 := Scalar.muli v1 c2048_i32
  let c0_i32_43 : BitVec 32 := 0#32
  let v103 : BitVec 32 := Scalar.addi v102 c0_i32_43
  v103
def k0_cond2 (v1 : BitVec 32) (v3 : BitVec 32) : BitVec 1 :=
  let v7 : BitVec 1 := Scalar.cmpi .eq v1 v3
  let v8 : BitVec 32 := Scalar.extui v7
  let c0_i32_1 : BitVec 32 := 0#32
  let v9 : BitVec 1 := Scalar.cmpi .ne v8 c0_i32_1
  v9

def k0_off2 (v1 : BitVec 32) (c0_i32_43 : BitVec 32) : Fin 3 → Nat :=
  let c0_44 : Index := 0#32
  let c2048_i32 : BitVec 32 := 2048#32
  let v102 : BitVec 32 := Scalar.muli v1 c2048_i32
  let v103 : BitVec 32 := Scalar.addi v102 c0_i32_43
  let v104 : BitVec 32 := v103
  let v105 : Index := Scalar.indexCast v104
  let c0_45 : Index := 0#32
  ![0, v105.toNat, 0]
def k0_mult2 (v1 : BitVec 32) : BitVec 32 :=
  let c2048_i32_85 : BitVec 32 := 2048#32
  let v154 : BitVec 32 := Scalar.muli v1 c2048_i32_85
  let c256_i32_86 : BitVec 32 := 256#32
  let v155 : BitVec 32 := Scalar.addi v154 c256_i32_86
  v155
def k0_mult3 (v1 : BitVec 32) : BitVec 32 :=
  let c2048_i32_128 : BitVec 32 := 2048#32
  let v206 : BitVec 32 := Scalar.muli v1 c2048_i32_128
  let c512_i32_129 : BitVec 32 := 512#32
  let v207 : BitVec 32 := Scalar.addi v206 c512_i32_129
  v207
def k0_mult4 (v1 : BitVec 32) : BitVec 32 :=
  let c2048_i32_171 : BitVec 32 := 2048#32
  let v258 : BitVec 32 := Scalar.muli v1 c2048_i32_171
  let c768_i32_172 : BitVec 32 := 768#32
  let v259 : BitVec 32 := Scalar.addi v258 c768_i32_172
  v259
def k0_mult5 (v1 : BitVec 32) : BitVec 32 :=
  let c2048_i32_214 : BitVec 32 := 2048#32
  let v310 : BitVec 32 := Scalar.muli v1 c2048_i32_214
  let c1024_i32_215 : BitVec 32 := 1024#32
  let v311 : BitVec 32 := Scalar.addi v310 c1024_i32_215
  v311
def k0_mult6 (v1 : BitVec 32) : BitVec 32 :=
  let c2048_i32_257 : BitVec 32 := 2048#32
  let v362 : BitVec 32 := Scalar.muli v1 c2048_i32_257
  let c1280_i32_258 : BitVec 32 := 1280#32
  let v363 : BitVec 32 := Scalar.addi v362 c1280_i32_258
  v363
def k0_mult7 (v1 : BitVec 32) : BitVec 32 :=
  let c2048_i32_300 : BitVec 32 := 2048#32
  let v414 : BitVec 32 := Scalar.muli v1 c2048_i32_300
  let c1536_i32_301 : BitVec 32 := 1536#32
  let v415 : BitVec 32 := Scalar.addi v414 c1536_i32_301
  v415
def k0_mult8 (v1 : BitVec 32) : BitVec 32 :=
  let c2048_i32_343 : BitVec 32 := 2048#32
  let v466 : BitVec 32 := Scalar.muli v1 c2048_i32_343
  let c1792_i32_344 : BitVec 32 := 1792#32
  let v467 : BitVec 32 := Scalar.addi v466 c1792_i32_344
  v467
def k0_mult9 (v1 : BitVec 32) : BitVec 32 :=
  let c2048_i32 : BitVec 32 := 2048#32
  let v52 : BitVec 32 := Scalar.muli v1 c2048_i32
  let c0_i32_35 : BitVec 32 := 0#32
  let v53 : BitVec 32 := Scalar.addi v52 c0_i32_35
  v53
def k0_cond3 (v1 : BitVec 32) (v3 : BitVec 32) : BitVec 1 :=
  let v10 : BitVec 1 := Scalar.cmpi .sgt v1 v3
  let v11 : BitVec 32 := Scalar.extui v10
  let c0_i32_2 : BitVec 32 := 0#32
  let v12 : BitVec 1 := Scalar.cmpi .ne v11 c0_i32_2
  v12

def k0_off3 (v1 : BitVec 32) (c0_i32_35 : BitVec 32) : Fin 3 → Nat :=
  let c0_36 : Index := 0#32
  let c2048_i32 : BitVec 32 := 2048#32
  let v52 : BitVec 32 := Scalar.muli v1 c2048_i32
  let v53 : BitVec 32 := Scalar.addi v52 c0_i32_35
  let v54 : BitVec 32 := v53
  let v55 : Index := Scalar.indexCast v54
  let c0_37 : Index := 0#32
  ![0, v55.toNat, 0]
def k0_mult10 (v1 : BitVec 32) : BitVec 32 :=
  let c2048_i32_76 : BitVec 32 := 2048#32
  let v102 : BitVec 32 := Scalar.muli v1 c2048_i32_76
  let c256_i32 : BitVec 32 := 256#32
  let v103 : BitVec 32 := Scalar.addi v102 c256_i32
  v103
def k0_mult11 (v1 : BitVec 32) : BitVec 32 :=
  let c2048_i32_117 : BitVec 32 := 2048#32
  let v152 : BitVec 32 := Scalar.muli v1 c2048_i32_117
  let c512_i32 : BitVec 32 := 512#32
  let v153 : BitVec 32 := Scalar.addi v152 c512_i32
  v153
def k0_mult12 (v1 : BitVec 32) : BitVec 32 :=
  let c2048_i32_158 : BitVec 32 := 2048#32
  let v202 : BitVec 32 := Scalar.muli v1 c2048_i32_158
  let c768_i32 : BitVec 32 := 768#32
  let v203 : BitVec 32 := Scalar.addi v202 c768_i32
  v203
def k0_mult13 (v1 : BitVec 32) : BitVec 32 :=
  let c2048_i32_199 : BitVec 32 := 2048#32
  let v252 : BitVec 32 := Scalar.muli v1 c2048_i32_199
  let c1024_i32 : BitVec 32 := 1024#32
  let v253 : BitVec 32 := Scalar.addi v252 c1024_i32
  v253
def k0_mult14 (v1 : BitVec 32) : BitVec 32 :=
  let c2048_i32_240 : BitVec 32 := 2048#32
  let v302 : BitVec 32 := Scalar.muli v1 c2048_i32_240
  let c1280_i32 : BitVec 32 := 1280#32
  let v303 : BitVec 32 := Scalar.addi v302 c1280_i32
  v303
def k0_mult15 (v1 : BitVec 32) : BitVec 32 :=
  let c2048_i32_281 : BitVec 32 := 2048#32
  let v352 : BitVec 32 := Scalar.muli v1 c2048_i32_281
  let c1536_i32 : BitVec 32 := 1536#32
  let v353 : BitVec 32 := Scalar.addi v352 c1536_i32
  v353
def k0_mult16 (v1 : BitVec 32) : BitVec 32 :=
  let c2048_i32_322 : BitVec 32 := 2048#32
  let v402 : BitVec 32 := Scalar.muli v1 c2048_i32_322
  let c1792_i32 : BitVec 32 := 1792#32
  let v403 : BitVec 32 := Scalar.addi v402 c1792_i32
  v403

def k0_chk1 (v1 : BitVec 32) (v3 : BitVec 32) : Prop :=
  (∀ (k0_h2 : k0_cond2 v1 v3 = 1#1), 256 ∣ (k0_mult1 v1).toNat) ∧
  (∀ (k0_h2 : k0_cond2 v1 v3 = 1#1), ∀ (r : Fin 8), ∀ a, (k0_off2 v1 (BitVec.ofNat 32 (256 * r.val))) a + S1x256x192.size a ≤ S1x4096x192.size a) ∧
  (∀ (k0_h2 : k0_cond2 v1 v3 = 1#1), 256 ∣ (k0_mult2 v1).toNat) ∧
  (∀ (k0_h2 : k0_cond2 v1 v3 = 1#1), 256 ∣ (k0_mult3 v1).toNat) ∧
  (∀ (k0_h2 : k0_cond2 v1 v3 = 1#1), 256 ∣ (k0_mult4 v1).toNat) ∧
  (∀ (k0_h2 : k0_cond2 v1 v3 = 1#1), 256 ∣ (k0_mult5 v1).toNat) ∧
  (∀ (k0_h2 : k0_cond2 v1 v3 = 1#1), 256 ∣ (k0_mult6 v1).toNat) ∧
  (∀ (k0_h2 : k0_cond2 v1 v3 = 1#1), 256 ∣ (k0_mult7 v1).toNat) ∧
  (∀ (k0_h2 : k0_cond2 v1 v3 = 1#1), 256 ∣ (k0_mult8 v1).toNat) ∧
  (∀ (k0_h3 : k0_cond3 v1 v3 = 1#1), 256 ∣ (k0_mult9 v1).toNat) ∧
  (∀ (k0_h3 : k0_cond3 v1 v3 = 1#1), ∀ (r : Fin 8), ∀ a, (k0_off3 v1 (BitVec.ofNat 32 (256 * r.val))) a + S1x256x192.size a ≤ S1x4096x192.size a) ∧
  (∀ (k0_h3 : k0_cond3 v1 v3 = 1#1), 256 ∣ (k0_mult10 v1).toNat) ∧
  (∀ (k0_h3 : k0_cond3 v1 v3 = 1#1), 256 ∣ (k0_mult11 v1).toNat) ∧
  (∀ (k0_h3 : k0_cond3 v1 v3 = 1#1), 256 ∣ (k0_mult12 v1).toNat) ∧
  (∀ (k0_h3 : k0_cond3 v1 v3 = 1#1), 256 ∣ (k0_mult13 v1).toNat) ∧
  (∀ (k0_h3 : k0_cond3 v1 v3 = 1#1), 256 ∣ (k0_mult14 v1).toNat) ∧
  (∀ (k0_h3 : k0_cond3 v1 v3 = 1#1), 256 ∣ (k0_mult15 v1).toNat) ∧
  (∀ (k0_h3 : k0_cond3 v1 v3 = 1#1), 256 ∣ (k0_mult16 v1).toNat)
theorem k0_mult1_dvd : ∀ (v1 : BitVec 32) (v3 : BitVec 32) (k0_hw1 : k0_chk1 v1 v3), ∀ (k0_h2 : k0_cond2 v1 v3 = 1#1), 256 ∣ (k0_mult1 v1).toNat := fun v1 v3 k0_hw1 k0_h2 => k0_hw1.1 k0_h2
theorem k0_off2_inb : ∀ (v1 : BitVec 32) (v3 : BitVec 32) (k0_hw1 : k0_chk1 v1 v3), ∀ (k0_h2 : k0_cond2 v1 v3 = 1#1), ∀ (r : Fin 8), ∀ a, (k0_off2 v1 (BitVec.ofNat 32 (256 * r.val))) a + S1x256x192.size a ≤ S1x4096x192.size a := fun v1 v3 k0_hw1 k0_h2 r => k0_hw1.2.1 k0_h2 r
theorem k0_mult2_dvd : ∀ (v1 : BitVec 32) (v3 : BitVec 32) (k0_hw1 : k0_chk1 v1 v3), ∀ (k0_h2 : k0_cond2 v1 v3 = 1#1), 256 ∣ (k0_mult2 v1).toNat := fun v1 v3 k0_hw1 k0_h2 => k0_hw1.2.2.1 k0_h2
theorem k0_mult3_dvd : ∀ (v1 : BitVec 32) (v3 : BitVec 32) (k0_hw1 : k0_chk1 v1 v3), ∀ (k0_h2 : k0_cond2 v1 v3 = 1#1), 256 ∣ (k0_mult3 v1).toNat := fun v1 v3 k0_hw1 k0_h2 => k0_hw1.2.2.2.1 k0_h2
theorem k0_mult4_dvd : ∀ (v1 : BitVec 32) (v3 : BitVec 32) (k0_hw1 : k0_chk1 v1 v3), ∀ (k0_h2 : k0_cond2 v1 v3 = 1#1), 256 ∣ (k0_mult4 v1).toNat := fun v1 v3 k0_hw1 k0_h2 => k0_hw1.2.2.2.2.1 k0_h2
theorem k0_mult5_dvd : ∀ (v1 : BitVec 32) (v3 : BitVec 32) (k0_hw1 : k0_chk1 v1 v3), ∀ (k0_h2 : k0_cond2 v1 v3 = 1#1), 256 ∣ (k0_mult5 v1).toNat := fun v1 v3 k0_hw1 k0_h2 => k0_hw1.2.2.2.2.2.1 k0_h2
theorem k0_mult6_dvd : ∀ (v1 : BitVec 32) (v3 : BitVec 32) (k0_hw1 : k0_chk1 v1 v3), ∀ (k0_h2 : k0_cond2 v1 v3 = 1#1), 256 ∣ (k0_mult6 v1).toNat := fun v1 v3 k0_hw1 k0_h2 => k0_hw1.2.2.2.2.2.2.1 k0_h2
theorem k0_mult7_dvd : ∀ (v1 : BitVec 32) (v3 : BitVec 32) (k0_hw1 : k0_chk1 v1 v3), ∀ (k0_h2 : k0_cond2 v1 v3 = 1#1), 256 ∣ (k0_mult7 v1).toNat := fun v1 v3 k0_hw1 k0_h2 => k0_hw1.2.2.2.2.2.2.2.1 k0_h2
theorem k0_mult8_dvd : ∀ (v1 : BitVec 32) (v3 : BitVec 32) (k0_hw1 : k0_chk1 v1 v3), ∀ (k0_h2 : k0_cond2 v1 v3 = 1#1), 256 ∣ (k0_mult8 v1).toNat := fun v1 v3 k0_hw1 k0_h2 => k0_hw1.2.2.2.2.2.2.2.2.1 k0_h2
theorem k0_mult9_dvd : ∀ (v1 : BitVec 32) (v3 : BitVec 32) (k0_hw1 : k0_chk1 v1 v3), ∀ (k0_h3 : k0_cond3 v1 v3 = 1#1), 256 ∣ (k0_mult9 v1).toNat := fun v1 v3 k0_hw1 k0_h3 => k0_hw1.2.2.2.2.2.2.2.2.2.1 k0_h3
theorem k0_off3_inb : ∀ (v1 : BitVec 32) (v3 : BitVec 32) (k0_hw1 : k0_chk1 v1 v3), ∀ (k0_h3 : k0_cond3 v1 v3 = 1#1), ∀ (r : Fin 8), ∀ a, (k0_off3 v1 (BitVec.ofNat 32 (256 * r.val))) a + S1x256x192.size a ≤ S1x4096x192.size a := fun v1 v3 k0_hw1 k0_h3 r => k0_hw1.2.2.2.2.2.2.2.2.2.2.1 k0_h3 r
theorem k0_mult10_dvd : ∀ (v1 : BitVec 32) (v3 : BitVec 32) (k0_hw1 : k0_chk1 v1 v3), ∀ (k0_h3 : k0_cond3 v1 v3 = 1#1), 256 ∣ (k0_mult10 v1).toNat := fun v1 v3 k0_hw1 k0_h3 => k0_hw1.2.2.2.2.2.2.2.2.2.2.2.1 k0_h3
theorem k0_mult11_dvd : ∀ (v1 : BitVec 32) (v3 : BitVec 32) (k0_hw1 : k0_chk1 v1 v3), ∀ (k0_h3 : k0_cond3 v1 v3 = 1#1), 256 ∣ (k0_mult11 v1).toNat := fun v1 v3 k0_hw1 k0_h3 => k0_hw1.2.2.2.2.2.2.2.2.2.2.2.2.1 k0_h3
theorem k0_mult12_dvd : ∀ (v1 : BitVec 32) (v3 : BitVec 32) (k0_hw1 : k0_chk1 v1 v3), ∀ (k0_h3 : k0_cond3 v1 v3 = 1#1), 256 ∣ (k0_mult12 v1).toNat := fun v1 v3 k0_hw1 k0_h3 => k0_hw1.2.2.2.2.2.2.2.2.2.2.2.2.2.1 k0_h3
theorem k0_mult13_dvd : ∀ (v1 : BitVec 32) (v3 : BitVec 32) (k0_hw1 : k0_chk1 v1 v3), ∀ (k0_h3 : k0_cond3 v1 v3 = 1#1), 256 ∣ (k0_mult13 v1).toNat := fun v1 v3 k0_hw1 k0_h3 => k0_hw1.2.2.2.2.2.2.2.2.2.2.2.2.2.2.1 k0_h3
theorem k0_mult14_dvd : ∀ (v1 : BitVec 32) (v3 : BitVec 32) (k0_hw1 : k0_chk1 v1 v3), ∀ (k0_h3 : k0_cond3 v1 v3 = 1#1), 256 ∣ (k0_mult14 v1).toNat := fun v1 v3 k0_hw1 k0_h3 => k0_hw1.2.2.2.2.2.2.2.2.2.2.2.2.2.2.2.1 k0_h3
theorem k0_mult15_dvd : ∀ (v1 : BitVec 32) (v3 : BitVec 32) (k0_hw1 : k0_chk1 v1 v3), ∀ (k0_h3 : k0_cond3 v1 v3 = 1#1), 256 ∣ (k0_mult15 v1).toNat := fun v1 v3 k0_hw1 k0_h3 => k0_hw1.2.2.2.2.2.2.2.2.2.2.2.2.2.2.2.2.1 k0_h3
theorem k0_mult16_dvd : ∀ (v1 : BitVec 32) (v3 : BitVec 32) (k0_hw1 : k0_chk1 v1 v3), ∀ (k0_h3 : k0_cond3 v1 v3 = 1#1), 256 ∣ (k0_mult16 v1).toNat := fun v1 v3 k0_hw1 k0_h3 => k0_hw1.2.2.2.2.2.2.2.2.2.2.2.2.2.2.2.2.2 k0_h3

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_0 : BitVec 32 := 0#32
  let v6 : BitVec 1 := Scalar.cmpi .ne v5 c0_i32_0
  v6

def k0_cond4 (v1 : BitVec 32) : BitVec 1 :=
  let c1_i32 : BitVec 32 := 1#32
  let v13 : BitVec 1 := Scalar.cmpi .eq v1 c1_i32
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_2 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_3 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_4 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

def cc0_transform_8 (k0_off1_inb : ∀ i : grid0.Coords, ∀ a, (k0_off1 i) a + S1.size a ≤ S3.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S3) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x2048x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4096x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S8x4096x192 : Shape := ⟨3, ![8, 4096, 192]⟩
abbrev S8x4096x128 : Shape := ⟨3, ![8, 4096, 128]⟩
abbrev S8x4096x4096 : Shape := ⟨3, ![8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x4096 : Shape := ⟨2, ![8, 4096]⟩
abbrev S8x4096x1 : Shape := ⟨3, ![8, 4096, 1]⟩
abbrev S8x128x4096 : Shape := ⟨3, ![8, 128, 4096]⟩

abbrev nBuf : Space → Nat
  | .hbm => 84
  | .vmem => 0
  | .smem => 0
  | _ => 0

abbrev bufTy : (tb : Table) → Fin (tcTables nBuf tb) → BufTy
  | .hbm, ⟨0, _⟩ => ⟨S8x4096x192, .bf16⟩
  | .hbm, ⟨1, _⟩ => ⟨S8x4096x192, .bf16⟩
  | .hbm, ⟨2, _⟩ => ⟨S8x4096x128, .bf16⟩
  | .hbm, ⟨3, _⟩ => ⟨S8x4096x128, .bf16⟩
  | .hbm, ⟨4, _⟩ => ⟨S8x4096x192, .f32⟩
  | .hbm, ⟨5, _⟩ => ⟨S8x4096x192, .f32⟩
  | .hbm, ⟨6, _⟩ => ⟨S8x4096x128, .f32⟩
  | .hbm, ⟨7, _⟩ => ⟨S8x4096x4096, .f32⟩
  | .hbm, ⟨8, _⟩ => ⟨S4096, .i32⟩
  | .hbm, ⟨9, _⟩ => ⟨S1x4096, .i32⟩
  | .hbm, ⟨10, _⟩ => ⟨S4096, .i32⟩
  | .hbm, ⟨11, _⟩ => ⟨S4096x1, .i32⟩
  | .hbm, ⟨12, _⟩ => ⟨S4096x4096, .i32⟩
  | .hbm, ⟨13, _⟩ => ⟨S4096x4096, .i32⟩
  | .hbm, ⟨14, _⟩ => ⟨S4096x4096, .i1⟩
  | .hbm, ⟨15, _⟩ => ⟨S_, .f32⟩
  | .hbm, ⟨16, _⟩ => ⟨S_, .f32⟩
  | .hbm, ⟨17, _⟩ => ⟨S8x4096x4096, .i1⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .i1⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S_, .f32⟩
  | .hbm, ⟨34, _⟩ => ⟨S8x4096, .f32⟩
  | .hbm, ⟨35, _⟩ => ⟨S8x4096, .i1⟩
  | .hbm, ⟨36, _⟩ => ⟨S_, .f32⟩
  | .hbm, ⟨37, _⟩ => ⟨S8x4096, .f32⟩
  | .hbm, ⟨38, _⟩ => ⟨S8x4096, .i1⟩
  | .hbm, ⟨39, _⟩ => ⟨S_, .f32⟩
  | .hbm, ⟨40, _⟩ => ⟨S8x4096, .f32⟩
  | .hbm, ⟨41, _⟩ => ⟨S_, .f32⟩
  | .hbm, ⟨42, _⟩ => ⟨S8x4096, .f32⟩
  | .hbm, ⟨43, _⟩ => ⟨S_, .f32⟩
  | .hbm, ⟨44, _⟩ => ⟨S8x4096, .f32⟩
  | .hbm, ⟨45, _⟩ => ⟨S8x4096, .f32⟩
  | .hbm, ⟨46, _⟩ => ⟨S8x4096, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S8x4096x4096, .f32⟩
  | .hbm, ⟨51, _⟩ => ⟨S_, .f32⟩
  | .hbm, ⟨52, _⟩ => ⟨S8x4096, .f32⟩
  | .hbm, ⟨53, _⟩ => ⟨S8x4096x1, .f32⟩
  | .hbm, ⟨54, _⟩ => ⟨S8x4096x4096, .f32⟩
  | .hbm, ⟨55, _⟩ => ⟨S8x4096x4096, .f32⟩
  | .hbm, ⟨56, _⟩ => ⟨S8x4096x1, .f32⟩
  | .hbm, ⟨57, _⟩ => ⟨S_, .f32⟩
  | .hbm, ⟨58, _⟩ => ⟨S8x4096x1, .f32⟩
  | .hbm, ⟨59, _⟩ => ⟨S8x4096x1, .f32⟩
  | .hbm, ⟨60, _⟩ => ⟨S8x4096x128, .f32⟩
  | .hbm, ⟨61, _⟩ => ⟨S8x4096x128, .f32⟩
  | .hbm, ⟨62, _⟩ => ⟨S8x128x4096, .f32⟩
  | .hbm, ⟨63, _⟩ => ⟨S8x4096x128, .f32⟩
  | .hbm, ⟨64, _⟩ => ⟨S8x4096x4096, .f32⟩
  | .hbm, ⟨65, _⟩ => ⟨S8x4096x4096, .f32⟩
  | .hbm, ⟨66, _⟩ => ⟨S8x4096x4096, .f32⟩
  | .hbm, ⟨67, _⟩ => ⟨S8x4096x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x1, .f32⟩
  | .hbm, ⟨72, _⟩ => ⟨S8x4096x4096, .f32⟩
  | .hbm, ⟨73, _⟩ => ⟨S8x4096x4096, .f32⟩
  | .hbm, ⟨74, _⟩ => ⟨S_, .f32⟩
  | .hbm, ⟨75, _⟩ => ⟨S8x4096, .f32⟩
  | .hbm, ⟨76, _⟩ => ⟨S8x4096x4096, .f32⟩
  | .hbm, ⟨77, _⟩ => ⟨S8x4096x4096, .f32⟩
  | .hbm, ⟨78, _⟩ => ⟨S8x4096x4096, .f32⟩
  | .hbm, ⟨79, _⟩ => ⟨S_, .f32⟩
  | .hbm, ⟨80, _⟩ => ⟨S8x4096x4096, .f32⟩
  | .hbm, ⟨81, _⟩ => ⟨S8x4096x4096, .f32⟩
  | .hbm, ⟨82, _⟩ => ⟨S8x4096x192, .f32⟩
  | .hbm, ⟨83, _⟩ => ⟨S8x4096x192, .f32⟩
  | _, _ => ⟨S8x4096x192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_call0_v0 : Ref sig .tc := ⟨.hbm, 16, rfl⟩
abbrev main_v11_1 : Ref sig .tc := ⟨.hbm, 17, rfl⟩
abbrev main_call0_v2 : Ref sig .tc := ⟨.hbm, 18, rfl⟩
abbrev main_v11_0 : Ref sig .tc := ⟨.hbm, 19, rfl⟩
abbrev main_call0_cst : Ref sig .tc := ⟨.hbm, 20, rfl⟩
abbrev main_v11_2 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_call1_cst : Ref sig .tc := ⟨.hbm, 79, rfl⟩
abbrev main_call1_v0 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩

abbrev nD : Nat := 1
abbrev τ : Topo := Topo.v7x

variable {F : FTy → Type} [FloatOps F]
-- ==== Kernel2.lean ====
abbrev S8x4096x704 : Shape := ⟨3, ![8, 4096, 704]⟩
abbrev S4096x2048 : Shape := ⟨2, ![4096, 2048]⟩
abbrev S8x704x2048 : Shape := ⟨3, ![8, 704, 2048]⟩
abbrev S1x4096x704 : Shape := ⟨3, ![1, 4096, 704]⟩
abbrev S4096x1024 : Shape := ⟨2, ![4096, 1024]⟩
abbrev S1x704x1024 : Shape := ⟨3, ![1, 704, 1024]⟩
abbrev S4096x704 : Shape := ⟨2, ![4096, 704]⟩
abbrev S704x1024 : Shape := ⟨2, ![704, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S8x704x2048, .bf16⟩
  | .local _ .vmem, ⟨0, _⟩ => ⟨S1x4096x704, .bf16⟩
  | .local _ .vmem, ⟨1, _⟩ => ⟨S1x4096x704, .bf16⟩
  | .local _ .vmem, ⟨2, _⟩ => ⟨S4096x1024, .bf16⟩
  | .local _ .vmem, ⟨3, _⟩ => ⟨S4096x1024, .bf16⟩
  | .local _ .vmem, ⟨4, _⟩ => ⟨S1x704x1024, .bf16⟩
  | .local _ .vmem, ⟨5, _⟩ => ⟨S1x704x1024, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![8, 1, 2, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg1 c0_i32
  let c0_i32_0 : BitVec 32 := 0#32
  ![arg0.toNat, arg4.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg2 c0_i32
  let c0_i32_0 : BitVec 32 := 0#32
  ![arg4.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg0.toNat, arg1.toNat, arg2.toNat]

abbrev stage0_0 : Fin 2 → Memref sig .tc .vmem S1x4096x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== Reference2Ideal.lean ====
abbrev S8x4096x704 : Shape := ⟨3, ![8, 4096, 704]⟩
abbrev S4096x2048 : Shape := ⟨2, ![4096, 2048]⟩
abbrev S_ : Shape := ⟨0, ![]⟩
abbrev S5632x2048 : Shape := ⟨2, ![5632, 2048]⟩
abbrev S4096x8x704 : Shape := ⟨3, ![4096, 8, 704]⟩
abbrev S4096x5632 : Shape := ⟨2, ![4096, 5632]⟩
abbrev S2048x5632 : Shape := ⟨2, ![2048, 5632]⟩
abbrev S8x704x2048 : Shape := ⟨3, ![8, 704, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S8x4096x704, .f32⟩
  | .hbm, ⟨5, _⟩ => ⟨S4096x8x704, .f32⟩
  | .hbm, ⟨6, _⟩ => ⟨S4096x5632, .f32⟩
  | .hbm, ⟨7, _⟩ => ⟨S4096x2048, .f32⟩
  | .hbm, ⟨8, _⟩ => ⟨S4096x2048, .f32⟩
  | .hbm, ⟨9, _⟩ => ⟨S2048x5632, .f32⟩
  | .hbm, ⟨10, _⟩ => ⟨S5632x2048, .f32⟩
  | .hbm, ⟨11, _⟩ => ⟨S8x704x2048, .f32⟩
  | .hbm, ⟨12, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Reference3Ideal.lean ====
abbrev S8x4096x704 : Shape := ⟨3, ![8, 4096, 704]⟩
abbrev S4096x2048 : Shape := ⟨2, ![4096, 2048]⟩
abbrev S_ : Shape := ⟨0, ![]⟩
abbrev S2048x5632 : Shape := ⟨2, ![2048, 5632]⟩
abbrev S4096x5632 : Shape := ⟨2, ![4096, 5632]⟩
abbrev S4096x8x704 : Shape := ⟨3, ![4096, 8, 704]⟩
abbrev S5632x2048 : Shape := ⟨2, ![5632, 2048]⟩
abbrev S8x704x2048 : Shape := ⟨3, ![8, 704, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S8x4096x704, .f32⟩
  | .hbm, ⟨7, _⟩ => ⟨S4096x8x704, .f32⟩
  | .hbm, ⟨8, _⟩ => ⟨S4096x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S8x704x2048, .f32⟩
  | .hbm, ⟨13, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S8x4096x704 : Shape := ⟨3, ![8, 4096, 704]⟩
abbrev S8x704x2048 : Shape := ⟨3, ![8, 704, 2048]⟩
abbrev S4096x2048 : Shape := ⟨2, ![4096, 2048]⟩
abbrev S1x1024x704 : Shape := ⟨3, ![1, 1024, 704]⟩
abbrev S1x704x1024 : Shape := ⟨3, ![1, 704, 1024]⟩
abbrev S1024x1024 : Shape := ⟨2, ![1024, 1024]⟩
abbrev S1x256x704 : Shape := ⟨3, ![1, 256, 704]⟩
abbrev S256x704 : Shape := ⟨2, ![256, 704]⟩
abbrev S704x1024 : Shape := ⟨2, ![704, 1024]⟩
abbrev S256x1024 : Shape := ⟨2, ![256, 1024]⟩

abbrev nBuf : Space → Nat
  | .hbm => 5
  | .vmem => 19
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S8x4096x704, .bf16⟩
  | .hbm, ⟨3, _⟩ => ⟨S8x704x2048, .bf16⟩
  | .hbm, ⟨4, _⟩ => ⟨S4096x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x704x1024, .bf16⟩
  | .local _ .vmem, ⟨11, _⟩ => ⟨S1x704x1024, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x704x1024, .bf16⟩
  | .local _ .vmem, ⟨15, _⟩ => ⟨S1x704x1024, .bf16⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v115 : BitVec 1 := Scalar.cmpi .eq arg2 c3_i32
  let v116 : BitVec 32 := Scalar.extui v115
  let c0_i32_124 : BitVec 32 := 0#32
  let v117 : BitVec 1 := Scalar.cmpi .ne v116 c0_i32_124
  v117

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c0_i32_0 : BitVec 32 := 0#32
  let c0_i32_1 : BitVec 32 := 0#32
  ![v1.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c0_i32 : BitVec 32 := 0#32
  let c0_i32_0 : BitVec 32 := 0#32
  ![v1.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c0_i32 : BitVec 32 := 0#32
  let c0_i32_0 : BitVec 32 := 0#32
  ![v1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.addi v0 c1_i32
  let c0_i32 : BitVec 32 := 0#32
  let c0_i32_0 : BitVec 32 := 0#32
  ![v1.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference4Ideal.lean ====
abbrev S8x4096x704 : Shape := ⟨3, ![8, 4096, 704]⟩
abbrev S8x704x2048 : Shape := ⟨3, ![8, 704, 2048]⟩
abbrev S5632x2048 : Shape := ⟨2, ![5632, 2048]⟩
abbrev S2048x5632 : Shape := ⟨2, ![2048, 5632]⟩
abbrev S_ : Shape := ⟨0, ![]⟩
abbrev S4096x2048 : Shape := ⟨2, ![4096, 2048]⟩
abbrev S4096x5632 : Shape := ⟨2, ![4096, 5632]⟩
abbrev S4096x8x704 : Shape := ⟨3, ![4096, 8, 704]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S8x4096x704, .bf16⟩
  | .hbm, ⟨3, _⟩ => ⟨S8x704x2048, .bf16⟩
  | .hbm, ⟨4, _⟩ => ⟨S8x704x2048, .f32⟩
  | .hbm, ⟨5, _⟩ => ⟨S5632x2048, .f32⟩
  | .hbm, ⟨6, _⟩ => ⟨S2048x5632, .f32⟩
  | .hbm, ⟨7, _⟩ => ⟨S8x704x2048, .f32⟩
  | .hbm, ⟨8, _⟩ => ⟨S5632x2048, .f32⟩
  | .hbm, ⟨9, _⟩ => ⟨S2048x5632, .f32⟩
  | .hbm, ⟨10, _⟩ => ⟨S_, .f32⟩
  | .hbm, ⟨11, _⟩ => ⟨S4096x2048, .f32⟩
  | .hbm, ⟨12, _⟩ => ⟨S4096x5632, .f32⟩
  | .hbm, ⟨13, _⟩ => ⟨S4096x5632, .f32⟩
  | .hbm, ⟨14, _⟩ => ⟨S8x4096x704, .f32⟩
  | .hbm, ⟨15, _⟩ => ⟨S4096x8x704, .f32⟩
  | .hbm, ⟨16, _⟩ => ⟨S4096x5632, .f32⟩
  | .hbm, ⟨17, _⟩ => ⟨S8x4096x704, .f32⟩
  | .hbm, ⟨18, _⟩ => ⟨S4096x8x704, .f32⟩
  | .hbm, ⟨19, _⟩ => ⟨S4096x5632, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel5.lean ====
abbrev S4096x2048 : Shape := ⟨2, ![4096, 2048]⟩
abbrev S8x704x2048 : Shape := ⟨3, ![8, 704, 2048]⟩
abbrev S8x4096x704 : Shape := ⟨3, ![8, 4096, 704]⟩
abbrev S2048x2048 : Shape := ⟨2, ![2048, 2048]⟩
abbrev S1x704x2048 : Shape := ⟨3, ![1, 704, 2048]⟩
abbrev S1x2048x704 : Shape := ⟨3, ![1, 2048, 704]⟩
abbrev S512x2048 : Shape := ⟨2, ![512, 2048]⟩
abbrev S704x2048 : Shape := ⟨2, ![704, 2048]⟩
abbrev S512x704 : Shape := ⟨2, ![512, 704]⟩
abbrev S1x512x704 : Shape := ⟨3, ![1, 512, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .bf16⟩
  | .hbm, ⟨3, _⟩ => ⟨S8x4096x704, .bf16⟩
  | .hbm, ⟨4, _⟩ => ⟨S8x4096x704, .bf16⟩
  | .hbm, ⟨5, _⟩ => ⟨S8x4096x704, .bf16⟩
  | .local _ .vmem, ⟨0, _⟩ => ⟨S2048x2048, .bf16⟩
  | .local _ .vmem, ⟨1, _⟩ => ⟨S2048x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S1x2048x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x2048 : Shape := ⟨2, ![4096, 2048]⟩
abbrev S8x704x2048 : Shape := ⟨3, ![8, 704, 2048]⟩
abbrev S8x4096x704 : Shape := ⟨3, ![8, 4096, 704]⟩
abbrev S5632x2048 : Shape := ⟨2, ![5632, 2048]⟩
abbrev S_ : Shape := ⟨0, ![]⟩
abbrev S4096x5632 : Shape := ⟨2, ![4096, 5632]⟩
abbrev S4096x8x704 : Shape := ⟨3, ![4096, 8, 704]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .bf16⟩
  | .hbm, ⟨3, _⟩ => ⟨S8x4096x704, .bf16⟩
  | .hbm, ⟨4, _⟩ => ⟨S8x704x2048, .f32⟩
  | .hbm, ⟨5, _⟩ => ⟨S5632x2048, .f32⟩
  | .hbm, ⟨6, _⟩ => ⟨S_, .f32⟩
  | .hbm, ⟨7, _⟩ => ⟨S4096x5632, .f32⟩
  | .hbm, ⟨8, _⟩ => ⟨S8x4096x704, .f32⟩
  | .hbm, ⟨9, _⟩ => ⟨S4096x8x704, .f32⟩
  | .hbm, ⟨10, _⟩ => ⟨S4096x5632, .f32⟩
  | .hbm, ⟨11, _⟩ => ⟨S4096x5632, .f32⟩
  | .hbm, ⟨12, _⟩ => ⟨S8x4096x704, .f32⟩
  | .hbm, ⟨13, _⟩ => ⟨S4096x8x704, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x2048, .f32⟩
  | .hbm, ⟨18, _⟩ => ⟨S4096x2048, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x8x704, .f32⟩
  | .hbm, ⟨23, _⟩ => ⟨S8x4096x704, .f32⟩
  | .hbm, ⟨24, _⟩ => ⟨S8x4096x704, .bf16⟩
  | .hbm, ⟨25, _⟩ => ⟨S4096x8x704, .f32⟩
  | .hbm, ⟨26, _⟩ => ⟨S8x4096x704, .f32⟩
  | .hbm, ⟨27, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Kernel6.lean ====
abbrev S8x4096x704 : Shape := ⟨3, ![8, 4096, 704]⟩
abbrev S8x704x2048 : Shape := ⟨3, ![8, 704, 2048]⟩
abbrev S4096x2048 : Shape := ⟨2, ![4096, 2048]⟩
abbrev S1x512x704 : Shape := ⟨3, ![1, 512, 704]⟩
abbrev S1x704x1024 : Shape := ⟨3, ![1, 704, 1024]⟩
abbrev S512x1024 : Shape := ⟨2, ![512, 1024]⟩
abbrev S1x128x704 : Shape := ⟨3, ![1, 128, 704]⟩
abbrev S128x704 : Shape := ⟨2, ![128, 704]⟩
abbrev S704x1024 : Shape := ⟨2, ![704, 1024]⟩
abbrev S128x1024 : Shape := ⟨2, ![128, 1024]⟩

abbrev nBuf : Space → Nat
  | .hbm => 3
  | .vmem => 34
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x512x704, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x512x704, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S1x704x1024, .bf16⟩
  | .local _ .vmem, ⟨17, _⟩ => ⟨S1x704x1024, .bf16⟩
  | .local _ .vmem, ⟨18, _⟩ => ⟨S1x704x1024, .bf16⟩
  | .local _ .vmem, ⟨19, _⟩ => ⟨S1x704x1024, .bf16⟩
  | .local _ .vmem, ⟨20, _⟩ => ⟨S1x704x1024, .bf16⟩
  | .local _ .vmem, ⟨21, _⟩ => ⟨S1x704x1024, .bf16⟩
  | .local _ .vmem, ⟨22, _⟩ => ⟨S1x704x1024, .bf16⟩
  | .local _ .vmem, ⟨23, _⟩ => ⟨S1x704x1024, .bf16⟩
  | .local _ .vmem, ⟨24, _⟩ => ⟨S1x704x1024, .bf16⟩
  | .local _ .vmem, ⟨25, _⟩ => ⟨S1x704x1024, .bf16⟩
  | .local _ .vmem, ⟨26, _⟩ => ⟨S1x704x1024, .bf16⟩
  | .local _ .vmem, ⟨27, _⟩ => ⟨S1x704x1024, .bf16⟩
  | .local _ .vmem, ⟨28, _⟩ => ⟨S1x704x1024, .bf16⟩
  | .local _ .vmem, ⟨29, _⟩ => ⟨S1x704x1024, .bf16⟩
  | .local _ .vmem, ⟨30, _⟩ => ⟨S1x704x1024, .bf16⟩
  | .local _ .vmem, ⟨31, _⟩ => ⟨S1x704x1024, .bf16⟩
  | .local _ .vmem, ⟨32, _⟩ => ⟨S512x1024, .f32⟩
  | .local _ .vmem, ⟨33, _⟩ => ⟨S512x1024, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨5, ![1, 8, 2, 1, 1], ![false, false, false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c0_i32 : BitVec 32 := 0#32
  let v1 : BitVec 32 := Scalar.addi v0 c0_i32
  let c0_i32_0 : BitVec 32 := 0#32
  let v2 : BitVec 32 := Scalar.addi arg4 c0_i32_0
  let c0_i32_1 : BitVec 32 := 0#32
  ![v1.toNat, arg1.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c1_i32 : BitVec 32 := 1#32
  let v1 : BitVec 32 := Scalar.addi v0 c1_i32
  let c0_i32 : BitVec 32 := 0#32
  let v2 : BitVec 32 := Scalar.addi arg4 c0_i32
  let c0_i32_0 : BitVec 32 := 0#32
  ![v1.toNat, arg1.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c2_i32 : BitVec 32 := 2#32
  let v1 : BitVec 32 := Scalar.addi v0 c2_i32
  let c0_i32 : BitVec 32 := 0#32
  let v2 : BitVec 32 := Scalar.addi arg4 c0_i32
  let c0_i32_0 : BitVec 32 := 0#32
  ![v1.toNat, arg1.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c3_i32 : BitVec 32 := 3#32
  let v1 : BitVec 32 := Scalar.addi v0 c3_i32
  let c0_i32 : BitVec 32 := 0#32
  let v2 : BitVec 32 := Scalar.addi arg4 c0_i32
  let c0_i32_0 : BitVec 32 := 0#32
  ![v1.toNat, arg1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c4_i32 : BitVec 32 := 4#32
  let v1 : BitVec 32 := Scalar.addi v0 c4_i32
  let c0_i32 : BitVec 32 := 0#32
  let v2 : BitVec 32 := Scalar.addi arg4 c0_i32
  let c0_i32_0 : BitVec 32 := 0#32
  ![v1.toNat, arg1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c5_i32 : BitVec 32 := 5#32
  let v1 : BitVec 32 := Scalar.addi v0 c5_i32
  let c0_i32 : BitVec 32 := 0#32
  let v2 : BitVec 32 := Scalar.addi arg4 c0_i32
  let c0_i32_0 : BitVec 32 := 0#32
  ![v1.toNat, arg1.toNat, v2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c6_i32 : BitVec 32 := 6#32
  let v1 : BitVec 32 := Scalar.addi v0 c6_i32
  let c0_i32 : BitVec 32 := 0#32
  let v2 : BitVec 32 := Scalar.addi arg4 c0_i32
  let c0_i32_0 : BitVec 32 := 0#32
  ![v1.toNat, arg1.toNat, v2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c7_i32 : BitVec 32 := 7#32
  let v1 : BitVec 32 := Scalar.addi v0 c7_i32
  let c0_i32 : BitVec 32 := 0#32
  let v2 : BitVec 32 := Scalar.addi arg4 c0_i32
  let c0_i32_0 : BitVec 32 := 0#32
  ![v1.toNat, arg1.toNat, v2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c0_i32 : BitVec 32 := 0#32
  let v1 : BitVec 32 := Scalar.addi v0 c0_i32
  let c0_i32_0 : BitVec 32 := 0#32
  let v2 : BitVec 32 := Scalar.addi arg2 c0_i32_0
  let c0_i32_1 : BitVec 32 := 0#32
  ![v1.toNat, arg4.toNat, v2.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c1_i32 : BitVec 32 := 1#32
  let v1 : BitVec 32 := Scalar.addi v0 c1_i32
  let c0_i32 : BitVec 32 := 0#32
  let v2 : BitVec 32 := Scalar.addi arg2 c0_i32
  let c0_i32_0 : BitVec 32 := 0#32
  ![v1.toNat, arg4.toNat, v2.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c2_i32 : BitVec 32 := 2#32
  let v1 : BitVec 32 := Scalar.addi v0 c2_i32
  let c0_i32 : BitVec 32 := 0#32
  let v2 : BitVec 32 := Scalar.addi arg2 c0_i32
  let c0_i32_0 : BitVec 32 := 0#32
  ![v1.toNat, arg4.toNat, v2.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c3_i32 : BitVec 32 := 3#32
  let v1 : BitVec 32 := Scalar.addi v0 c3_i32
  let c0_i32 : BitVec 32 := 0#32
  let v2 : BitVec 32 := Scalar.addi arg2 c0_i32
  let c0_i32_0 : BitVec 32 := 0#32
  ![v1.toNat, arg4.toNat, v2.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c4_i32 : BitVec 32 := 4#32
  let v1 : BitVec 32 := Scalar.addi v0 c4_i32
  let c0_i32 : BitVec 32 := 0#32
  let v2 : BitVec 32 := Scalar.addi arg2 c0_i32
  let c0_i32_0 : BitVec 32 := 0#32
  ![v1.toNat, arg4.toNat, v2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c5_i32 : BitVec 32 := 5#32
  let v1 : BitVec 32 := Scalar.addi v0 c5_i32
  let c0_i32 : BitVec 32 := 0#32
  let v2 : BitVec 32 := Scalar.addi arg2 c0_i32
  let c0_i32_0 : BitVec 32 := 0#32
  ![v1.toNat, arg4.toNat, v2.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c6_i32 : BitVec 32 := 6#32
  let v1 : BitVec 32 := Scalar.addi v0 c6_i32
  let c0_i32 : BitVec 32 := 0#32
  let v2 : BitVec 32 := Scalar.addi arg2 c0_i32
  let c0_i32_0 : BitVec 32 := 0#32
  ![v1.toNat, arg4.toNat, v2.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg3 c8_i32
  let c7_i32 : BitVec 32 := 7#32
  let v1 : BitVec 32 := Scalar.addi v0 c7_i32
  let c0_i32 : BitVec 32 := 0#32
  let v2 : BitVec 32 := Scalar.addi arg2 c0_i32
  let c0_i32_0 : BitVec 32 := 0#32
  ![v1.toNat, arg4.toNat, v2.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true, true]

abbrev stage0_1 : Fin 2 → Memref sig .tc .vmem S1x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false, true, true]

abbrev stage0_2 : Fin 2 → Memref sig .tc .vmem S1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false, true, true]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false, true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false, true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false, true, true]

abbrev stage0_6 : Fin 2 → Memref sig .tc .vmem S1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false, true, true]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false, true, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true, true, true]

abbrev stage0_9 : Fin 2 → Memref sig .tc .vmem S1x704x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true, true, true]

abbrev stage0_10 : Fin 2 → Memref sig .tc .vmem S1x704x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, false, true, true, true]

abbrev stage0_11 : Fin 2 → Memref sig .tc .vmem S1x704x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, false, true, true, true]

abbrev stage0_12 : Fin 2 → Memref sig .tc .vmem S1x704x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, false, true, true, true]

abbrev stage0_13 : Fin 2 → Memref sig .tc .vmem S1x704x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, false, true, true, true]

abbrev stage0_14 : Fin 2 → Memref sig .tc .vmem S1x704x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, false, true, true, true]

abbrev stage0_15 : Fin 2 → Memref sig .tc .vmem S1x704x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, false, true, true, true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true, true, false, false]
-- ==== Reference6Ideal.lean ====
abbrev S8x4096x704 : Shape := ⟨3, ![8, 4096, 704]⟩
abbrev S8x704x2048 : Shape := ⟨3, ![8, 704, 2048]⟩
abbrev S4096x8x704 : Shape := ⟨3, ![4096, 8, 704]⟩
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S8x4096x704, .f32⟩
  | .hbm, ⟨3, _⟩ => ⟨S4096x8x704, .f32⟩
  | .hbm, ⟨4, _⟩ => ⟨S4096x5632, .f32⟩
  | .hbm, ⟨5, _⟩ => ⟨S8x704x2048, .f32⟩
  | .hbm, ⟨6, _⟩ => ⟨S5632x2048, .f32⟩
  | .hbm, ⟨7, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S8x704x2048 : Shape := ⟨3, ![8, 704, 2048]⟩
abbrev S8x4096x704 : Shape := ⟨3, ![8, 4096, 704]⟩
abbrev S2048x2048 : Shape := ⟨2, ![2048, 2048]⟩
abbrev S1x704x2048 : Shape := ⟨3, ![1, 704, 2048]⟩
abbrev S1x2048x704 : Shape := ⟨3, ![1, 2048, 704]⟩
abbrev S512x2048 : Shape := ⟨2, ![512, 2048]⟩
abbrev S704x2048 : Shape := ⟨2, ![704, 2048]⟩
abbrev S512x704 : Shape := ⟨2, ![512, 704]⟩
abbrev S1x512x704 : Shape := ⟨3, ![1, 512, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x704x2048, .bf16⟩
  | .hbm, ⟨3, _⟩ => ⟨S8x4096x704, .bf16⟩
  | .hbm, ⟨4, _⟩ => ⟨S8x4096x704, .bf16⟩
  | .hbm, ⟨5, _⟩ => ⟨S8x4096x704, .bf16⟩
  | .local _ .vmem, ⟨0, _⟩ => ⟨S2048x2048, .bf16⟩
  | .local _ .vmem, ⟨1, _⟩ => ⟨S2048x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x2048x704, .bf16⟩
  | .local _ .vmem, ⟨7, _⟩ => ⟨S1x2048x704, .bf16⟩
  | .local _ .vmem, ⟨8, _⟩ => ⟨S1x2048x704, .bf16⟩
  | .local _ .vmem, ⟨9, _⟩ => ⟨S1x2048x704, .bf16⟩
  | .local _ .vmem, ⟨10, _⟩ => ⟨S1x2048x704, .bf16⟩
  | .local _ .vmem, ⟨11, _⟩ => ⟨S1x2048x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x2048 : Shape := ⟨2, ![4096, 2048]⟩
abbrev S8x704x2048 : Shape := ⟨3, ![8, 704, 2048]⟩
abbrev S5632x2048 : Shape := ⟨2, ![5632, 2048]⟩
abbrev S2048x5632 : Shape := ⟨2, ![2048, 5632]⟩
abbrev S4096x5632 : Shape := ⟨2, ![4096, 5632]⟩
abbrev S_ : Shape := ⟨0, ![]⟩
abbrev S4096x8x704 : Shape := ⟨3, ![4096, 8, 704]⟩
abbrev S8x4096x704 : Shape := ⟨3, ![8, 4096, 704]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x704x2048, .bf16⟩
  | .hbm, ⟨3, _⟩ => ⟨S4096x2048, .f32⟩
  | .hbm, ⟨4, _⟩ => ⟨S8x704x2048, .f32⟩
  | .hbm, ⟨5, _⟩ => ⟨S5632x2048, .f32⟩
  | .hbm, ⟨6, _⟩ => ⟨S2048x5632, .f32⟩
  | .hbm, ⟨7, _⟩ => ⟨S4096x5632, .f32⟩
  | .hbm, ⟨8, _⟩ => ⟨S8x704x2048, .f32⟩
  | .hbm, ⟨9, _⟩ => ⟨S5632x2048, .f32⟩
  | .hbm, ⟨10, _⟩ => ⟨S2048x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S_, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S_, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x8x704, .f32⟩
  | .hbm, ⟨35, _⟩ => ⟨S8x4096x704, .f32⟩
  | .hbm, ⟨36, _⟩ => ⟨S8x4096x704, .bf16⟩
  | .hbm, ⟨37, _⟩ => ⟨S4096x8x704, .f32⟩
  | .hbm, ⟨38, _⟩ => ⟨S8x4096x704, .f32⟩
  | .hbm, ⟨39, _⟩ => ⟨S8x4096x704, .bf16⟩
  | .hbm, ⟨40, _⟩ => ⟨S4096x8x704, .f32⟩
  | .hbm, ⟨41, _⟩ => ⟨S8x4096x704, .f32⟩
  | .hbm, ⟨42, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_v9_2 : Ref sig .tc := ⟨.hbm, 19, rfl⟩
abbrev main_call0_cst_1 : Ref sig .tc := ⟨.hbm, 20, rfl⟩
abbrev main_call0_v6 : Ref sig .tc := ⟨.hbm, 21, rfl⟩
abbrev main_call0_v7 : Ref sig .tc := ⟨.hbm, 22, rfl⟩
abbrev main_v9_1 : Ref sig .tc := ⟨.hbm, 23, rfl⟩
abbrev main_v9_0 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg4 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg2 c0_i32
  let c0_i32_0 : BitVec 32 := 0#32
  ![arg4.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference8Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg4 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference9Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 2, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg1 c0_i32
  let c0_i32_0 : BitVec 32 := 0#32
  ![arg4.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg2 c0_i32
  let c0_i32_0 : BitVec 32 := 0#32
  ![arg4.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference10Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![1, 4, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg4 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Kernel11Ideal.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![1, 4, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg4 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference11Ideal.lean ====
abbrev S4096x2048 : Shape := ⟨2, ![4096, 2048]⟩
abbrev S1024x2048 : Shape := ⟨2, ![1024, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x2048, .f32⟩
  | .hbm, ⟨3, _⟩ => ⟨S1024x2048, .f32⟩
  | .hbm, ⟨4, _⟩ => ⟨S2048x1024, .f32⟩
  | .hbm, ⟨5, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x2048 : Shape := ⟨2, ![4096, 2048]⟩
abbrev S1536x2048 : Shape := ⟨2, ![1536, 2048]⟩
abbrev S4096x1536 : Shape := ⟨2, ![4096, 1536]⟩
abbrev S1024x2048 : Shape := ⟨2, ![1024, 2048]⟩
abbrev S768x2048 : Shape := ⟨2, ![768, 2048]⟩
abbrev S1024x768 : Shape := ⟨2, ![1024, 768]⟩
abbrev S256x2048 : Shape := ⟨2, ![256, 2048]⟩
abbrev S256x768 : Shape := ⟨2, ![256, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1536x2048, .bf16⟩
  | .hbm, ⟨2, _⟩ => ⟨S4096x1536, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg4 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Kernel12Ideal.lean ====
abbrev S4096x2048 : Shape := ⟨2, ![4096, 2048]⟩
abbrev S1536x2048 : Shape := ⟨2, ![1536, 2048]⟩
abbrev S4096x1536 : Shape := ⟨2, ![4096, 1536]⟩
abbrev S1024x2048 : Shape := ⟨2, ![1024, 2048]⟩
abbrev S768x2048 : Shape := ⟨2, ![768, 2048]⟩
abbrev S1024x768 : Shape := ⟨2, ![1024, 768]⟩
abbrev S256x2048 : Shape := ⟨2, ![256, 2048]⟩
abbrev S256x768 : Shape := ⟨2, ![256, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S1536x2048, .bf16⟩
  | .hbm, ⟨2, _⟩ => ⟨S4096x1536, .f32⟩
  | .local _ .vmem, ⟨0, _⟩ => ⟨S1024x2048, .bf16⟩
  | .local _ .vmem, ⟨1, _⟩ => ⟨S1024x2048, .bf16⟩
  | .local _ .vmem, ⟨2, _⟩ => ⟨S768x2048, .bf16⟩
  | .local _ .vmem, ⟨3, _⟩ => ⟨S768x2048, .bf16⟩
  | .local _ .vmem, ⟨4, _⟩ => ⟨S1024x768, .f32⟩
  | .local _ .vmem, ⟨5, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 4, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg4 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference12Ideal.lean ====
abbrev S4096x2048 : Shape := ⟨2, ![4096, 2048]⟩
abbrev S1536x2048 : Shape := ⟨2, ![1536, 2048]⟩
abbrev S2048x1536 : Shape := ⟨2, ![2048, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1536x2048, .bf16⟩
  | .hbm, ⟨2, _⟩ => ⟨S4096x2048, .f32⟩
  | .hbm, ⟨3, _⟩ => ⟨S1536x2048, .f32⟩
  | .hbm, ⟨4, _⟩ => ⟨S2048x1536, .f32⟩
  | .hbm, ⟨5, _⟩ => ⟨S4096x1536, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x2048 : Shape := ⟨2, ![4096, 2048]⟩
abbrev S128x2048 : Shape := ⟨2, ![128, 2048]⟩
abbrev S4096x128 : Shape := ⟨2, ![4096, 128]⟩
abbrev S1024x2048 : Shape := ⟨2, ![1024, 2048]⟩
abbrev S1024x128 : Shape := ⟨2, ![1024, 128]⟩
abbrev S256x2048 : Shape := ⟨2, ![256, 2048]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![1, 4, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg4 c0_i32
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg2.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference13Ideal.lean ====
abbrev S4096x2048 : Shape := ⟨2, ![4096, 2048]⟩
abbrev S128x2048 : Shape := ⟨2, ![128, 2048]⟩
abbrev S2048x128 : Shape := ⟨2, ![2048, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x2048, .f32⟩
  | .hbm, ⟨3, _⟩ => ⟨S128x2048, .f32⟩
  | .hbm, ⟨4, _⟩ => ⟨S2048x128, .f32⟩
  | .hbm, ⟨5, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![1, 1, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg1 c0_i32
  let c0_i32_0 : BitVec 32 := 0#32
  ![arg4.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg2 c0_i32
  let c0_i32_0 : BitVec 32 := 0#32
  ![arg4.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Kernel14Ideal.lean ====
abbrev S4096x1024 : Shape := ⟨2, ![4096, 1024]⟩
abbrev S4096x2048 : Shape := ⟨2, ![4096, 2048]⟩
abbrev S1024x2048 : Shape := ⟨2, ![1024, 2048]⟩
abbrev S1024x1024 : Shape := ⟨2, ![1024, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![1, 1, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg1 c0_i32
  let c0_i32_0 : BitVec 32 := 0#32
  ![arg4.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg2 c0_i32
  let c0_i32_0 : BitVec 32 := 0#32
  ![arg4.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference14Ideal.lean ====
abbrev S4096x1024 : Shape := ⟨2, ![4096, 1024]⟩
abbrev S4096x2048 : Shape := ⟨2, ![4096, 2048]⟩
abbrev S_ : Shape := ⟨0, ![]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S4096x1536 : Shape := ⟨2, ![4096, 1536]⟩
abbrev S4096x2048 : Shape := ⟨2, ![4096, 2048]⟩
abbrev S1536x2048 : Shape := ⟨2, ![1536, 2048]⟩
abbrev S4096x512 : Shape := ⟨2, ![4096, 512]⟩
abbrev S4096x1024 : Shape := ⟨2, ![4096, 1024]⟩
abbrev S512x1024 : Shape := ⟨2, ![512, 1024]⟩
abbrev S4096x128 : Shape := ⟨2, ![4096, 128]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1536, .bf16⟩
  | .hbm, ⟨1, _⟩ => ⟨S4096x2048, .bf16⟩
  | .hbm, ⟨2, _⟩ => ⟨S1536x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 3, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg1 c0_i32
  let c0_i32_0 : BitVec 32 := 0#32
  ![arg4.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg2 c0_i32
  let c0_i32_0 : BitVec 32 := 0#32
  ![arg4.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Kernel15Ideal.lean ====
abbrev S4096x1536 : Shape := ⟨2, ![4096, 1536]⟩
abbrev S4096x2048 : Shape := ⟨2, ![4096, 2048]⟩
abbrev S1536x2048 : Shape := ⟨2, ![1536, 2048]⟩
abbrev S4096x512 : Shape := ⟨2, ![4096, 512]⟩
abbrev S4096x1024 : Shape := ⟨2, ![4096, 1024]⟩
abbrev S512x1024 : Shape := ⟨2, ![512, 1024]⟩
abbrev S4096x128 : Shape := ⟨2, ![4096, 128]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1536, .bf16⟩
  | .hbm, ⟨1, _⟩ => ⟨S4096x2048, .bf16⟩
  | .hbm, ⟨2, _⟩ => ⟨S1536x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 3, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg1 c0_i32
  let c0_i32_0 : BitVec 32 := 0#32
  ![arg4.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg2 c0_i32
  let c0_i32_0 : BitVec 32 := 0#32
  ![arg4.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference15Ideal.lean ====
abbrev S4096x1536 : Shape := ⟨2, ![4096, 1536]⟩
abbrev S4096x2048 : Shape := ⟨2, ![4096, 2048]⟩
abbrev S_ : Shape := ⟨0, ![]⟩
abbrev S2048x1536 : Shape := ⟨2, ![2048, 1536]⟩
abbrev S1536x2048 : Shape := ⟨2, ![1536, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x2048, .bf16⟩
  | .hbm, ⟨2, _⟩ => ⟨S_, .f32⟩
  | .hbm, ⟨3, _⟩ => ⟨S2048x1536, .f32⟩
  | .hbm, ⟨4, _⟩ => ⟨S4096x2048, .f32⟩
  | .hbm, ⟨5, _⟩ => ⟨S4096x1536, .f32⟩
  | .hbm, ⟨6, _⟩ => ⟨S4096x1536, .f32⟩
  | .hbm, ⟨7, _⟩ => ⟨S1536x2048, .f32⟩
  | .hbm, ⟨8, _⟩ => ⟨S2048x1536, .f32⟩
  | .hbm, ⟨9, _⟩ => ⟨S1536x2048, .f32⟩
  | .hbm, ⟨10, _⟩ => ⟨S1536x2048, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel16.lean ====
abbrev S4096x128 : Shape := ⟨2, ![4096, 128]⟩
abbrev S4096x2048 : Shape := ⟨2, ![4096, 2048]⟩
abbrev S128x2048 : Shape := ⟨2, ![128, 2048]⟩
abbrev S4096x1024 : Shape := ⟨2, ![4096, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S128x2048, .bf16⟩
  | .local _ .vmem, ⟨0, _⟩ => ⟨S4096x128, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .bf16⟩
  | .local _ .vmem, ⟨4, _⟩ => ⟨S128x1024, .bf16⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![1, 1, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg1 c0_i32
  let c0_i32_0 : BitVec 32 := 0#32
  ![arg4.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  let v0 : BitVec 32 := Scalar.addi arg2 c0_i32
  let c0_i32_0 : BitVec 32 := 0#32
  ![arg4.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg2.toNat]

abbrev stage0_0 : Fin 1 → Memref sig .tc .vmem S4096x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true, false, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true, false, false]
-- ==== Reference16Ideal.lean ====
abbrev S4096x128 : Shape := ⟨2, ![4096, 128]⟩
abbrev S4096x2048 : Shape := ⟨2, ![4096, 2048]⟩
abbrev S_ : Shape := ⟨0, ![]⟩
abbrev S2048x128 : Shape := ⟨2, ![2048, 128]⟩
abbrev S128x2048 : Shape := ⟨2, ![128, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S_, .f32⟩
  | .hbm, ⟨3, _⟩ => ⟨S2048x128, .f32⟩
  | .hbm, ⟨4, _⟩ => ⟨S4096x2048, .f32⟩
  | .hbm, ⟨5, _⟩ => ⟨S4096x128, .f32⟩
  | .hbm, ⟨6, _⟩ => ⟨S4096x128, .f32⟩
  | .hbm, ⟨7, _⟩ => ⟨S128x2048, .f32⟩
  | .hbm, ⟨8, _⟩ => ⟨S2048x128, .f32⟩
  | .hbm, ⟨9, _⟩ => ⟨S128x2048, .f32⟩
  | .hbm, ⟨10, _⟩ => ⟨S128x2048, .bf16⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel17.lean ====
abbrev S4096x128 : Shape := ⟨2, ![4096, 128]⟩
abbrev S4096x1024 : Shape := ⟨2, ![4096, 1024]⟩
abbrev S4096x1536 : Shape := ⟨2, ![4096, 1536]⟩
abbrev S128x2048 : Shape := ⟨2, ![128, 2048]⟩
abbrev S1024x2048 : Shape := ⟨2, ![1024, 2048]⟩
abbrev S1536x2048 : Shape := ⟨2, ![1536, 2048]⟩
abbrev S4096x2048 : Shape := ⟨2, ![4096, 2048]⟩
abbrev S1024x128 : Shape := ⟨2, ![1024, 128]⟩
abbrev S1024x1024 : Shape := ⟨2, ![1024, 1024]⟩
abbrev S1024x1536 : Shape := ⟨2, ![1024, 1536]⟩
abbrev S128x1024 : Shape := ⟨2, ![128, 1024]⟩
abbrev S1536x1024 : Shape := ⟨2, ![1536, 1024]⟩
abbrev S256x128 : Shape := ⟨2, ![256, 128]⟩
abbrev S256x1024 : Shape := ⟨2, ![256, 1024]⟩
abbrev S256x1536 : Shape := ⟨2, ![256, 1536]⟩

abbrev nBuf : Space → Nat
  | .hbm => 9
  | .vmem => 18
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S4096x1024, .bf16⟩
  | .hbm, ⟨3, _⟩ => ⟨S4096x1536, .bf16⟩
  | .hbm, ⟨4, _⟩ => ⟨S128x2048, .bf16⟩
  | .hbm, ⟨5, _⟩ => ⟨S1024x2048, .bf16⟩
  | .hbm, ⟨6, _⟩ => ⟨S1024x2048, .bf16⟩
  | .hbm, ⟨7, _⟩ => ⟨S1536x2048, .bf16⟩
  | .hbm, ⟨8, _⟩ => ⟨S4096x2048, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1536, .bf16⟩
  | .local _ .vmem, ⟨7, _⟩ => ⟨S1024x1536, .bf16⟩
  | .local _ .vmem, ⟨8, _⟩ => ⟨S128x1024, .bf16⟩
  | .local _ .vmem, ⟨9, _⟩ => ⟨S128x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1536x1024, .bf16⟩
  | .local _ .vmem, ⟨15, _⟩ => ⟨S1536x1024, .bf16⟩
  | .local _ .vmem, ⟨16, _⟩ => ⟨S1024x1024, .f32⟩
  | .local _ .vmem, ⟨17, _⟩ => ⟨S1024x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1536x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S4096x128 : Shape := ⟨2, ![4096, 128]⟩
abbrev S4096x1024 : Shape := ⟨2, ![4096, 1024]⟩
abbrev S4096x1536 : Shape := ⟨2, ![4096, 1536]⟩
abbrev S128x2048 : Shape := ⟨2, ![128, 2048]⟩
abbrev S1024x2048 : Shape := ⟨2, ![1024, 2048]⟩
abbrev S1536x2048 : Shape := ⟨2, ![1536, 2048]⟩
abbrev S_ : Shape := ⟨0, ![]⟩
abbrev S4096x2048 : Shape := ⟨2, ![4096, 2048]⟩
abbrev S2048x128 : Shape := ⟨2, ![2048, 128]⟩
abbrev S2048x1024 : Shape := ⟨2, ![2048, 1024]⟩
abbrev S2048x1536 : Shape := ⟨2, ![2048, 1536]⟩

abbrev nBuf : Space → Nat
  | .hbm => 33
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x1024, .bf16⟩
  | .hbm, ⟨2, _⟩ => ⟨S4096x1024, .bf16⟩
  | .hbm, ⟨3, _⟩ => ⟨S4096x1536, .bf16⟩
  | .hbm, ⟨4, _⟩ => ⟨S128x2048, .bf16⟩
  | .hbm, ⟨5, _⟩ => ⟨S1024x2048, .bf16⟩
  | .hbm, ⟨6, _⟩ => ⟨S1024x2048, .bf16⟩
  | .hbm, ⟨7, _⟩ => ⟨S1536x2048, .bf16⟩
  | .hbm, ⟨8, _⟩ => ⟨S_, .f32⟩
  | .hbm, ⟨9, _⟩ => ⟨S4096x2048, .f32⟩
  | .hbm, ⟨10, _⟩ => ⟨S128x2048, .f32⟩
  | .hbm, ⟨11, _⟩ => ⟨S2048x128, .f32⟩
  | .hbm, ⟨12, _⟩ => ⟨S4096x128, .f32⟩
  | .hbm, ⟨13, _⟩ => ⟨S1024x2048, .f32⟩
  | .hbm, ⟨14, _⟩ => ⟨S2048x1024, .f32⟩
  | .hbm, ⟨15, _⟩ => ⟨S4096x1024, .f32⟩
  | .hbm, ⟨16, _⟩ => ⟨S1024x2048, .f32⟩
  | .hbm, ⟨17, _⟩ => ⟨S2048x1024, .f32⟩
  | .hbm, ⟨18, _⟩ => ⟨S4096x1024, .f32⟩
  | .hbm, ⟨19, _⟩ => ⟨S1536x2048, .f32⟩
  | .hbm, ⟨20, _⟩ => ⟨S2048x1536, .f32⟩
  | .hbm, ⟨21, _⟩ => ⟨S4096x1536, .f32⟩
  | .hbm, ⟨22, _⟩ => ⟨S4096x128, .f32⟩
  | .hbm, ⟨23, _⟩ => ⟨S4096x1024, .f32⟩
  | .hbm, ⟨24, _⟩ => ⟨S4096x1024, .f32⟩
  | .hbm, ⟨25, _⟩ => ⟨S4096x1536, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Base.lean ====
module

public import proofs.«01_k».proof.Proof.Gen.KernelIdeal.Launch
public import proofs.«01_k».proof.Proof.Gen.KernelIdeal.Skeleton
public import Idealize.ShloMosaic.Lib.Tactic

@[expose] public section

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memory reference held at given contents of its buffer. -/
abbrev held {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

/-- The row offsets of the tile below the diagonal are numerals. -/
instance closed3 (r : BitVec 32) : ClosedOff (k0_off3 1#32 r) := ⟨![0, (2048#32 + r).toNat, 0], rfl⟩

/-- The row offsets of the first tile on the diagonal are numerals. -/
instance closed20 (r : BitVec 32) : ClosedOff (k0_off2 0#32 r) := ⟨![0, (0#32 + r).toNat, 0], rfl⟩
/-- The row offsets of the second tile on the diagonal are numerals. -/
instance closed21 (r : BitVec 32) : ClosedOff (k0_off2 1#32 r) := ⟨![0, (2048#32 + r).toNat, 0], rfl⟩

/-- The accesses of the pair of tiles (0, 0) lie inside their buffers. -/
theorem chk00 : k0_chk1 0#32 0#32 := by decide +kernel
/-- Whether the pair (0, 0) is on the diagonal. -/
theorem cond2_00 : k0_cond2 0#32 0#32 = 1#1 := by decide
/-- Whether the pair (0, 0) is below the diagonal. -/
theorem cond3_00 : ¬ k0_cond3 0#32 0#32 = 1#1 := by decide
/-- The accesses of the pair of tiles (1, 0) lie inside their buffers. -/
theorem chk10 : k0_chk1 1#32 0#32 := by decide +kernel
/-- Whether the pair (1, 0) is on the diagonal. -/
theorem cond2_10 : ¬ k0_cond2 1#32 0#32 = 1#1 := by decide
/-- Whether the pair (1, 0) is below the diagonal. -/
theorem cond3_10 : k0_cond3 1#32 0#32 = 1#1 := by decide
/-- The accesses of the pair of tiles (1, 1) lie inside their buffers. -/
theorem chk11 : k0_chk1 1#32 1#32 := by decide +kernel
/-- Whether the pair (1, 1) is on the diagonal. -/
theorem cond2_11 : k0_cond2 1#32 1#32 = 1#1 := by decide
/-- Whether the pair (1, 1) is below the diagonal. -/
theorem cond3_11 : ¬ k0_cond3 1#32 1#32 = 1#1 := by decide
/-- The first row tile does not close a key tile. -/
theorem cond4_0 : ¬ k0_cond4 0#32 = 1#1 := by decide
/-- The second row tile closes a key tile. -/
theorem cond4_1 : k0_cond4 1#32 = 1#1 := by decide

/-- A load of one scalar-memory word whose value is known continues at that value. -/
theorem wp_word (defs : Defs nD τ sig (Elt F) Λ₀) (c : Dev nD) {s : Shape} {M : Memref sig .tc .smem s .i32} {r : Rect s} {h1 : r.shape.numel = 1} {hp : (EltTy.i32).packing = 1}
    {q : PosShare TreeShare} {f : Buf (Elt F) (M.view.loc (c : Thread nD τ))} {E : Set ℕ} (w : BitVec 32)
    {k : BitVec 32 → Prog (TpuEff nD τ sig (Elt F) Λ₀ .tc) PUnit} {Q : PUnit → sProp 𝕄}
    (hw : (M.access r).read (Elt F) f (Shape.Idx.first (h1.symm ▸ Nat.one_pos)) = w) :
    held c M q f ⊢ iprop((held c M q f -∗ wp frame (wpE defs Variants.none (c : Thread nD τ) none) E (k w) Q)
      -∗ wp frame (wpE defs Variants.none (c : Thread nD τ) none) E ((smemLoad M r h1 hp : Prog (TpuEff nD τ sig (Elt F) Λ₀ .tc) (Elt F .i32)) >>= k) Q) := by
  subst hw
  have h := wp_smemLoadElt (Γ := .empty) (Q := Q) (q := q) (f := f) Variants.none (c : Thread nD τ) none E (defs := defs) (m := M) (r := r) (k := k) (hw := View.loads_smem_one hp h1) (x := Shape.Idx.first (h1.symm ▸ Nat.one_pos)) (S := M.view.set) (View.set_slice_subset _ _)
  exact h

end Cert.Flash
-- ==== Proof.RunA.lean ====
module

public import proofs.«01_k».proof.Proof.Base

@[expose] public section

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
    (arg2 : Memref sig .tc .smem S3 .i32) (harg2 : arg2.IsWhole) (arg3 : Memref sig .tc .smem S3 .i32) (harg3 : arg3.IsWhole)
    (arg4 : Memref sig .tc .vmem S1x2048x192 .bf16) (harg4 : arg4.IsWhole) (arg5 : Memref sig .tc .vmem S1x2048x192 .bf16) (harg5 : arg5.IsWhole)
    (arg6 : Memref sig .tc .vmem S1x2048x128 .bf16) (harg6 : arg6.IsWhole) (arg7 : Memref sig .tc .vmem S1x2048x128 .bf16) (harg7 : arg7.IsWhole)
    (arg8 : Memref sig .tc .vmem S1x2048x1 .f32) (harg8 : arg8.IsWhole) (arg9 : Memref sig .tc .vmem S1x2048x1 .f32) (harg9 : arg9.IsWhole)
    (arg10 : Memref sig .tc .vmem S1x4096x192 .f32) (harg10 : arg10.IsWhole) (arg11 : Memref sig .tc .vmem S1x2048x192 .f32) (harg11 : arg11.IsWhole)
    (arg12 : Memref sig .tc .vmem S1x2048x128 .f32) (harg12 : arg12.IsWhole)  (arg13 : Memref sig .tc .vmem S2048x192 .f32) (harg13 : arg13.IsWhole)
    (arg14 : Memref sig .tc .vmem S2048x128 .f32) (harg14 : arg14.IsWhole)
    (q2 q3 : PosShare TreeShare) (f2 : arg2.view.ty.Contents (Elt F)) (f3 : arg3.view.ty.Contents (Elt F))
    (x4 : Vec F S1x2048x192 .bf16) (x5 : Vec F S1x2048x192 .bf16) (x6 : Vec F S1x2048x128 .bf16) (x7 : Vec F S1x2048x128 .bf16) (x8 : Vec F S1x2048x1 .f32) (x9 : Vec F S1x2048x1 .f32)

set_option maxHeartbeats 8000000 in
/-- The body at the first tile on the diagonal: it fills the query gradient and both accumulators anew. -/
def runA
    (hc1 : k0_cond1 i = 1#1)
    (hw2 : (arg2.access (Rect.unit (s := S3) (k0_off1 i) S1.size (k0_off1_inb i))).read (Elt F) f2 (Shape.Idx.first (numel1_S1.symm ▸ Nat.one_pos)) = 0#32)
    (hw3 : (arg3.access (Rect.unit (s := S3) (k0_off1 i) S1.size (k0_off1_inb i))).read (Elt F) f3 (Shape.Idx.first (numel1_S1.symm ▸ Nat.one_pos)) = 0#32) :
    Σ' (g10 : arg10.view.ty.Contents (Elt F)) (g13 : arg13.view.ty.Contents (Elt F)) (g14 : arg14.view.ty.Contents (Elt F)),
      ∀ (f10 : arg10.view.ty.Contents (Elt F)) (f11 : arg11.view.ty.Contents (Elt F)) (f12 : arg12.view.ty.Contents (Elt F)) (f13 : arg13.view.ty.Contents (Elt F)) (f14 : arg14.view.ty.Contents (Elt F)) (E : Set ℕ) (K : PUnit → sProp 𝕄),
        iprop(held c arg2 q2 f2
            ∗ held c arg3 q3 f3
            ∗ held c arg4 fullShare (arg4.view.rep x4)
            ∗ held c arg5 fullShare (arg5.view.rep x5)
            ∗ held c arg6 fullShare (arg6.view.rep x6)
            ∗ held c arg7 fullShare (arg7.view.rep x7)
            ∗ held c arg8 fullShare (arg8.view.rep x8)
            ∗ held c arg9 fullShare (arg9.view.rep x9)
            ∗ held c arg10 fullShare f10
            ∗ held c arg11 fullShare f11
            ∗ held c arg12 fullShare f12
            ∗ held c arg13 fullShare f13
            ∗ held c arg14 fullShare f14
            ∗ (iprop(held c arg2 q2 f2
            ∗ held c arg3 q3 f3
            ∗ held c arg4 fullShare (arg4.view.rep x4)
            ∗ held c arg5 fullShare (arg5.view.rep x5)
            ∗ held c arg6 fullShare (arg6.view.rep x6)
            ∗ held c arg7 fullShare (arg7.view.rep x7)
            ∗ held c arg8 fullShare (arg8.view.rep x8)
            ∗ held c arg9 fullShare (arg9.view.rep x9)
            ∗ held c arg10 fullShare g10
            ∗ held c arg11 fullShare f11
            ∗ held c arg12 fullShare f12
            ∗ held c arg13 fullShare g13
            ∗ held c arg14 fullShare g14) -∗ K ⟨⟩))
          ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14) K := by
  refine ⟨?_, ?_, ?_, fun f10 f11 f12 f13 f14 E K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    iintro ⟨H2, H3, H4, H5, H6, H7, H8, H9, H10, H11, H12, H13, H14, Hk⟩
    iapply (wp_word _ c (0#32) hw2) $$ H2
    iintro H2
    iapply (wp_word _ c (0#32) hw3) $$ H3
    iintro H3
    sl_exec! (disch := first | sl_exact chk00 | sl_exact hc1 | sl_exact cond3_00 | sl_exact cond2_00 | sl_exact cond4_0)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.Flash
-- ==== Proof.RunB.lean ====
module

public import proofs.«01_k».proof.Proof.Base

@[expose] public section

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
    (arg2 : Memref sig .tc .smem S3 .i32) (harg2 : arg2.IsWhole) (arg3 : Memref sig .tc .smem S3 .i32) (harg3 : arg3.IsWhole)
    (arg4 : Memref sig .tc .vmem S1x2048x192 .bf16) (harg4 : arg4.IsWhole) (arg5 : Memref sig .tc .vmem S1x2048x192 .bf16) (harg5 : arg5.IsWhole)
    (arg6 : Memref sig .tc .vmem S1x2048x128 .bf16) (harg6 : arg6.IsWhole) (arg7 : Memref sig .tc .vmem S1x2048x128 .bf16) (harg7 : arg7.IsWhole)
    (arg8 : Memref sig .tc .vmem S1x2048x1 .f32) (harg8 : arg8.IsWhole) (arg9 : Memref sig .tc .vmem S1x2048x1 .f32) (harg9 : arg9.IsWhole)
    (arg10 : Memref sig .tc .vmem S1x4096x192 .f32) (harg10 : arg10.IsWhole) (arg11 : Memref sig .tc .vmem S1x2048x192 .f32) (harg11 : arg11.IsWhole)
    (arg12 : Memref sig .tc .vmem S1x2048x128 .f32) (harg12 : arg12.IsWhole)  (arg13 : Memref sig .tc .vmem S2048x192 .f32) (harg13 : arg13.IsWhole)
    (arg14 : Memref sig .tc .vmem S2048x128 .f32) (harg14 : arg14.IsWhole)
    (q2 q3 : PosShare TreeShare) (f2 : arg2.view.ty.Contents (Elt F)) (f3 : arg3.view.ty.Contents (Elt F))
    (x4 : Vec F S1x2048x192 .bf16) (x5 : Vec F S1x2048x192 .bf16) (x6 : Vec F S1x2048x128 .bf16) (x7 : Vec F S1x2048x128 .bf16) (x8 : Vec F S1x2048x1 .f32) (x9 : Vec F S1x2048x1 .f32) (x10 : Vec F S1x4096x192 .f32) (x13 : Vec F S2048x192 .f32) (x14 : Vec F S2048x128 .f32)

set_option maxHeartbeats 8000000 in
/-- The body at the tile below the diagonal, from what its windows and accumulators hold to what it leaves in them. -/
def runB
    (hc1 : ¬ k0_cond1 i = 1#1)
    (hw2 : (arg2.access (Rect.unit (s := S3) (k0_off1 i) S1.size (k0_off1_inb i))).read (Elt F) f2 (Shape.Idx.first (numel1_S1.symm ▸ Nat.one_pos)) = 1#32)
    (hw3 : (arg3.access (Rect.unit (s := S3) (k0_off1 i) S1.size (k0_off1_inb i))).read (Elt F) f3 (Shape.Idx.first (numel1_S1.symm ▸ Nat.one_pos)) = 0#32) :
    Σ' (g10 : arg10.view.ty.Contents (Elt F)) (g11 : arg11.view.ty.Contents (Elt F)) (g12 : arg12.view.ty.Contents (Elt F)) (g13 : arg13.view.ty.Contents (Elt F)) (g14 : arg14.view.ty.Contents (Elt F)),
      ∀ (f11 : arg11.view.ty.Contents (Elt F)) (f12 : arg12.view.ty.Contents (Elt F)) (E : Set ℕ) (K : PUnit → sProp 𝕄),
        iprop(held c arg2 q2 f2
            ∗ held c arg3 q3 f3
            ∗ held c arg4 fullShare (arg4.view.rep x4)
            ∗ held c arg5 fullShare (arg5.view.rep x5)
            ∗ held c arg6 fullShare (arg6.view.rep x6)
            ∗ held c arg7 fullShare (arg7.view.rep x7)
            ∗ held c arg8 fullShare (arg8.view.rep x8)
            ∗ held c arg9 fullShare (arg9.view.rep x9)
            ∗ held c arg10 fullShare (arg10.view.rep x10)
            ∗ held c arg11 fullShare f11
            ∗ held c arg12 fullShare f12
            ∗ held c arg13 fullShare (arg13.view.rep x13)
            ∗ held c arg14 fullShare (arg14.view.rep x14)
            ∗ (iprop(held c arg2 q2 f2
            ∗ held c arg3 q3 f3
            ∗ held c arg4 fullShare (arg4.view.rep x4)
            ∗ held c arg5 fullShare (arg5.view.rep x5)
            ∗ held c arg6 fullShare (arg6.view.rep x6)
            ∗ held c arg7 fullShare (arg7.view.rep x7)
            ∗ held c arg8 fullShare (arg8.view.rep x8)
            ∗ held c arg9 fullShare (arg9.view.rep x9)
            ∗ held c arg10 fullShare g10
            ∗ held c arg11 fullShare g11
            ∗ held c arg12 fullShare g12
            ∗ held c arg13 fullShare g13
            ∗ held c arg14 fullShare g14) -∗ K ⟨⟩))
          ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14) K := by
  refine ⟨?_, ?_, ?_, ?_, ?_, fun f11 f12 E K => ?run⟩
  case run =>
    simp only [cc0_flash_bwd_eq_skeleton]; unfold cc0_flash_bwd_skel
    simp only [k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    iintro ⟨H2, H3, H4, H5, H6, H7, H8, H9, H10, H11, H12, H13, H14, Hk⟩
    iapply (wp_word _ c (1#32) hw2) $$ H2
    iintro H2
    iapply (wp_word _ c (0#32) hw3) $$ H3
    iintro H3
    sl_exec! (disch := first | sl_exact chk10 | sl_exact hc1 | sl_exact cond3_10 | sl_exact cond2_10 | sl_exact cond4_1)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.Flash
-- ==== Proof.RunC.lean ====
module

public import proofs.«01_k».proof.Proof.Base

@[expose] public section

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
    (arg2 : Memref sig .tc .smem S3 .i32) (harg2 : arg2.IsWhole) (arg3 : Memref sig .tc .smem S3 .i32) (harg3 : arg3.IsWhole)
    (arg4 : Memref sig .tc .vmem S1x2048x192 .bf16) (harg4 : arg4.IsWhole) (arg5 : Memref sig .tc .vmem S1x2048x192 .bf16) (harg5 : arg5.IsWhole)
    (arg6 : Memref sig .tc .vmem S1x2048x128 .bf16) (harg6 : arg6.IsWhole) (arg7 : Memref sig .tc .vmem S1x2048x128 .bf16) (harg7 : arg7.IsWhole)
    (arg8 : Memref sig .tc .vmem S1x2048x1 .f32) (harg8 : arg8.IsWhole) (arg9 : Memref sig .tc .vmem S1x2048x1 .f32) (harg9 : arg9.IsWhole)
    (arg10 : Memref sig .tc .vmem S1x4096x192 .f32) (harg10 : arg10.IsWhole) (arg11 : Memref sig .tc .vmem S1x2048x192 .f32) (harg11 : arg11.IsWhole)
    (arg12 : Memref sig .tc .vmem S1x2048x128 .f32) (harg12 : arg12.IsWhole)  (arg13 : Memref sig .tc .vmem S2048x192 .f32) (harg13 : arg13.IsWhole)
    (arg14 : Memref sig .tc .vmem S2048x128 .f32) (harg14 : arg14.IsWhole)
    (q2 q3 : PosShare TreeShare) (f2 : arg2.view.ty.Contents (Elt F)) (f3 : arg3.view.ty.Contents (Elt F))
    (x4 : Vec F S1x2048x192 .bf16) (x5 : Vec F S1x2048x192 .bf16) (x6 : Vec F S1x2048x128 .bf16) (x7 : Vec F S1x2048x128 .bf16) (x8 : Vec F S1x2048x1 .f32) (x9 : Vec F S1x2048x1 .f32) (x10 : Vec F S1x4096x192 .f32)

set_option maxHeartbeats 8000000 in
/-- The body at the second tile on the diagonal: it fills both accumulators anew and adds to the query gradient. -/
def runC
    (hc1 : ¬ k0_cond1 i = 1#1)
    (hw2 : (arg2.access (Rect.unit (s := S3) (k0_off1 i) S1.size (k0_off1_inb i))).read (Elt F) f2 (Shape.Idx.first (numel1_S1.symm ▸ Nat.one_pos)) = 1#32)
    (hw3 : (arg3.access (Rect.unit (s := S3) (k0_off1 i) S1.size (k0_off1_inb i))).read (Elt F) f3 (Shape.Idx.first (numel1_S1.symm ▸ Nat.one_pos)) = 1#32) :
    Σ' (g10 : arg10.view.ty.Contents (Elt F)) (g11 : arg11.view.ty.Contents (Elt F)) (g12 : arg12.view.ty.Contents (Elt F)) (g13 : arg13.view.ty.Contents (Elt F)) (g14 : arg14.view.ty.Contents (Elt F)),
      ∀ (f11 : arg11.view.ty.Contents (Elt F)) (f12 : arg12.view.ty.Contents (Elt F)) (f13 : arg13.view.ty.Contents (Elt F)) (f14 : arg14.view.ty.Contents (Elt F)) (E : Set ℕ) (K : PUnit → sProp 𝕄),
        iprop(held c arg2 q2 f2
            ∗ held c arg3 q3 f3
            ∗ held c arg4 fullShare (arg4.view.rep x4)
            ∗ held c arg5 fullShare (arg5.view.rep x5)
            ∗ held c arg6 fullShare (arg6.view.rep x6)
            ∗ held c arg7 fullShare (arg7.view.rep x7)
            ∗ held c arg8 fullShare (arg8.view.rep x8)
            ∗ held c arg9 fullShare (arg9.view.rep x9)
            ∗ held c arg10 fullShare (arg10.view.rep x10)
            ∗ held c arg11 fullShare f11
            ∗ held c arg12 fullShare f12
            ∗ held c arg13 fullShare f13
            ∗ held c arg14 fullShare f14
            ∗ (iprop(held c arg2 q2 f2
            ∗ held c arg3 q3 f3
            ∗ held c arg4 fullShare (arg4.view.rep x4)
            ∗ held c arg5 fullShare (arg5.view.rep x5)
            ∗ held c arg6 fullShare (arg6.view.rep x6)
            ∗ held c arg7 fullShare (arg7.view.rep x7)
            ∗ held c arg8 fullShare (arg8.view.rep x8)
            ∗ held c arg9 fullShare (arg9.view.rep x9)
            ∗ held c arg10 fullShare g10
            ∗ held c arg11 fullShare g11
            ∗ held c arg12 fullShare g12
            ∗ held c arg13 fullShare g13
            ∗ held c arg14 fullShare g14) -∗ K ⟨⟩))
          ⊢ wp frame (wpE (defs₀ (F := F)) Variants.none c none) E (cc0_flash_bwd i arg2 harg2 arg3 harg3 arg4 harg4 arg5 harg5 arg6 harg6 arg7 harg7 arg8 harg8 arg9 harg9 arg10 harg10 arg11 harg11 arg12 harg12 arg13 harg13 arg14 harg14) K := by
  refine ⟨?_, ?_, ?_, ?_, ?_, fun f11 f12 f13 f14 E K => ?run⟩
  case run =>
    simp only [cc0_flash_bwd_eq_skeleton]; unfold cc0_flash_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    iintro ⟨H2, H3, H4, H5, H6, H7, H8, H9, H10, H11, H12, H13, H14, Hk⟩
    iapply (wp_word _ c (1#32) hw2) $$ H2
    iintro H2
    iapply (wp_word _ c (1#32) hw3) $$ H3
    iintro H3
    sl_exec! (disch := first | sl_exact chk11 | sl_exact hc1 | sl_exact cond3_11 | sl_exact cond2_11 | sl_exact cond4_1)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14

end Cert.Flash
-- ==== Proof.Tables.lean ====
module

public import proofs.«01_k».proof.Proof.Base

@[expose] public section

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option backward.proofsInPublic true in
/-- What the two tables hold: the pairs (0, 0), (1, 0), (1, 1) of a query tile and a key tile. -/
def pf : pre0.Contents (Elt F) := fun
  | ⟨0, _⟩ => fun i => lit0 (S3.rowMajor i)
  | ⟨1, _⟩ => fun i => lit1 (S3.rowMajor i)
  | ⟨_ + 2, h⟩ => absurd h (by simp)

/-- At the tables' contents every block lies inside its array. -/
theorem ok_pf : ok0 (pf (F := F)) := by
  have h : decide (ok0 (pf (F := F))) = true := by sl_kernel_rfl
  exact of_decide_eq_true h

/-- The tables' contents, admissible. -/
def adm : (pcfg0 (F := F)).Adm := ⟨pf, ok_pf⟩

/-- The pipeline at the tables' contents. -/
abbrev cfgA (F : FTy → Type) [FloatOps F] : Pipeline.Cfg sig Λ₀ := cfg0 (F := F) adm

/-- A table's word at a grid point. -/
abbrev word {s : Shape} {e : EltTy} (M : Memref sig .tc .smem s e) (r : Rect s) (h1 : r.shape.numel = 1) (f : M.view.ty.Contents (Elt F)) : Elt F e :=
  (M.access r).read (Elt F) f (Shape.Idx.first (h1.symm ▸ Nat.one_pos))

/-- A Boolean that is true at each of the 24 points. -/
theorem all24 (p : Fin 24 → Bool) (h : (List.finRange 24).all p = true) (t : Fin 24) : p t = true :=
  List.all_eq_true.mp h t (List.mem_finRange t)

/-- A fact decided at each of the 24 points. -/
theorem dec24 {α : Type} [DecidableEq α] (f g : Fin 24 → α) (h : ((List.finRange 24).all fun t => decide (f t = g t)) = true) (t : Fin 24) : f t = g t :=
  of_decide_eq_true (all24 _ h t)

/-- The query tile of a point. -/
theorem word2 (t : Fin 24) : word (F := F) (Memref.whole main_c) (Rect.unit (s := S3) (k0_off1 (grid0.coords t)) S1.size (k0_off1_inb _)) numel1_S1 (pf 0)
    = if t.val % 3 = 0 then 0#32 else 1#32 :=
  dec24 (α := BitVec 32) (fun t => word (F := F) (Memref.whole main_c) (Rect.unit (s := S3) (k0_off1 (grid0.coords t)) S1.size (k0_off1_inb _)) numel1_S1 (pf 0))
    (fun t => if t.val % 3 = 0 then 0#32 else 1#32) (by sl_kernel_rfl) t
/-- The key tile of a point. -/
theorem word3 (t : Fin 24) : word (F := F) (Memref.whole main_c_0) (Rect.unit (s := S3) (k0_off1 (grid0.coords t)) S1.size (k0_off1_inb _)) numel1_S1 (pf 1)
    = if t.val % 3 = 2 then 1#32 else 0#32 :=
  dec24 (α := BitVec 32) (fun t => word (F := F) (Memref.whole main_c_0) (Rect.unit (s := S3) (k0_off1 (grid0.coords t)) S1.size (k0_off1_inb _)) numel1_S1 (pf 1))
    (fun t => if t.val % 3 = 2 then 1#32 else 0#32) (by sl_kernel_rfl) t
/-- The first pair of a head. -/
theorem cond1_iff (t : Fin 24) : k0_cond1 (grid0.coords t) = 1#1 ↔ t.val % 3 = 0 := by
  have h : ∀ t : Fin 24, k0_cond1 (grid0.coords t) = 1#1 ↔ t.val % 3 = 0 := by decide +kernel
  exact h t
/-- The query gradient is written back at the last pair of a head. -/
theorem flush6 (t : Fin 24) : ((cfgA F).win (6 : Fin 9)).flush t = decide (t.val % 3 = 2) :=
  dec24 (fun t => ((cfgA F).win (6 : Fin 9)).flush t) (fun t => decide (t.val % 3 = 2)) (by sl_kernel_rfl) t
/-- The key gradient is written back at the second and the third pair. -/
theorem flush7 (t : Fin 24) : ((cfgA F).win (7 : Fin 9)).flush t = decide (t.val % 3 ≠ 0) :=
  dec24 (fun t => ((cfgA F).win (7 : Fin 9)).flush t) (fun t => decide (t.val % 3 ≠ 0)) (by sl_kernel_rfl) t
/-- The value gradient is written back at the second and the third pair. -/
theorem flush8 (t : Fin 24) : ((cfgA F).win (8 : Fin 9)).flush t = decide (t.val % 3 ≠ 0) :=
  dec24 (fun t => ((cfgA F).win (8 : Fin 9)).flush t) (fun t => decide (t.val % 3 ≠ 0)) (by sl_kernel_rfl) t
/-- The key gradient is left alone at the first pair. -/
theorem idle7 (t : Fin 24) : (cfgA F).idle (7 : Fin 9) ((cfgA F).grid.coords t) = decide (t.val % 3 = 0) :=
  dec24 (fun t => (cfgA F).idle (7 : Fin 9) ((cfgA F).grid.coords t)) (fun t => decide (t.val % 3 = 0)) (by sl_kernel_rfl) t
/-- The value gradient is left alone at the first pair. -/
theorem idle8 (t : Fin 24) : (cfgA F).idle (8 : Fin 9) ((cfgA F).grid.coords t) = decide (t.val % 3 = 0) :=
  dec24 (fun t => (cfgA F).idle (8 : Fin 9) ((cfgA F).grid.coords t)) (fun t => decide (t.val % 3 = 0)) (by sl_kernel_rfl) t
/-- The query gradient is stored at every point. -/
theorem idle6 (t : Fin 24) : (cfgA F).idle (6 : Fin 9) ((cfgA F).grid.coords t) = false :=
  dec24 (fun t => (cfgA F).idle (6 : Fin 9) ((cfgA F).grid.coords t)) (fun t => false) (by sl_kernel_rfl) t

end Cert.Flash
-- ==== Proof.Data.lean ====
module

public import proofs.«01_k».proof.Proof.RunA
public import proofs.«01_k».proof.Proof.RunB
public import proofs.«01_k».proof.Proof.RunC
public import proofs.«01_k».proof.Proof.Tables
public import Idealize.ShloMosaic.Lib.Claim

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The host's operations before the kernel, in the five stretches the function calls split them into. -/
abbrev opss : List (List (HloOp τ sig (Elt F))) := [hostOps0, hostOps0_1, hostOps0_2, hostOps0_3, hostOps0_4]

/-- What each buffer of a core holds when the kernel starts. -/
def V (c : Dev nD) (b : Ref sig .tc) : Buf (Elt F) ((c : Thread nD τ).loc b) :=
  StableHlo.after opss.flatten (fun b => m (c, b)) b

/-- The host's stretches, then the kernel. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main opss
    (by simp only [List.Forall]; exact ⟨hostOps0_sub, hostOps0_1_sub, hostOps0_2_sub, hostOps0_3_sub, hostOps0_4_sub⟩)
    (by simp only [List.Forall]; repeat' constructor)
    (fun c => (main_chain c).trans rfl)

/-! ## The staging buffers of a point -/

/-- The buffer window 0 stages point `t` in. -/
abbrev ms0 (t : Fin (cfgA F).N) : Memref sig .tc .vmem S1x2048x192 .bf16 := spec0_0.stage ((cfgA F).slots t (0 : Fin 9))
theorem hs0 (t : Fin (cfgA F).N) : (ms0 (F := F) t).IsWhole := hstage0_0 (((cfgA F).slots t (0 : Fin 9)).cast nbuf0_0)
/-- The buffer window 1 stages point `t` in. -/
abbrev ms1 (t : Fin (cfgA F).N) : Memref sig .tc .vmem S1x2048x192 .bf16 := spec0_1.stage ((cfgA F).slots t (1 : Fin 9))
theorem hs1 (t : Fin (cfgA F).N) : (ms1 (F := F) t).IsWhole := hstage0_1 (((cfgA F).slots t (1 : Fin 9)).cast nbuf0_1)
/-- The buffer window 2 stages point `t` in. -/
abbrev ms2 (t : Fin (cfgA F).N) : Memref sig .tc .vmem S1x2048x128 .bf16 := spec0_2.stage ((cfgA F).slots t (2 : Fin 9))
theorem hs2 (t : Fin (cfgA F).N) : (ms2 (F := F) t).IsWhole := hstage0_2 (((cfgA F).slots t (2 : Fin 9)).cast nbuf0_2)
/-- The buffer window 3 stages point `t` in. -/
abbrev ms3 (t : Fin (cfgA F).N) : Memref sig .tc .vmem S1x2048x128 .bf16 := spec0_3.stage ((cfgA F).slots t (3 : Fin 9))
theorem hs3 (t : Fin (cfgA F).N) : (ms3 (F := F) t).IsWhole := hstage0_3 (((cfgA F).slots t (3 : Fin 9)).cast nbuf0_3)
/-- The buffer window 4 stages point `t` in. -/
abbrev ms4 (t : Fin (cfgA F).N) : Memref sig .tc .vmem S1x2048x1 .f32 := spec0_4.stage ((cfgA F).slots t (4 : Fin 9))
theorem hs4 (t : Fin (cfgA F).N) : (ms4 (F := F) t).IsWhole := hstage0_4 (((cfgA F).slots t (4 : Fin 9)).cast nbuf0_4)
/-- The buffer window 5 stages point `t` in. -/
abbrev ms5 (t : Fin (cfgA F).N) : Memref sig .tc .vmem S1x2048x1 .f32 := spec0_5.stage ((cfgA F).slots t (5 : Fin 9))
theorem hs5 (t : Fin (cfgA F).N) : (ms5 (F := F) t).IsWhole := hstage0_5 (((cfgA F).slots t (5 : Fin 9)).cast nbuf0_5)
/-- The buffer window 6 stages point `t` in. -/
abbrev ms6 (t : Fin (cfgA F).N) : Memref sig .tc .vmem S1x4096x192 .f32 := spec0_6.stage ((cfgA F).slots t (6 : Fin 9))
theorem hs6 (t : Fin (cfgA F).N) : (ms6 (F := F) t).IsWhole := hstage0_6 (((cfgA F).slots t (6 : Fin 9)).cast nbuf0_6)
/-- The buffer window 7 stages point `t` in. -/
abbrev ms7 (t : Fin (cfgA F).N) : Memref sig .tc .vmem S1x2048x192 .f32 := spec0_7.stage ((cfgA F).slots t (7 : Fin 9))
theorem hs7 (t : Fin (cfgA F).N) : (ms7 (F := F) t).IsWhole := hstage0_7 (((cfgA F).slots t (7 : Fin 9)).cast nbuf0_7)
/-- The buffer window 8 stages point `t` in. -/
abbrev ms8 (t : Fin (cfgA F).N) : Memref sig .tc .vmem S1x2048x128 .f32 := spec0_8.stage ((cfgA F).slots t (8 : Fin 9))
theorem hs8 (t : Fin (cfgA F).N) : (ms8 (F := F) t).IsWhole := hstage0_8 (((cfgA F).slots t (8 : Fin 9)).cast nbuf0_8)
/-- The accumulator of the key gradient. -/
abbrev scK : Memref sig .tc .vmem S2048x192 .f32 := Memref.whole cc0_scratch0
/-- The accumulator of the value gradient. -/
abbrev scV : Memref sig .tc .vmem S2048x128 .f32 := Memref.whole cc0_scratch1

/-- Window `w`'s block at point `t`, read off its array as the kernel finds it. -/
def iblk (c : Dev nD) (w : Fin 9) (t : Fin (cfgA F).N) : (((cfgA F).win w).xblock ((cfgA F).grid.coords t)).Idx → Elt F ((cfgA F).win w).elt :=
  (((cfgA F).win w).blk t).view.read (Elt F) (V m c (Pipeline.arrRef spec0 w))

/-- The point before. -/
def prev (t : Fin (cfgA F).N) : Fin (cfgA F).N := ⟨t.val - 1, Nat.lt_of_le_of_lt (Nat.sub_le _ _) t.isLt⟩

theorem prev_val (t : Fin (cfgA F).N) : (prev t).val = t.val - 1 := rfl

/-! ## The run at a point, and what it leaves -/

/-- The run at the first pair of a head. -/
def ptA (c : Dev nD) (t : Fin (cfgA F).N) (h : t.val % 3 = 0) :=
  runA c (grid0.coords t) (Memref.whole main_c) (Memref.isWhole_whole _) (Memref.whole main_c_0) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) scK (Memref.isWhole_whole _) scV (Memref.isWhole_whole _) fullShare.right fullShare.right (pf 0) (pf 1) (iblk m c 0 t) (iblk m c 1 t) (iblk m c 2 t) (iblk m c 3 t) (iblk m c 4 t) (iblk m c 5 t)  ((cond1_iff t).mpr h) ((word2 t).trans (if_pos h)) ((word3 t).trans (if_neg (by omega)))
/-- The query gradient after the first pair. -/
def dqA (c : Dev nD) (t : Fin (cfgA F).N) (h : t.val % 3 = 0) : Vec F S1x4096x192 .f32 := (ms6 (F := F) t).view.read (Elt F) (ptA m c t h).1
/-- The key gradient's accumulator after the first pair. -/
def kA (c : Dev nD) (t : Fin (cfgA F).N) (h : t.val % 3 = 0) : Vec F S2048x192 .f32 := scK.view.read (Elt F) (ptA m c t h).2.1
/-- The value gradient's accumulator after the first pair. -/
def vA (c : Dev nD) (t : Fin (cfgA F).N) (h : t.val % 3 = 0) : Vec F S2048x128 .f32 := scV.view.read (Elt F) (ptA m c t h).2.2.1
theorem prevA (t : Fin (cfgA F).N) (h : t.val % 3 = 1) : (prev t).val % 3 = 0 := by rw [prev_val]; omega
theorem prevB (t : Fin (cfgA F).N) (h : t.val % 3 = 2) : (prev t).val % 3 = 1 := by rw [prev_val]; omega
/-- The run at the second pair of a head. -/
def ptB (c : Dev nD) (t : Fin (cfgA F).N) (h : t.val % 3 = 1) :=
  runB c (grid0.coords t) (Memref.whole main_c) (Memref.isWhole_whole _) (Memref.whole main_c_0) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) scK (Memref.isWhole_whole _) scV (Memref.isWhole_whole _) fullShare.right fullShare.right (pf 0) (pf 1) (iblk m c 0 t) (iblk m c 1 t) (iblk m c 2 t) (iblk m c 3 t) (iblk m c 4 t) (iblk m c 5 t) (dqA m c (prev t) (prevA t h)) (kA m c (prev t) (prevA t h)) (vA m c (prev t) (prevA t h)) (fun h' => absurd ((cond1_iff t).mp h') (by omega)) ((word2 t).trans (if_neg (by omega))) ((word3 t).trans (if_neg (by omega)))
/-- The query gradient after the second pair. -/
def dqB (c : Dev nD) (t : Fin (cfgA F).N) (h : t.val % 3 = 1) : Vec F S1x4096x192 .f32 := (ms6 (F := F) t).view.read (Elt F) (ptB m c t h).1
/-- The first key tile's gradient. -/
def dkB (c : Dev nD) (t : Fin (cfgA F).N) (h : t.val % 3 = 1) : Vec F S1x2048x192 .f32 := (ms7 (F := F) t).view.read (Elt F) (ptB m c t h).2.1
/-- The first value tile's gradient. -/
def dvB (c : Dev nD) (t : Fin (cfgA F).N) (h : t.val % 3 = 1) : Vec F S1x2048x128 .f32 := (ms8 (F := F) t).view.read (Elt F) (ptB m c t h).2.2.1
/-- The run at the third pair of a head. -/
def ptC (c : Dev nD) (t : Fin (cfgA F).N) (h : t.val % 3 = 2) :=
  runC c (grid0.coords t) (Memref.whole main_c) (Memref.isWhole_whole _) (Memref.whole main_c_0) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) scK (Memref.isWhole_whole _) scV (Memref.isWhole_whole _) fullShare.right fullShare.right (pf 0) (pf 1) (iblk m c 0 t) (iblk m c 1 t) (iblk m c 2 t) (iblk m c 3 t) (iblk m c 4 t) (iblk m c 5 t) (dqB m c (prev t) (prevB t h)) (fun h' => absurd ((cond1_iff t).mp h') (by omega)) ((word2 t).trans (if_neg (by omega))) ((word3 t).trans (if_pos h))
/-- The query gradient after the third pair. -/
def dqC (c : Dev nD) (t : Fin (cfgA F).N) (h : t.val % 3 = 2) : Vec F S1x4096x192 .f32 := (ms6 (F := F) t).view.read (Elt F) (ptC m c t h).1
/-- The second key tile's gradient. -/
def dkC (c : Dev nD) (t : Fin (cfgA F).N) (h : t.val % 3 = 2) : Vec F S1x2048x192 .f32 := (ms7 (F := F) t).view.read (Elt F) (ptC m c t h).2.1
/-- The second value tile's gradient. -/
def dvC (c : Dev nD) (t : Fin (cfgA F).N) (h : t.val % 3 = 2) : Vec F S1x2048x128 .f32 := (ms8 (F := F) t).view.read (Elt F) (ptC m c t h).2.2.1

/-- What a point leaves in the query gradient's buffer. -/
def after6 (c : Dev nD) (t : Fin (cfgA F).N) : Vec F S1x4096x192 .f32 :=
  if h : t.val % 3 = 0 then dqA m c t h else if h : t.val % 3 = 1 then dqB m c t h else dqC m c t (by omega)
/-- What a point leaves in the key gradient's buffer, if it stores into it. -/
def after7 (c : Dev nD) (t : Fin (cfgA F).N) : Vec F S1x2048x192 .f32 :=
  if h : t.val % 3 = 1 then dkB m c t h else if h : t.val % 3 = 2 then dkC m c t h else (ms7 (F := F) t).view.read (Elt F) (ms7 (F := F) t).view.junk
/-- What a point leaves in the value gradient's buffer, if it stores into it. -/
def after8 (c : Dev nD) (t : Fin (cfgA F).N) : Vec F S1x2048x128 .f32 :=
  if h : t.val % 3 = 1 then dvB m c t h else if h : t.val % 3 = 2 then dvC m c t h else (ms8 (F := F) t).view.read (Elt F) (ms8 (F := F) t).view.junk

/-- The accumulators between two points: carried from the first pair of a head to the second, at anything elsewhere. -/
def accs (c : Dev nD) (n : ℕ) (hn : n ≤ (cfgA F).N) : sProp 𝕄 :=
  if h : n % 3 = 1 then
    iprop(owns (c : Thread nD τ) scK fullShare (kA m c ⟨n - 1, by omega⟩ (by show (n - 1) % 3 = 0; omega))
      ∗ owns (c : Thread nD τ) scV fullShare (vA m c ⟨n - 1, by omega⟩ (by show (n - 1) % 3 = 0; omega)))
  else iprop((∃ d, owns (c : Thread nD τ) scK fullShare d) ∗ (∃ d, owns (c : Thread nD τ) scV fullShare d))

/-- The two tables, at half the share. -/
def tabs (c : Dev nD) : sProp 𝕄 := iprop(held c (Memref.whole main_c) fullShare.right (pf 0) ∗ held c (Memref.whole main_c_0) fullShare.right (pf 1))

/-- The invariant between two points. -/
def Phi (c : Dev nD) (n : ℕ) (hn : n ≤ (cfgA F).N) : sProp 𝕄 := iprop(accs m c n hn ∗ (∃ r, prngReg c r) ∗ tabs c)

/-- The proof data of the pipeline on core `c`. -/
def dats (_ : Fin 1) (c : Dev nD) : Dat τ (Elt F) Unit ℕ (UR sig nD τ) ℕ (cfgA F) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => after6 m c t
    | ⟨7, _⟩ => after7 m c t
    | ⟨8, _⟩ => after8 m c t
  Φ t := Phi m c t.val (Nat.le_of_lt_succ t.isLt)
  q _ := fullShare
  owed _ := 0

theorem A_eq (c : Dev nD) (w : Fin 9) : (dats m 0 c).A w = V m c (Pipeline.arrRef spec0 w) := by
  dsimp only [dats]

theorem Phi_castSucc (c : Dev nD) (t : Fin (cfgA F).N) : (dats m 0 c).Φ t.castSucc = Phi m c t.val (Nat.le_of_lt t.isLt) := by
  dsimp only [dats]; exact Pipeline.Dat.Φ_castSucc (Phi m c) t

theorem after_0 (c : Dev nD) (t : Fin (cfgA F).N) : (dats m 0 c).after (0 : Fin 9) t = iblk m c 0 t := by dsimp only [dats]
theorem after_1 (c : Dev nD) (t : Fin (cfgA F).N) : (dats m 0 c).after (1 : Fin 9) t = iblk m c 1 t := by dsimp only [dats]
theorem after_2 (c : Dev nD) (t : Fin (cfgA F).N) : (dats m 0 c).after (2 : Fin 9) t = iblk m c 2 t := by dsimp only [dats]
theorem after_3 (c : Dev nD) (t : Fin (cfgA F).N) : (dats m 0 c).after (3 : Fin 9) t = iblk m c 3 t := by dsimp only [dats]
theorem after_4 (c : Dev nD) (t : Fin (cfgA F).N) : (dats m 0 c).after (4 : Fin 9) t = iblk m c 4 t := by dsimp only [dats]
theorem after_5 (c : Dev nD) (t : Fin (cfgA F).N) : (dats m 0 c).after (5 : Fin 9) t = iblk m c 5 t := by dsimp only [dats]
theorem after_6 (c : Dev nD) (t : Fin (cfgA F).N) : (dats m 0 c).after (6 : Fin 9) t = after6 m c t := by dsimp only [dats]
theorem after_7 (c : Dev nD) (t : Fin (cfgA F).N) : (dats m 0 c).after (7 : Fin 9) t = after7 m c t := by dsimp only [dats]
theorem after_8 (c : Dev nD) (t : Fin (cfgA F).N) : (dats m 0 c).after (8 : Fin 9) t = after8 m c t := by dsimp only [dats]
end Cert.Flash
-- ==== Proof.Frame.lean ====
module

public import proofs.«01_k».proof.Proof.Data
public import Idealize.ShloMosaic.Lib.Pipeline.TableIdle
public import Idealize.ShloMosaic.Lib.Pipeline.FrameBody
public import Idealize.ShloMosaic.Lib.Claim

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## What the body finds -/

theorem before_0 (c : Dev nD) (t : Fin (cfgA F).N) (d) : (dats m 0 c).before (0 : Fin 9) t d = iblk m c 0 t :=
  ((dats m 0 c).before_in_eq_fetched (0 : Fin 9) rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgA F).N) (d) : (dats m 0 c).before (1 : Fin 9) t d = iblk m c 1 t :=
  ((dats m 0 c).before_in_eq_fetched (1 : Fin 9) rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgA F).N) (d) : (dats m 0 c).before (2 : Fin 9) t d = iblk m c 2 t :=
  ((dats m 0 c).before_in_eq_fetched (2 : Fin 9) rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgA F).N) (d) : (dats m 0 c).before (3 : Fin 9) t d = iblk m c 3 t :=
  ((dats m 0 c).before_in_eq_fetched (3 : Fin 9) rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgA F).N) (d) : (dats m 0 c).before (4 : Fin 9) t d = iblk m c 4 t :=
  ((dats m 0 c).before_in_eq_fetched (4 : Fin 9) rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgA F).N) (d) : (dats m 0 c).before (5 : Fin 9) t d = iblk m c 5 t :=
  ((dats m 0 c).before_in_eq_fetched (5 : Fin 9) rfl (fun _ => rfl) (fun _ _ _ => rfl) (fun t => by rw [after_5]; unfold Dat.blockOf iblk; rw [A_eq]; try rfl) t d).trans
    (by unfold Dat.fetched Dat.blockOf iblk; rw [A_eq]; try rfl)

/-- After the first pair of a head the query gradient's buffer holds what the pair before left. -/
theorem before_6 (c : Dev nD) (t : Fin (cfgA F).N) (h : t.val % 3 ≠ 0) (d) : (dats m 0 c).before (6 : Fin 9) t d = after6 m c (prev t) := by
  have hf : ((cfgA F).win (6 : Fin 9)).flush (prev t) = false := (flush6 (F := F) (prev t)).trans (decide_eq_false (by rw [prev_val]; omega))
  have hi := idle6 (F := F) (prev t)
  rw [(dats m 0 c).before_of_pos (6 : Fin 9) t (by omega) (((cfgA F).win (6 : Fin 9)).fetch_out rfl t) d]
  rw [show (⟨t.val - 1, Nat.lt_of_le_of_lt (Nat.sub_le _ _) t.isLt⟩ : Fin (cfgA F).N) = prev t from rfl, hf, if_neg Bool.false_ne_true]
  unfold Dat.left
  rw [hi]
  exact (show (dats m 0 c).kept (6 : Fin 9) (prev t) d = (dats m 0 c).after (6 : Fin 9) (prev t) from rfl).trans (after_6 m c (prev t))

/-! ## The body at a point -/

/-- What the body is called with at point `t`, the windows one by one, -/
def bodyPre (c : Dev nD) (t : Fin (cfgA F).N) : sProp 𝕄 :=
  iprop((dats m 0 c).Φ t.castSucc ∗ (dats m 0 c).owesAt () t.castSucc
    ∗ (∃ d, owns (c : Thread nD τ) (ms0 (F := F) t) fullShare ((dats m 0 c).before (0 : Fin 9) t d))
    ∗ (∃ d, owns (c : Thread nD τ) (ms1 (F := F) t) fullShare ((dats m 0 c).before (1 : Fin 9) t d))
    ∗ (∃ d, owns (c : Thread nD τ) (ms2 (F := F) t) fullShare ((dats m 0 c).before (2 : Fin 9) t d))
    ∗ (∃ d, owns (c : Thread nD τ) (ms3 (F := F) t) fullShare ((dats m 0 c).before (3 : Fin 9) t d))
    ∗ (∃ d, owns (c : Thread nD τ) (ms4 (F := F) t) fullShare ((dats m 0 c).before (4 : Fin 9) t d))
    ∗ (∃ d, owns (c : Thread nD τ) (ms5 (F := F) t) fullShare ((dats m 0 c).before (5 : Fin 9) t d))
    ∗ (∃ d, owns (c : Thread nD τ) (ms6 (F := F) t) fullShare ((dats m 0 c).before (6 : Fin 9) t d))
    ∗ (∃ d, owns (c : Thread nD τ) (ms7 (F := F) t) fullShare ((dats m 0 c).before (7 : Fin 9) t d))
    ∗ (∃ d, owns (c : Thread nD τ) (ms8 (F := F) t) fullShare ((dats m 0 c).before (8 : Fin 9) t d)))

/-- and what it returns. -/
def bodyPost (c : Dev nD) (t : Fin (cfgA F).N) : sProp 𝕄 :=
  iprop((dats m 0 c).Φ t.succ ∗ (dats m 0 c).owesAt () t.succ
    ∗ (dats m 0 c).leavesExact (0 : Fin 9) t
    ∗ (dats m 0 c).leavesExact (1 : Fin 9) t
    ∗ (dats m 0 c).leavesExact (2 : Fin 9) t
    ∗ (dats m 0 c).leavesExact (3 : Fin 9) t
    ∗ (dats m 0 c).leavesExact (4 : Fin 9) t
    ∗ (dats m 0 c).leavesExact (5 : Fin 9) t
    ∗ (dats m 0 c).leavesExact (6 : Fin 9) t
    ∗ (dats m 0 c).leavesExact (7 : Fin 9) t
    ∗ (dats m 0 c).leavesExact (8 : Fin 9) t)

/-- The body's text at point `t`. -/
abbrev bodyAt (t : Fin (cfgA F).N) :=
  cc0_flash_bwd (F := F) (grid0.coords t) (Memref.whole main_c) (Memref.isWhole_whole _) (Memref.whole main_c_0) (Memref.isWhole_whole _) (ms0 (F := F) t) (hs0 t) (ms1 (F := F) t) (hs1 t) (ms2 (F := F) t) (hs2 t) (ms3 (F := F) t) (hs3 t) (ms4 (F := F) t) (hs4 t) (ms5 (F := F) t) (hs5 t) (ms6 (F := F) t) (hs6 t) (ms7 (F := F) t) (hs7 t) (ms8 (F := F) t) (hs8 t) scK (Memref.isWhole_whole _) scV (Memref.isWhole_whole _)

/-- A buffer held at a block is one held at the block's representative. -/
theorem held_of_owns {sp : Space} {sh : Shape} {e : EltTy} (c : Dev nD) (M : Memref sig .tc sp sh e) (q : PosShare TreeShare) (X : sh.Idx → Elt F e) :
    (owns (c : Thread nD τ) M q X : sProp 𝕄) ⊢ held c M q (M.view.rep X) := rep_of_owns (c : Thread nD τ) M q X
theorem owns_of_held {sp : Space} {sh : Shape} {e : EltTy} (c : Dev nD) (M : Memref sig .tc sp sh e) (q : PosShare TreeShare) (X : sh.Idx → Elt F e) :
    held c M q (M.view.rep X) ⊢ (owns (c : Thread nD τ) M q X : sProp 𝕄) := owns_of_rep (c : Thread nD τ) M q X
/-- A buffer held at some contents is one that holds what they read. -/
theorem owns_of_read {sp : Space} {sh : Shape} {e : EltTy} (c : Dev nD) (M : Memref sig .tc sp sh e) (q : PosShare TreeShare) (f : M.view.ty.Contents (Elt F)) :
    held c M q f ⊢ (owns (c : Thread nD τ) M q (M.view.read (Elt F) f) : sProp 𝕄) := by
  unfold held owns
  iintro H
  iexists f
  isplitr
  · ipureintro; rfl
  iexact H

theorem leaves_0 (c : Dev nD) (t : Fin (cfgA F).N) : (dats m 0 c).leavesExact (0 : Fin 9) t = owns (c : Thread nD τ) (ms0 (F := F) t) fullShare (iblk m c 0 t) := by
  unfold Dat.leavesExact; rw [show (cfgA F).idle (0 : Fin 9) ((cfgA F).grid.coords t) = false from rfl, after_0]
theorem leaves_1 (c : Dev nD) (t : Fin (cfgA F).N) : (dats m 0 c).leavesExact (1 : Fin 9) t = owns (c : Thread nD τ) (ms1 (F := F) t) fullShare (iblk m c 1 t) := by
  unfold Dat.leavesExact; rw [show (cfgA F).idle (1 : Fin 9) ((cfgA F).grid.coords t) = false from rfl, after_1]
theorem leaves_2 (c : Dev nD) (t : Fin (cfgA F).N) : (dats m 0 c).leavesExact (2 : Fin 9) t = owns (c : Thread nD τ) (ms2 (F := F) t) fullShare (iblk m c 2 t) := by
  unfold Dat.leavesExact; rw [show (cfgA F).idle (2 : Fin 9) ((cfgA F).grid.coords t) = false from rfl, after_2]
theorem leaves_3 (c : Dev nD) (t : Fin (cfgA F).N) : (dats m 0 c).leavesExact (3 : Fin 9) t = owns (c : Thread nD τ) (ms3 (F := F) t) fullShare (iblk m c 3 t) := by
  unfold Dat.leavesExact; rw [show (cfgA F).idle (3 : Fin 9) ((cfgA F).grid.coords t) = false from rfl, after_3]
theorem leaves_4 (c : Dev nD) (t : Fin (cfgA F).N) : (dats m 0 c).leavesExact (4 : Fin 9) t = owns (c : Thread nD τ) (ms4 (F := F) t) fullShare (iblk m c 4 t) := by
  unfold Dat.leavesExact; rw [show (cfgA F).idle (4 : Fin 9) ((cfgA F).grid.coords t) = false from rfl, after_4]
theorem leaves_5 (c : Dev nD) (t : Fin (cfgA F).N) : (dats m 0 c).leavesExact (5 : Fin 9) t = owns (c : Thread nD τ) (ms5 (F := F) t) fullShare (iblk m c 5 t) := by
  unfold Dat.leavesExact; rw [show (cfgA F).idle (5 : Fin 9) ((cfgA F).grid.coords t) = false from rfl, after_5]
theorem leaves_6 (c : Dev nD) (t : Fin (cfgA F).N) : (dats m 0 c).leavesExact (6 : Fin 9) t = owns (c : Thread nD τ) (ms6 (F := F) t) fullShare (after6 m c t) := by
  unfold Dat.leavesExact; rw [idle6 (F := F) t, after_6]
theorem leaves_7 (c : Dev nD) (t : Fin (cfgA F).N) (h : t.val % 3 ≠ 0) : (dats m 0 c).leavesExact (7 : Fin 9) t = owns (c : Thread nD τ) (ms7 (F := F) t) fullShare (after7 m c t) := by
  unfold Dat.leavesExact; rw [(idle7 (F := F) t).trans (decide_eq_false h), after_7]
theorem leaves_7_idle (c : Dev nD) (t : Fin (cfgA F).N) (h : t.val % 3 = 0) : (dats m 0 c).leavesExact (7 : Fin 9) t = iprop(∃ d, owns (c : Thread nD τ) (ms7 (F := F) t) fullShare ((dats m 0 c).before (7 : Fin 9) t d)) :=
  (dats m 0 c).leavesExact_idle (7 : Fin 9) t ((idle7 (F := F) t).trans (decide_eq_true h)) ((flush7 (F := F) t).trans (decide_eq_false (fun hn => hn h)))
theorem leaves_8 (c : Dev nD) (t : Fin (cfgA F).N) (h : t.val % 3 ≠ 0) : (dats m 0 c).leavesExact (8 : Fin 9) t = owns (c : Thread nD τ) (ms8 (F := F) t) fullShare (after8 m c t) := by
  unfold Dat.leavesExact; rw [(idle8 (F := F) t).trans (decide_eq_false h), after_8]
theorem leaves_8_idle (c : Dev nD) (t : Fin (cfgA F).N) (h : t.val % 3 = 0) : (dats m 0 c).leavesExact (8 : Fin 9) t = iprop(∃ d, owns (c : Thread nD τ) (ms8 (F := F) t) fullShare ((dats m 0 c).before (8 : Fin 9) t d)) :=
  (dats m 0 c).leavesExact_idle (8 : Fin 9) t ((idle8 (F := F) t).trans (decide_eq_true h)) ((flush8 (F := F) t).trans (decide_eq_false (fun hn => hn h)))

set_option maxHeartbeats 4000000 in
/-- The body at the first pair of a head. -/
theorem bodyA (c : Dev nD) (t : Fin (cfgA F).N) (h : t.val % 3 = 0) :
    bodyPre m c t ⊢ wp frame (wpE (defs₀ (F := F)) Variants.none c none) Set.univ (bodyAt t) (fun _ => bodyPost m c t) := by
  unfold bodyPre bodyPost
  simp only [before_0, before_1, before_2, before_3, before_4, before_5]
  rw [leaves_0, leaves_1, leaves_2, leaves_3, leaves_4, leaves_5, leaves_6]
  rw [show (dats m 0 c).owesAt () t.succ = (dats m 0 c).owesAt () t.castSucc from rfl]
  rw [show (dats m 0 c).Φ t.succ = Phi m c (t.val + 1) t.isLt from rfl, Phi_castSucc]
  rw [leaves_7_idle m c t h, leaves_8_idle m c t h, show after6 m c t = dqA m c t h from dif_pos h]
  unfold Phi tabs
  rw [show accs m c t.val (Nat.le_of_lt t.isLt) = iprop((∃ d, owns (c : Thread nD τ) scK fullShare d) ∗ (∃ d, owns (c : Thread nD τ) scV fullShare d)) from dif_neg (by omega)]
  rw [show accs m c (t.val + 1) t.isLt = iprop(owns (c : Thread nD τ) scK fullShare (kA m c t h) ∗ owns (c : Thread nD τ) scV fullShare (vA m c t h)) from dif_pos (by omega)]
  iintro ⟨⟨⟨⟨%dK, HK⟩, ⟨%dV, HV⟩⟩, Hg, ⟨T2, T3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((ptA m c t h).2.2.2 _ _ _ _ _ Set.univ _)
  isplitl [T2]; · iexact T2
  isplitl [T3]; · iexact T3
  isplitl [H0]; · iapply (held_of_owns c _ _ _) $$ H0
  isplitl [H1]; · iapply (held_of_owns c _ _ _) $$ H1
  isplitl [H2]; · iapply (held_of_owns c _ _ _) $$ H2
  isplitl [H3]; · iapply (held_of_owns c _ _ _) $$ H3
  isplitl [H4]; · iapply (held_of_owns c _ _ _) $$ H4
  isplitl [H5]; · iapply (held_of_owns c _ _ _) $$ H5
  isplitl [H6]; · iapply (held_of_owns c _ _ _) $$ H6
  isplitl [H7]; · iapply (held_of_owns c _ _ _) $$ H7
  isplitl [H8]; · iapply (held_of_owns c _ _ _) $$ H8
  isplitl [HK]; · iapply (held_of_owns c _ _ _) $$ HK
  isplitl [HV]; · iapply (held_of_owns c _ _ _) $$ HV
  iintro ⟨T2, T3, H0, H1, H2, H3, H4, H5, H6, H7, H8, HK, HV⟩
  isplitl [HK HV Hg T2 T3]
  · isplitl [HK HV]
    · isplitl [HK]
      · iapply (owns_of_read c _ _ _) $$ HK
      · iapply (owns_of_read c _ _ _) $$ HV
    isplitl [Hg]; · iexact Hg
    isplitl [T2]; · iexact T2
    iexact T3
  isplitl [Ho]; · iexact Ho
  isplitl [H0]; · iapply (owns_of_held c _ _ _) $$ H0
  isplitl [H1]; · iapply (owns_of_held c _ _ _) $$ H1
  isplitl [H2]; · iapply (owns_of_held c _ _ _) $$ H2
  isplitl [H3]; · iapply (owns_of_held c _ _ _) $$ H3
  isplitl [H4]; · iapply (owns_of_held c _ _ _) $$ H4
  isplitl [H5]; · iapply (owns_of_held c _ _ _) $$ H5
  isplitl [H6]; · iapply (owns_of_read c _ _ _) $$ H6
  isplitl [H7]; · iexists d7; iapply (owns_of_held c _ _ _) $$ H7
  iexists d8; iapply (owns_of_held c _ _ _) $$ H8

set_option maxHeartbeats 4000000 in
/-- The body at the second pair of a head. -/
theorem bodyB (c : Dev nD) (t : Fin (cfgA F).N) (h : t.val % 3 = 1) :
    bodyPre m c t ⊢ wp frame (wpE (defs₀ (F := F)) Variants.none c none) Set.univ (bodyAt t) (fun _ => bodyPost m c t) := by
  unfold bodyPre bodyPost
  simp only [before_0, before_1, before_2, before_3, before_4, before_5]
  rw [leaves_0, leaves_1, leaves_2, leaves_3, leaves_4, leaves_5, leaves_6]
  rw [show (dats m 0 c).owesAt () t.succ = (dats m 0 c).owesAt () t.castSucc from rfl]
  rw [show (dats m 0 c).Φ t.succ = Phi m c (t.val + 1) t.isLt from rfl, Phi_castSucc]
  rw [leaves_7 m c t (by omega), leaves_8 m c t (by omega)]
  simp only [before_6 m c t (by omega)]
  rw [show after6 m c t = dqB m c t h from (dif_neg (by omega)).trans (dif_pos h), show after6 m c (prev t) = dqA m c (prev t) (prevA t h) from dif_pos _,
    show after7 m c t = dkB m c t h from dif_pos h, show after8 m c t = dvB m c t h from dif_pos h]
  unfold Phi tabs
  rw [show accs m c (t.val + 1) t.isLt = iprop((∃ d, owns (c : Thread nD τ) scK fullShare d) ∗ (∃ d, owns (c : Thread nD τ) scV fullShare d)) from dif_neg (by omega)]
  rw [show accs m c t.val (Nat.le_of_lt t.isLt) = iprop(owns (c : Thread nD τ) scK fullShare (kA m c (prev t) (prevA t h)) ∗ owns (c : Thread nD τ) scV fullShare (vA m c (prev t) (prevA t h))) from dif_pos h]
  iintro ⟨⟨⟨HK, HV⟩, Hg, ⟨T2, T3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((ptB m c t h).2.2.2.2.2 _ _ Set.univ _)
  isplitl [T2]; · iexact T2
  isplitl [T3]; · iexact T3
  isplitl [H0]; · iapply (held_of_owns c _ _ _) $$ H0
  isplitl [H1]; · iapply (held_of_owns c _ _ _) $$ H1
  isplitl [H2]; · iapply (held_of_owns c _ _ _) $$ H2
  isplitl [H3]; · iapply (held_of_owns c _ _ _) $$ H3
  isplitl [H4]; · iapply (held_of_owns c _ _ _) $$ H4
  isplitl [H5]; · iapply (held_of_owns c _ _ _) $$ H5
  isplitl [H6]; · iapply (held_of_owns c _ _ _) $$ H6
  isplitl [H7]; · iapply (held_of_owns c _ _ _) $$ H7
  isplitl [H8]; · iapply (held_of_owns c _ _ _) $$ H8
  isplitl [HK]; · iapply (held_of_owns c _ _ _) $$ HK
  isplitl [HV]; · iapply (held_of_owns c _ _ _) $$ HV
  iintro ⟨T2, T3, H0, H1, H2, H3, H4, H5, H6, H7, H8, HK, HV⟩
  isplitl [HK HV Hg T2 T3]
  · isplitl [HK HV]
    · isplitl [HK]
      · iexists _; iapply (owns_of_read c _ _ _) $$ HK
      · iexists _; iapply (owns_of_read c _ _ _) $$ HV
    isplitl [Hg]; · iexact Hg
    isplitl [T2]; · iexact T2
    iexact T3
  isplitl [Ho]; · iexact Ho
  isplitl [H0]; · iapply (owns_of_held c _ _ _) $$ H0
  isplitl [H1]; · iapply (owns_of_held c _ _ _) $$ H1
  isplitl [H2]; · iapply (owns_of_held c _ _ _) $$ H2
  isplitl [H3]; · iapply (owns_of_held c _ _ _) $$ H3
  isplitl [H4]; · iapply (owns_of_held c _ _ _) $$ H4
  isplitl [H5]; · iapply (owns_of_held c _ _ _) $$ H5
  isplitl [H6]; · iapply (owns_of_read c _ _ _) $$ H6
  isplitl [H7]; · iapply (owns_of_read c _ _ _) $$ H7
  iapply (owns_of_read c _ _ _) $$ H8

set_option maxHeartbeats 4000000 in
/-- The body at the third pair of a head. -/
theorem bodyC (c : Dev nD) (t : Fin (cfgA F).N) (h : t.val % 3 = 2) :
    bodyPre m c t ⊢ wp frame (wpE (defs₀ (F := F)) Variants.none c none) Set.univ (bodyAt t) (fun _ => bodyPost m c t) := by
  unfold bodyPre bodyPost
  simp only [before_0, before_1, before_2, before_3, before_4, before_5]
  rw [leaves_0, leaves_1, leaves_2, leaves_3, leaves_4, leaves_5, leaves_6]
  rw [show (dats m 0 c).owesAt () t.succ = (dats m 0 c).owesAt () t.castSucc from rfl]
  rw [show (dats m 0 c).Φ t.succ = Phi m c (t.val + 1) t.isLt from rfl, Phi_castSucc]
  rw [leaves_7 m c t (by omega), leaves_8 m c t (by omega)]
  simp only [before_6 m c t (by omega)]
  rw [show after6 m c t = dqC m c t h from (dif_neg (by omega)).trans (dif_neg (by omega)),
    show after6 m c (prev t) = dqB m c (prev t) (prevB t h) from (dif_neg (by have := prevB t h; omega)).trans (dif_pos _),
    show after7 m c t = dkC m c t h from (dif_neg (by omega)).trans (dif_pos h), show after8 m c t = dvC m c t h from (dif_neg (by omega)).trans (dif_pos h)]
  unfold Phi tabs
  rw [show accs m c t.val (Nat.le_of_lt t.isLt) = iprop((∃ d, owns (c : Thread nD τ) scK fullShare d) ∗ (∃ d, owns (c : Thread nD τ) scV fullShare d)) from dif_neg (by omega)]
  rw [show accs m c (t.val + 1) t.isLt = iprop((∃ d, owns (c : Thread nD τ) scK fullShare d) ∗ (∃ d, owns (c : Thread nD τ) scV fullShare d)) from dif_neg (by omega)]
  iintro ⟨⟨⟨⟨%dK, HK⟩, ⟨%dV, HV⟩⟩, Hg, ⟨T2, T3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((ptC m c t h).2.2.2.2.2 _ _ _ _ Set.univ _)
  isplitl [T2]; · iexact T2
  isplitl [T3]; · iexact T3
  isplitl [H0]; · iapply (held_of_owns c _ _ _) $$ H0
  isplitl [H1]; · iapply (held_of_owns c _ _ _) $$ H1
  isplitl [H2]; · iapply (held_of_owns c _ _ _) $$ H2
  isplitl [H3]; · iapply (held_of_owns c _ _ _) $$ H3
  isplitl [H4]; · iapply (held_of_owns c _ _ _) $$ H4
  isplitl [H5]; · iapply (held_of_owns c _ _ _) $$ H5
  isplitl [H6]; · iapply (held_of_owns c _ _ _) $$ H6
  isplitl [H7]; · iapply (held_of_owns c _ _ _) $$ H7
  isplitl [H8]; · iapply (held_of_owns c _ _ _) $$ H8
  isplitl [HK]; · iapply (held_of_owns c _ _ _) $$ HK
  isplitl [HV]; · iapply (held_of_owns c _ _ _) $$ HV
  iintro ⟨T2, T3, H0, H1, H2, H3, H4, H5, H6, H7, H8, HK, HV⟩
  isplitl [HK HV Hg T2 T3]
  · isplitl [HK HV]
    · isplitl [HK]
      · iexists _; iapply (owns_of_read c _ _ _) $$ HK
      · iexists _; iapply (owns_of_read c _ _ _) $$ HV
    isplitl [Hg]; · iexact Hg
    isplitl [T2]; · iexact T2
    iexact T3
  isplitl [Ho]; · iexact Ho
  isplitl [H0]; · iapply (owns_of_held c _ _ _) $$ H0
  isplitl [H1]; · iapply (owns_of_held c _ _ _) $$ H1
  isplitl [H2]; · iapply (owns_of_held c _ _ _) $$ H2
  isplitl [H3]; · iapply (owns_of_held c _ _ _) $$ H3
  isplitl [H4]; · iapply (owns_of_held c _ _ _) $$ H4
  isplitl [H5]; · iapply (owns_of_held c _ _ _) $$ H5
  isplitl [H6]; · iapply (owns_of_read c _ _ _) $$ H6
  isplitl [H7]; · iapply (owns_of_read c _ _ _) $$ H7
  iapply (owns_of_read c _ _ _) $$ H8

theorem defs₀_row (t : Fin (cfgA F).N) :
    defs₀ (F := F) .tc (cfgA F).body ((cfgA F).bodyArgs t ((cfgA F).slots t)) = bodyAt t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  have h3 : t.val % 3 = 0 ∨ t.val % 3 = 1 ∨ t.val % 3 = 2 := by omega
  have hb : bodyPre m c t ⊢ wp frame (wpE (defs₀ (F := F)) Variants.none c none) Set.univ (bodyAt t) (fun _ => bodyPost m c t) := by
    rcases h3 with h | h | h
    · exact bodyA m c t h
    · exact bodyB m c t h
    · exact bodyC m c t h
  exact triple_restated hb rfl .rfl fun _ => .rfl

end Cert.Flash
-- ==== Proof.Run.lean ====
module

public import proofs.«01_k».proof.Proof.Frame

@[expose] public section

set_option maxRecDepth 16384

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the host leaves as they were, and the tables it fills -/

/-- The host writes no argument. -/
theorem V_arg0 (c : Dev nD) : V m c main_arg0 = m ((c : Thread nD τ).loc main_arg0) := by
  unfold V; simp only [opss, List.flatten_cons, List.flatten_nil, List.cons_append, List.nil_append, List.append_nil]
  after_results
theorem V_arg1 (c : Dev nD) : V m c main_arg1 = m ((c : Thread nD τ).loc main_arg1) := by
  unfold V; simp only [opss, List.flatten_cons, List.flatten_nil, List.cons_append, List.nil_append, List.append_nil]
  after_results
theorem V_arg2 (c : Dev nD) : V m c main_arg2 = m ((c : Thread nD τ).loc main_arg2) := by
  unfold V; simp only [opss, List.flatten_cons, List.flatten_nil, List.cons_append, List.nil_append, List.append_nil]
  after_results
theorem V_arg3 (c : Dev nD) : V m c main_arg3 = m ((c : Thread nD τ).loc main_arg3) := by
  unfold V; simp only [opss, List.flatten_cons, List.flatten_nil, List.cons_append, List.nil_append, List.append_nil]
  after_results
/-- The host fills the two tables. -/
theorem V_c (c : Dev nD) : V m c main_c = pf 0 := by
  unfold V; simp only [opss, List.flatten_cons, List.flatten_nil, List.cons_append, List.nil_append, List.append_nil]
  after_results
  rfl
theorem V_c_0 (c : Dev nD) : V m c main_c_0 = pf 1 := by
  unfold V; simp only [opss, List.flatten_cons, List.flatten_nil, List.cons_append, List.nil_append, List.append_nil]
  after_results
  rfl
theorem V_tab (c : Dev nD) (k : Fin pre0.K) : V m c (pre0.ref k) = pf k := by
  match k with
  | ⟨0, _⟩ => exact V_c m c
  | ⟨1, _⟩ => exact V_c_0 m c

/-! ## The launch -/

/-- The tables as the launch hands them over. -/
theorem tabs_eq (c : Dev nD) : (Pipeline.ΦT pre0 (pf (F := F)) c : sProp 𝕄) = tabs c := by
  show (bigSep Finset.univ fun k : Fin 2 => (((c.tc : Thread nD τ).loc (pre0.ref k)) ↦{fullShare.right} pf k : sProp 𝕄)) = _
  rw [bigSep_fin_two]
  unfold tabs held
  rw [View.set_whole, View.set_whole]
  rfl

/-- The scratch buffers as the launch hands them over. -/
theorem PhiA_eq (c : Dev nD) : (Pipeline.ΦA spec0 c : sProp 𝕄)
    = iprop(((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

theorem hin (c : Dev nD) : iprop(Pipeline.ΦA spec0 c ∗ Pipeline.ΦT pre0 (pf (F := F)) c) ⊢ (dats m 0 c).Φ 0 := by
  rw [show (dats m 0 c).Φ 0 = Phi m c 0 (Nat.zero_le _) from rfl, PhiA_eq, tabs_eq]
  unfold Phi
  rw [show accs m c 0 (Nat.zero_le _) = iprop((∃ d, owns (c : Thread nD τ) scK fullShare d) ∗ (∃ d, owns (c : Thread nD τ) scV fullShare d)) from dif_neg (by omega)]
  iintro ⟨⟨Hs, Hg⟩, Ht⟩
  isplitl [Hs]; · iexact Hs
  isplitl [Hg]; · iexact Hg
  iexact Ht

theorem hout (c : Dev nD) : (dats m 0 c).Φ (Fin.last (cfgA F).N) ⊢ Pipeline.ΦA spec0 c := by
  rw [show (dats m 0 c).Φ (Fin.last (cfgA F).N) = Phi m c (cfgA F).N (Nat.le_refl _) from rfl, PhiA_eq]
  unfold Phi
  rw [show accs m c (cfgA F).N (Nat.le_refl _) = iprop((∃ d, owns (c : Thread nD τ) scK fullShare d) ∗ (∃ d, owns (c : Thread nD τ) scV fullShare d)) from dif_neg (by rw [show (cfgA F).N = 24 from N_0]; omega)]
  iintro ⟨Hs, Hg, -⟩
  isplitl [Hs]; · iexact Hs
  iexact Hg

set_option backward.isDefEq.respectTransparency.types false in
/-- The run: every output array ends as the points left it, every other buffer as the host left it, and every semaphore counter at zero. -/
theorem run_main : θ_run defs (onTc (τ := τ) (main (F := F))) (s₀ m ρ)
    (fun r => Pipeline.FramePost (Pipeline.pin pcfgs fun _ => adm) (dats m) (0 : Fin 1) (V m) r ∧ r.2.sem = fun _ => 0) :=
  Pipeline.θ_run_frameP_track (Q' := _) pcfgs (fun _ => adm) (dats m) (0 : Fin 1) launch0 defs₀ Variants.none m ρ main
    (hbody := fun c => (body_obligation m c).loose)
    (hshare := fun c w => (dats m 0 c).share_full (fun _ => rfl) w)
    (howed := fun _ _ => rfl) (V := V m) (hmain := hmain m Variants.none) (hA := A_eq m) (hpf := V_tab m) (hin := hin m) (hout := hout m)

/-- What an input's array holds at the end: what the kernel found there. -/
theorem arr_in (c : Dev nD) (w : Fin 9) (hw : ((cfgA F).win w).isOut = false) : (dats m 0 c).arrAt w (cfgA F).N = V m c (Pipeline.arrRef spec0 w) :=
  ((dats m 0 c).arrAt_in w hw _).trans (A_eq m c w)

/-- The array a window ends with. -/
theorem arr_end {r : PUnit × MemSt nD τ sig (Elt F)} (h : Pipeline.FramePost (Pipeline.pin pcfgs fun _ => adm) (dats m) (0 : Fin 1) (V m) r) (c : Dev nD) (w : Fin 9) :
    r.2.mem ((spec0 w).arr.view.loc (c.tc : Thread nD τ)) = (dats m 0 c).arrAt w (cfgA F).N := (h c).1 w

theorem end_arg0 {r : PUnit × MemSt nD τ sig (Elt F)} (h : Pipeline.FramePost (Pipeline.pin pcfgs fun _ => adm) (dats m) (0 : Fin 1) (V m) r) (c : Dev nD) :
    r.2.mem ((c.tc : Thread nD τ).loc main_arg0) = m ((c.tc : Thread nD τ).loc main_arg0) :=
  ((arr_end m h c 0).trans (arr_in m c 0 rfl)).trans (V_arg0 m c)
theorem end_arg1 {r : PUnit × MemSt nD τ sig (Elt F)} (h : Pipeline.FramePost (Pipeline.pin pcfgs fun _ => adm) (dats m) (0 : Fin 1) (V m) r) (c : Dev nD) :
    r.2.mem ((c.tc : Thread nD τ).loc main_arg1) = m ((c.tc : Thread nD τ).loc main_arg1) :=
  ((arr_end m h c 1).trans (arr_in m c 1 rfl)).trans (V_arg1 m c)
theorem end_arg2 {r : PUnit × MemSt nD τ sig (Elt F)} (h : Pipeline.FramePost (Pipeline.pin pcfgs fun _ => adm) (dats m) (0 : Fin 1) (V m) r) (c : Dev nD) :
    r.2.mem ((c.tc : Thread nD τ).loc main_arg2) = m ((c.tc : Thread nD τ).loc main_arg2) :=
  ((arr_end m h c 2).trans (arr_in m c 2 rfl)).trans (V_arg2 m c)
theorem end_arg3 {r : PUnit × MemSt nD τ sig (Elt F)} (h : Pipeline.FramePost (Pipeline.pin pcfgs fun _ => adm) (dats m) (0 : Fin 1) (V m) r) (c : Dev nD) :
    r.2.mem ((c.tc : Thread nD τ).loc main_arg3) = m ((c.tc : Thread nD τ).loc main_arg3) :=
  ((arr_end m h c 3).trans (arr_in m c 3 rfl)).trans (V_arg3 m c)

/-- The arguments end unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨end_arg0 m h.1 c, end_arg1 m h.1 c, end_arg2 m h.1 c, end_arg3 m h.1 c⟩, h.2⟩) (run_main m ρ)

/-- The three results end as the points left their arrays, the arguments unchanged. -/
theorem results : θ_run defs (onTc (τ := τ) (main (F := F))) ⟨m, fun _ => 0, ρ⟩ (fun r => ∀ c : Dev nD,
      r.2.mem ((c.tc : Thread nD τ).loc main_v46_0) = (dats m 0 c).arrAt (6 : Fin 9) (cfgA F).N
      ∧ r.2.mem ((c.tc : Thread nD τ).loc main_v46_1) = (dats m 0 c).arrAt (7 : Fin 9) (cfgA F).N
      ∧ r.2.mem ((c.tc : Thread nD τ).loc main_v46_2) = (dats m 0 c).arrAt (8 : Fin 9) (cfgA F).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨arr_end m h.1 c 6, arr_end m h.1 c 7, arr_end m h.1 c 8,
    end_arg0 m h.1 c, end_arg1 m h.1 c, end_arg2 m h.1 c, end_arg3 m h.1 c⟩) (run_main m ρ)

end Cert.Flash
-- ==== Proof.Spec.lean ====
module

public import proofs.«01_k».proof.Proof.Data
public import Idealize.ShloMosaic.Lib.Pointwise
public import Idealize.ShloMosaic.Lib.WritesUnit
public import Idealize.ShloMosaic.Lib.WordCmp

@[expose] public section

noncomputable section

namespace Cert.Flash

open Cert.KernelIdeal Cert.KernelIdeal.Gen
open Idealize.ShloMosaic

/-! # One tile of the gradient, as sums over rows and columns of extended reals -/

/-- Row `r` of the row group that begins at row `o` of a tile. -/
abbrev row (o : ℕ) (ho : o + 256 ≤ 2048) (r : Fin 256) : Fin 2048 := ⟨o + r.val, by omega⟩

section Tile

variable (q k : Vec Ideal S1x2048x192 .bf16) (v w : Vec Ideal S1x2048x128 .bf16) (l e : Vec Ideal S1x2048x1 .f32)

/-- The score of row `r` and column `c`. -/
def sc (r c : Fin 2048) : EReal := ∑ x : Fin 192, q (ix3 0 r x) * k (ix3 0 c x)
/-- The gradient of a weight, less the row's mean. -/
def dp (r c : Fin 2048) : EReal := (∑ x : Fin 128, w (ix3 0 r x) * v (ix3 0 c x)) - e (ix3 0 r 0)
/-- The weight of row `r` and column `c` on the diagonal, where the columns past the row are shut off. -/
def pd (r c : Fin 2048) : EReal :=
  Ideal.exp ((if c.val ≤ r.val then sc q k r c else Ideal.ofBits .f32 0xFF800000#32) - l (ix3 0 r 0))
/-- The weight of row `r` and column `c` off the diagonal. -/
def po (r c : Fin 2048) : EReal := Ideal.exp (sc q k r c - l (ix3 0 r 0))
/-- The gradient of a score on the diagonal. -/
def sd (r c : Fin 2048) : EReal := pd q k l r c * dp v w e r c
/-- The gradient of a score off the diagonal. -/
def so (r c : Fin 2048) : EReal := po q k l r c * dp v w e r c

/-- The word of negative infinity is the least extended real. -/
theorem ofBits_negInf : Ideal.ofBits .f32 0xFF800000#32 = (⊥ : EReal) := by
  simp [Ideal.ofBits, Ideal.ieee]

/-- A weight past the diagonal is nought. -/
theorem pd_zero (r c : Fin 2048) (h : r.val < c.val) : pd q k l r c = 0 := by
  unfold pd
  rw [if_neg (by omega), ofBits_negInf, sub_eq_add_neg, EReal.bot_add, Ideal.exp_bot]

/-- A score's gradient past the diagonal is nought. -/
theorem sd_zero (r c : Fin 2048) (h : r.val < c.val) : sd q k v w l e r c = 0 := by
  unfold sd
  rw [pd_zero q k l r c h, zero_mul]

end Tile

/-- What one row group adds to an accumulator: the sum over the group's rows of a matrix's entry times a row's entry. -/
def grp {D : ℕ} (P : Fin 2048 → Fin 2048 → EReal) (X : Fin 2048 → Fin D → EReal) (o : ℕ) (ho : o + 256 ≤ 2048)
    (c : Fin 2048) (d : Fin D) : EReal := ∑ r : Fin 256, P (row o ho r) c * X (row o ho r) d

/-- A group whose entries in a column are all nought adds nothing to it. -/
theorem grp_zero {D : ℕ} (P : Fin 2048 → Fin 2048 → EReal) (X : Fin 2048 → Fin D → EReal) (o : ℕ) (ho : o + 256 ≤ 2048)
    (c : Fin 2048) (d : Fin D) (h : ∀ r : Fin 256, P (row o ho r) c = 0) : grp P X o ho c d = 0 :=
  Finset.sum_eq_zero fun r _ => by rw [h r, zero_mul]

/-- The eight groups of a tile, one after the other, are all its rows. -/
theorem groups {D : ℕ} (P : Fin 2048 → Fin 2048 → EReal) (X : Fin 2048 → Fin D → EReal) (a : EReal) (c : Fin 2048) (d : Fin D) :
    a + grp P X 0 (by decide) c d + grp P X 256 (by decide) c d + grp P X 512 (by decide) c d + grp P X 768 (by decide) c d
      + grp P X 1024 (by decide) c d + grp P X 1280 (by decide) c d + grp P X 1536 (by decide) c d + grp P X 1792 (by decide) c d
      = a + ∑ r : Fin 2048, P r c * X r d := by
  have h (g : Fin 8) (o : ℕ) (ho : o + 256 ≤ 2048) (e : o = 256 * g.val) :
      ∑ r : Fin 256, P (finProdFinEquiv (m := 8) (n := 256) (g, r)) c * X (finProdFinEquiv (m := 8) (n := 256) (g, r)) d = grp P X o ho c d := by
    refine Finset.sum_congr rfl fun r _ => ?_
    have hr : (finProdFinEquiv (m := 8) (n := 256) (g, r) : Fin 2048) = row o ho r := Fin.ext (by
      show r.val + 256 * g.val = o + r.val; omega)
    rw [hr]
  rw [(Equiv.sum_comp (finProdFinEquiv (m := 8) (n := 256)) (fun r : Fin 2048 => P r c * X r d)).symm, Fintype.sum_prod_type,
    Fin.sum_univ_eight, h 0 0 (by decide) rfl, h 1 256 (by decide) rfl, h 2 512 (by decide) rfl, h 3 768 (by decide) rfl,
    h 4 1024 (by decide) rfl, h 5 1280 (by decide) rfl, h 6 1536 (by decide) rfl, h 7 1792 (by decide) rfl]
  simp only [← add_assoc]

/-- A sum whose terms are nought from `n` on stops there. -/
theorem sum_cut (n : ℕ) (hn : n ≤ 2048) (T : Fin 2048 → EReal) (h : ∀ c : Fin 2048, n ≤ c.val → T c = 0) :
    ∑ c : Fin n, T ⟨c.val, by omega⟩ = ∑ c : Fin 2048, T c := by
  let G : ℕ → EReal := fun i => if hi : i < 2048 then T ⟨i, hi⟩ else 0
  have e1 : ∀ c : Fin n, T ⟨c.val, by omega⟩ = G c.val := fun c => by
    show _ = if hi : c.val < 2048 then T ⟨c.val, hi⟩ else 0
    rw [dif_pos (show c.val < 2048 by omega)]
  have e2 : ∀ c : Fin 2048, T c = G c.val := fun c => by
    show _ = if hi : c.val < 2048 then T ⟨c.val, hi⟩ else 0
    rw [dif_pos c.isLt]
  rw [Finset.sum_congr rfl (fun c _ => e1 c), Finset.sum_congr rfl (fun c _ => e2 c), Fin.sum_univ_eq_sum_range G n,
    Fin.sum_univ_eq_sum_range G 2048]
  refine Finset.sum_subset (Finset.range_mono hn) fun i hi hni => ?_
  show (if hi : i < 2048 then T ⟨i, hi⟩ else 0) = 0
  rw [dif_pos (Finset.mem_range.mp hi)]
  exact h _ (Nat.le_of_not_lt fun hh => hni (Finset.mem_range.mpr hh))

/-- A row of one tile's product: the sum over the columns of a matrix's entry times a column's entry. -/
def tot {D : ℕ} (P : Fin 2048 → Fin 2048 → EReal) (X : Fin 2048 → Fin D → EReal) (r : Fin 2048) (d : Fin D) : EReal :=
  ∑ c : Fin 2048, P r c * X c d

/-- On the diagonal a row group's product stops with the group's last column. -/
theorem cut {D : ℕ} (P : Fin 2048 → Fin 2048 → EReal) (X : Fin 2048 → Fin D → EReal) (o : ℕ) (ho : o + 256 ≤ 2048) (n : ℕ)
    (hn : n = o + 256) (hP : ∀ r c : Fin 2048, r.val < c.val → P r c = 0) (r : Fin 256) (d : Fin D) :
    ∑ c : Fin n, P (row o ho r) ⟨c.val, by omega⟩ * X ⟨c.val, by omega⟩ d = tot P X (row o ho r) d :=
  sum_cut n (by omega) (fun c => P (row o ho r) c * X c d) fun c hc => by
    show P (row o ho r) c * X c d = 0
    rw [hP _ c (by show o + r.val < c.val; omega), zero_mul]

section Lists

variable {sig : RefSig} {κ : Kind} {sp : Space}

/-- A load of what a list of stores left, entry by entry. -/
theorem readCov_fun {s : Shape} {e : EltTy} (z : View sig κ sp s e) (L : List (View.Piece (Elt Ideal) s e)) (B : LoadRect s) :
    z.readCov L B = fun y => z.read (Elt Ideal) (z.writes (Elt Ideal) z.junk L) (B.idx y) := rfl

/-- A store of the rows below `n`, each what was there plus a term that is nought from row `n` on, adds the term everywhere. -/
theorem read_rows {n D : ℕ} (z : View sig κ sp (⟨2, ![2048, D]⟩ : Shape) .f32) (f : z.ty.Contents (Elt Ideal))
    (inb : ∀ a : Fin 2, (![0, 0] : Fin 2 → ℕ) a + (![n, D] : Fin 2 → ℕ) a ≤ (![2048, D] : Fin 2 → ℕ) a)
    (u : (⟨2, ![n, D]⟩ : Shape).Idx → EReal) (L : List (View.Piece (Elt Ideal) (⟨2, ![2048, D]⟩ : Shape) .f32))
    (g T : Fin 2048 → Fin D → EReal) (hn : n ≤ 2048)
    (hL : ∀ c d, z.read (Elt Ideal) (z.writes (Elt Ideal) f L) (ix2 c d) = g c d)
    (hu : ∀ g : Fin 2048 → Fin D → EReal, (∀ c d, z.read (Elt Ideal) (z.writes (Elt Ideal) f L) (ix2 c d) = g c d) →
      ∀ (c : Fin n) (d : Fin D), u (ix2 c d) = g ⟨c.val, by omega⟩ d + T ⟨c.val, by omega⟩ d)
    (h0 : ∀ (c : Fin 2048) (d : Fin D), n ≤ c.val → T c d = 0) : ∀ (c : Fin 2048) (d : Fin D),
    z.read (Elt Ideal) (z.writes (Elt Ideal) f
      (⟨Rect.unit (s := (⟨2, ![2048, D]⟩ : Shape)) ![0, 0] ![n, D] inb, u⟩ :: L)) (ix2 c d) = g c d + T c d := by
  intro c d
  by_cases hc : c.val < n
  · rw [View.read_writes_cons_unit_of_mem z f inb u L (ix2 c d) (ix2 ⟨c.val, hc⟩ d) rfl
      (Fin.forall_fin_two.mpr ⟨(Nat.zero_add _).symm, (Nat.zero_add _).symm⟩)]
    exact hu g hL ⟨c.val, hc⟩ d
  · rw [View.read_writes_cons_unit_of_not_mem z f inb u L (ix2 c d) rfl (0 : Fin 2) (Or.inr (by
      show 0 + n ≤ c.val; omega)), hL, h0 c d (by omega), add_zero]

/-- A store over a whole tile leaves what was stored. -/
theorem read_whole {D : ℕ} (z : View sig κ sp (⟨2, ![2048, D]⟩ : Shape) .f32) (f : z.ty.Contents (Elt Ideal))
    (inb : ∀ a : Fin 2, (![0, 0] : Fin 2 → ℕ) a + (![2048, D] : Fin 2 → ℕ) a ≤ (![2048, D] : Fin 2 → ℕ) a)
    (u : (⟨2, ![2048, D]⟩ : Shape).Idx → EReal) (L : List (View.Piece (Elt Ideal) (⟨2, ![2048, D]⟩ : Shape) .f32))
    (c : Fin 2048) (d : Fin D) :
    z.read (Elt Ideal) (z.writes (Elt Ideal) f
      (⟨Rect.unit (s := (⟨2, ![2048, D]⟩ : Shape)) ![0, 0] ![2048, D] inb, u⟩ :: L)) (ix2 c d) = u (ix2 c d) :=
  View.read_writes_cons_unit_of_mem z f inb u L (ix2 c d) (ix2 c d) rfl
    (Fin.forall_fin_two.mpr ⟨(Nat.zero_add _).symm, (Nat.zero_add _).symm⟩)

/-- The same of a block of one tile. -/
theorem read_whole3 {N D : ℕ} (z : View sig κ sp (⟨3, ![1, N, D]⟩ : Shape) .f32) (f : z.ty.Contents (Elt Ideal))
    (inb : ∀ a : Fin 3, (![0, 0, 0] : Fin 3 → ℕ) a + (![1, N, D] : Fin 3 → ℕ) a ≤ (![1, N, D] : Fin 3 → ℕ) a)
    (u : (⟨3, ![1, N, D]⟩ : Shape).Idx → EReal) (L : List (View.Piece (Elt Ideal) (⟨3, ![1, N, D]⟩ : Shape) .f32))
    (c : Fin N) (d : Fin D) :
    z.read (Elt Ideal) (z.writes (Elt Ideal) f
      (⟨Rect.unit (s := (⟨3, ![1, N, D]⟩ : Shape)) ![0, 0, 0] ![1, N, D] inb, u⟩ :: L)) (ix3 0 c d) = u (ix3 0 c d) :=
  View.read_writes_cons_unit_of_mem z f inb u L (ix3 0 c d) (ix3 0 c d) rfl (fun a => match a with
    | ⟨0, _⟩ => rfl
    | ⟨1, _⟩ => (Nat.zero_add _).symm
    | ⟨2, _⟩ => (Nat.zero_add _).symm)

/-- The rows of the query gradient that a pair has been through so far, `o` of them from row `b` on: each what it was
plus a term, and the other rows what they were. -/
def upTo (b : ℕ) (x : Fin 4096 → Fin 192 → EReal) (Z : Fin 2048 → Fin 192 → EReal) (o : ℕ) (R : Fin 4096) (d : Fin 192) : EReal :=
  if b ≤ R.val ∧ R.val < b + o then x R d + Z ⟨R.val % 2048, Nat.mod_lt _ (by decide)⟩ d else x R d

theorem upTo_zero (b : ℕ) (x : Fin 4096 → Fin 192 → EReal) (Z : Fin 2048 → Fin 192 → EReal) (R : Fin 4096) (d : Fin 192) :
    upTo b x Z 0 R d = x R d := if_neg (by omega)

/-- A store of one row group into the query gradient takes the pair on by that group: what is stored adds to what was there first. -/
theorem read_group_at (z : View sig κ sp S1x4096x192 .f32) (f : z.ty.Contents (Elt Ideal)) (b o s : ℕ) (hb : b % 2048 = 0)
    (hb2 : b + 2048 ≤ 4096) (ho : o + 256 ≤ 2048) (hs : s = b + o)
    (inb : ∀ a : Fin 3, (![0, s, 0] : Fin 3 → ℕ) a + (![1, 256, 192] : Fin 3 → ℕ) a ≤ (![1, 4096, 192] : Fin 3 → ℕ) a)
    (u : (⟨3, ![1, 256, 192]⟩ : Shape).Idx → EReal) (L : List (View.Piece (Elt Ideal) S1x4096x192 .f32))
    (x : Fin 4096 → Fin 192 → EReal) (Z : Fin 2048 → Fin 192 → EReal)
    (hL : ∀ R d, z.read (Elt Ideal) (z.writes (Elt Ideal) f L) (ix3 0 R d) = upTo b x Z o R d)
    (hu : ∀ (r : Fin 256) (d : Fin 192), u (ix3 0 r d) = x ⟨s + r.val, by omega⟩ d + Z (row o ho r) d) :
    ∀ (R : Fin 4096) (d : Fin 192),
    z.read (Elt Ideal) (z.writes (Elt Ideal) f
      (⟨Rect.unit (s := S1x4096x192) ![0, s, 0] ![1, 256, 192] inb, u⟩ :: L)) (ix3 0 R d) = upTo b x Z (o + 256) R d := by
  intro R d
  subst hs
  by_cases hR : b + o ≤ R.val ∧ R.val < b + o + 256
  · rw [View.read_writes_cons_unit_of_mem z f inb u L (ix3 0 R d) (ix3 0 ⟨R.val - (b + o), by omega⟩ d) rfl (fun a => match a with
      | ⟨0, _⟩ => rfl
      | ⟨1, _⟩ => by show R.val = b + o + (R.val - (b + o)); omega
      | ⟨2, _⟩ => (Nat.zero_add _).symm)]
    refine (hu _ d).trans ?_
    unfold upTo
    rw [if_pos (by omega)]
    refine congrArg₂ (· + ·) (congrArg (x · d) (Fin.ext ?_)) (congrArg (Z · d) (Fin.ext ?_))
    · show b + o + (R.val - (b + o)) = R.val; omega
    · show o + (R.val - (b + o)) = R.val % 2048; omega
  · rw [View.read_writes_cons_unit_of_not_mem z f inb u L (ix3 0 R d) rfl (1 : Fin 3) (by
      show R.val < b + o ∨ b + o + 256 ≤ R.val; omega), hL]
    unfold upTo
    by_cases h : b ≤ R.val ∧ R.val < b + o
    · rw [if_pos h, if_pos (by omega)]
    · rw [if_neg h, if_neg (by omega)]

/-- A store of one row group into the query gradient takes the pair on by that group: what is stored adds to what is there. -/
theorem read_group (z : View sig κ sp S1x4096x192 .f32) (f : z.ty.Contents (Elt Ideal)) (b o s : ℕ) (hb : b % 2048 = 0)
    (hb2 : b + 2048 ≤ 4096) (ho : o + 256 ≤ 2048) (hs : s = b + o)
    (inb : ∀ a : Fin 3, (![0, s, 0] : Fin 3 → ℕ) a + (![1, 256, 192] : Fin 3 → ℕ) a ≤ (![1, 4096, 192] : Fin 3 → ℕ) a)
    (u : (⟨3, ![1, 256, 192]⟩ : Shape).Idx → EReal) (L : List (View.Piece (Elt Ideal) S1x4096x192 .f32))
    (x : Fin 4096 → Fin 192 → EReal) (Z : Fin 2048 → Fin 192 → EReal)
    (hL : ∀ R d, z.read (Elt Ideal) (z.writes (Elt Ideal) f L) (ix3 0 R d) = upTo b x Z o R d)
    (hu : ∀ x : Fin 4096 → Fin 192 → EReal, (∀ (R : Fin 4096) d, b + o ≤ R.val → z.read (Elt Ideal) (z.writes (Elt Ideal) f L) (ix3 0 R d) = x R d) →
      ∀ (r : Fin 256) (d : Fin 192), u (ix3 0 r d) = x ⟨s + r.val, by omega⟩ d + Z (row o ho r) d) :
    ∀ (R : Fin 4096) (d : Fin 192),
    z.read (Elt Ideal) (z.writes (Elt Ideal) f
      (⟨Rect.unit (s := S1x4096x192) ![0, s, 0] ![1, 256, 192] inb, u⟩ :: L)) (ix3 0 R d) = upTo b x Z (o + 256) R d :=
  read_group_at z f b o s hb hb2 ho hs inb u L x Z hL (hu x fun R d h => (hL R d).trans (if_neg (by omega)))

/-- A comparison of small words is that of the numbers. -/
theorem select_le (a b n : ℕ) (x y : EReal) (ha : a < 2048) (hb : n + b < 2048) :
    Scalar.select (IntOp.cmpi CmpIPredicate.sle (BitVec.ofNat 32 a) (IntOp.addi (BitVec.ofNat 32 b) (BitVec.ofNat 32 n))) x y
      = if a ≤ n + b then x else y := by
  rw [show IntOp.addi (BitVec.ofNat 32 b) (BitVec.ofNat 32 n) = BitVec.ofNat 32 (n + b) by
      rw [Nat.add_comm]; exact (BitVec.ofNat_add b n).symm,
    WordCmp.cmpi_sle_ofNat (by omega) (by omega), WordCmp.select_ofBool]
  simp

/-- The same where nothing is added. -/
theorem select_le_zero (a b : ℕ) (x y : EReal) (ha : a < 2048) (hb : b < 2048) :
    Scalar.select (IntOp.cmpi CmpIPredicate.sle (BitVec.ofNat 32 a) (BitVec.ofNat 32 b)) x y = if a ≤ 0 + b then x else y := by
  rw [WordCmp.cmpi_sle_ofNat (by omega) (by omega), WordCmp.select_ofBool]
  simp

end Lists

end Cert.Flash
-- ==== Proof.Host.lean ====
module

public import proofs.«01_k».proof.Proof.Run
public import proofs.«01_k».proof.Proof.Gen.ReferenceIdeal.Read

@[expose] public section

noncomputable section

namespace Cert.Flash

open Cert.KernelIdeal Cert.KernelIdeal.Gen
open Idealize.ShloMosaic Idealize.ShloMosaic.TcCoe Idealize.ShloMosaic.Tactic
open Cert.ReferenceIdeal.Read (val_main_v11_0 val_main_v12 val_main_v19 val_main_v29 val_main_v34 val_main_v36 val_main_v40 val_main_v41)

variable {F : FTy → Type} [FloatOps F]

/-- The logarithm of a row's sum of exponentials, from the masked scores and a row's greatest, `M`. -/
def lseWith (x0 x1 : (⟨S8x4096x192, .bf16⟩ : BufTy).Contents (Elt F)) (M : (⟨S8x4096, .f32⟩ : BufTy).Contents (Elt F)) :
    (⟨S8x4096x1, .f32⟩ : BufTy).Contents (Elt F) :=
  addf (broadcastInDim S8x4096x1 ![0, 1] bcast_S8x4096_S8x4096x1_0_1 M)
    (Host.log (broadcastInDim S8x4096x1 ![0, 1] bcast_S8x4096_S8x4096x1_0_1
      (Host.reduceAdd (Host.exp (subf (val_main_v11_0 (F := F) x0 x1)
        (broadcastInDim S8x4096x4096 ![0, 1, 2] bcast_S8x4096x1_S8x4096x4096_0_1_2
          (broadcastInDim S8x4096x1 ![0, 1] bcast_S8x4096_S8x4096x1_0_1 M))))
        (constant S_ .f32 0x00000000#32) reducesTo_S8x4096x4096_S8x4096_d2 h_S_)))

/-- The logarithm of a row's sum of exponentials. -/
def lseOf (x0 x1 : (⟨S8x4096x192, .bf16⟩ : BufTy).Contents (Elt F)) : (⟨S8x4096x1, .f32⟩ : BufTy).Contents (Elt F) :=
  lseWith (F := F) x0 x1 (val_main_v12 (F := F) x0 x1)

/-- The same from the reference's greatest, in the reference's terms. -/
theorem lseWith_v19 (x0 x1 : (⟨S8x4096x192, .bf16⟩ : BufTy).Contents (Elt F)) :
    lseWith (F := F) x0 x1 (val_main_v19 (F := F) x0 x1)
      = addf (F := F) (s := S8x4096x1) (φ := .f32) (val_main_v29 (F := F) x0 x1) (Host.log (F := F) (s := S8x4096x1) (φ := .f32) (val_main_v34 (F := F) x0 x1)) := rfl

/-- A row's sum of the upstream gradient times the output. -/
def deltaOf (x0 x1 : (⟨S8x4096x192, .bf16⟩ : BufTy).Contents (Elt F)) (x2 x3 : (⟨S8x4096x128, .bf16⟩ : BufTy).Contents (Elt F)) :
    (⟨S8x4096x1, .f32⟩ : BufTy).Contents (Elt F) :=
  broadcastInDim S8x4096x1 ![0, 1] bcast_S8x4096_S8x4096x1_0_1
    (Host.reduceAdd (mulf (val_main_v41 (F := F) x3) (val_main_v40 (F := F) x0 x1 x2))
      (constant S_ .f32 0x00000000#32) reducesTo_S8x4096x128_S8x4096_d2 h_S_)

variable (m : (ℓ : Loc nD τ sig) → Buf (Elt F) ℓ)

/-- What the host hands the kernel as the logarithms. -/
theorem V_v21 (c : Dev nD) : V m c main_v21 = lseOf (F := F) (m ((c : Thread nD τ).loc main_arg0)) (m ((c : Thread nD τ).loc main_arg1)) := by
  unfold V; simp only [opss, List.flatten_cons, List.flatten_nil, List.cons_append, List.nil_append, List.append_nil]
  after_results
  rfl

/-- What the host hands the kernel as the row sums. -/
theorem V_v45 (c : Dev nD) : V m c main_v45 = deltaOf (F := F) (m ((c : Thread nD τ).loc main_arg0)) (m ((c : Thread nD τ).loc main_arg1))
    (m ((c : Thread nD τ).loc main_arg2)) (m ((c : Thread nD τ).loc main_arg3)) := by
  unfold V; simp only [opss, List.flatten_cons, List.flatten_nil, List.cons_append, List.nil_append, List.append_nil]
  after_results
  rfl

end Cert.Flash
-- ==== Proof.Rows.lean ====
module

public import proofs.«01_k».proof.Proof.Spec
public import proofs.«01_k».proof.Proof.Host
public import Idealize.ShloMosaic.Lib.IdealHost
public import Idealize.ShloMosaic.Lib.WordCmp

@[expose] public section

noncomputable section

namespace Cert.Flash

open Cert.KernelIdeal Cert.KernelIdeal.Gen
open Idealize.ShloMosaic Idealize.ShloMosaic.TcCoe Idealize.ShloMosaic.Tactic
open Cert.ReferenceIdeal.Read

/-! ## Sums and quotients of real numbers among the extended reals -/

/-- A sum of reals is the same among the extended reals. -/
theorem coe_total {ι : Type} (s : Finset ι) (f : ι → ℝ) : ((∑ i ∈ s, f i : ℝ) : EReal) = ∑ i ∈ s, (f i : EReal) := by
  classical
  induction s using Finset.induction_on with
  | empty => rw [Finset.sum_empty, Finset.sum_empty]; exact EReal.coe_zero
  | insert a s ha ih => rw [Finset.sum_insert ha, Finset.sum_insert ha, EReal.coe_add, ih]

/-- A quotient of reals, the divisor not nought. -/
theorem div_real (a : ℝ) {b : ℝ} (hb : b ≠ 0) : Ideal.div (a : EReal) (b : EReal) = ((a / b : ℝ) : EReal) := by
  rw [Ideal.div_coe hb, ← EReal.coe_mul, mul_one_div]

/-- The greatest of numbers none of which is infinite above is not either, and is at least each. -/
theorem fold_max {ι : Type} (op : EReal → EReal → EReal) [Std.Commutative op] [Std.Associative op] (hop : ∀ a b, op a b = max a b)
    (s : Finset ι) (x : ι → EReal) (hx : ∀ i, x i ≠ ⊤) : s.fold op ⊥ x ≠ ⊤ ∧ ∀ i ∈ s, x i ≤ s.fold op ⊥ x := by
  classical
  induction s using Finset.induction_on with
  | empty => exact ⟨by rw [Finset.fold_empty]; exact bot_ne_top, fun i hi => absurd hi (Finset.notMem_empty i)⟩
  | insert a s ha ih =>
    rw [Finset.fold_insert ha, hop]
    refine ⟨fun h => ?_, fun i hi => ?_⟩
    · rcases max_choice (x a) (s.fold op ⊥ x) with e | e
      · exact hx a (e.symm.trans h)
      · exact ih.1 (e.symm.trans h)
    · rcases Finset.mem_insert.mp hi with rfl | hi
      · exact le_max_left _ _
      · exact (ih.2 i hi).trans (le_max_right _ _)

/-- A softmax's gradient at one row, written with the normalised weights and with the exponentials. -/
theorem softmax_grad {ι : Type} [Fintype ι] (e g : ι → ℝ) {l : ℝ} (hl : l ≠ 0) (C : ι) :
    e C / l * (g C - ∑ C', e C' / l * g C') = (g C / l + -(∑ C', g C' * (1 / (l * l)) * e C')) * e C := by
  have h : ∑ C', e C' / l * g C' = (∑ C', g C' * (1 / (l * l)) * e C') * l := by
    rw [Finset.sum_mul]
    exact Finset.sum_congr rfl fun C' _ => by field_simp
  rw [h]
  field_simp
  ring

/-! ## Reading at an index -/

theorem at3 {a b d : ℕ} {α : Type} (f : (⟨3, ![a, b, d]⟩ : Shape).Idx → α) (i : (⟨3, ![a, b, d]⟩ : Shape).Idx) (h : Fin a) (r : Fin b) (x : Fin d)
    (h0 : (i 0).val = h.val) (h1 : (i 1).val = r.val) (h2 : (i 2).val = x.val) : f i = f (ix3 h r x) :=
  congrArg f (funext fun n => match n with
    | ⟨0, _⟩ => Fin.ext h0
    | ⟨1, _⟩ => Fin.ext h1
    | ⟨2, _⟩ => Fin.ext h2)

theorem at2 {a b : ℕ} {α : Type} (f : (⟨2, ![a, b]⟩ : Shape).Idx → α) (i : (⟨2, ![a, b]⟩ : Shape).Idx) (h : Fin a) (r : Fin b)
    (h0 : (i 0).val = h.val) (h1 : (i 1).val = r.val) : f i = f (ix2 h r) :=
  congrArg f (funext fun n => match n with
    | ⟨0, _⟩ => Fin.ext h0
    | ⟨1, _⟩ => Fin.ext h1)

/-- The mask keeps the keys not after the query. -/
theorem mask_at (h : Fin 8) (R C : Fin 4096) (a b : EReal) :
    Scalar.select (val_main_v11_1 (F := Ideal) (ix3 h R C)) a b = if C.val ≤ R.val then a else b := by
  rw [val_main_v11_1_apply, val_main_v10_apply, val_main_v8_apply, val_main_v9_apply, val_main_v5_apply, val_main_v7_apply,
    val_main_v4_apply, val_main_v6_apply]
  refine (congrArg (Scalar.select · a b) (WordCmp.cmpi_sle_ofNat (w := 32) (a := C.val) (b := R.val) (by omega) (by omega))).trans ?_
  rw [WordCmp.select_ofBool]
  simp

section Finite

variable (x0 x1 : S8x4096x192.Idx → EReal) (x2 x3 : S8x4096x128.Idx → EReal)
variable (q k : S8x4096x192.Idx → ℝ) (v w : S8x4096x128.Idx → ℝ)
variable (hq : ∀ i, x0 i = q i) (hk : ∀ i, x1 i = k i) (hv : ∀ i, x2 i = v i) (hw : ∀ i, x3 i = w i)

/-- The score of a query and a key, real. -/
def sR (h : Fin 8) (R C : Fin 4096) : ℝ := ∑ x : Fin 192, q (ix3 h R x) * k (ix3 h C x)
/-- The gradient of a weight, real. -/
def gR (h : Fin 8) (R C : Fin 4096) : ℝ := ∑ x : Fin 128, w (ix3 h R x) * v (ix3 h C x)
/-- The exponential of a score less `μ`, nought where the key comes after the query. -/
def eR (μ : ℝ) (h : Fin 8) (R C : Fin 4096) : ℝ := if C.val ≤ R.val then Real.exp (sR q k h R C - μ) else 0
/-- A row's sum of exponentials. -/
def lR (μ : ℝ) (h : Fin 8) (R : Fin 4096) : ℝ := ∑ C : Fin 4096, eR q k μ h R C

theorem eR_nonneg (μ : ℝ) (h : Fin 8) (R C : Fin 4096) : 0 ≤ eR q k μ h R C := by
  unfold eR; split
  · exact (Real.exp_pos _).le
  · exact le_refl _

theorem lR_pos (μ : ℝ) (h : Fin 8) (R : Fin 4096) : 0 < lR q k μ h R :=
  lt_of_lt_of_le (show 0 < eR q k μ h R R by unfold eR; rw [if_pos le_rfl]; exact Real.exp_pos _)
    (Finset.single_le_sum (fun C _ => eR_nonneg q k μ h R C) (Finset.mem_univ R))

include hq hk in
theorem v3_at (h : Fin 8) (R C : Fin 4096) : val_main_v3 (F := Ideal) x0 x1 (ix3 h R C) = (sR q k h R C : EReal) := by
  refine (val_main_v3_apply x0 x1 _).trans (Eq.trans (Finset.sum_congr rfl fun x _ => ?_) (coe_total _ _).symm)
  show x0 (lidx_main_v3 _ x) * x1 (ridx_main_v3 _ x) = _
  rw [at3 x0 _ h R x rfl rfl rfl, at3 x1 _ h C x rfl rfl rfl, hq, hk, EReal.coe_mul]

include hq hk in
theorem scW_at (h : Fin 8) (R C : Fin 4096) : (∑ x : Fin 192, x0 (ix3 h R x) * x1 (ix3 h C x)) = (sR q k h R C : EReal) :=
  Eq.trans (Finset.sum_congr rfl fun x _ => by rw [hq, hk, EReal.coe_mul]) (coe_total _ _).symm

include hv hw in
theorem gW_at (h : Fin 8) (R C : Fin 4096) : (∑ x : Fin 128, x3 (ix3 h R x) * x2 (ix3 h C x)) = (gR v w h R C : EReal) :=
  Eq.trans (Finset.sum_congr rfl fun x _ => by rw [hv, hw, EReal.coe_mul]) (coe_total _ _).symm

include hq hk in
/-- A masked score. -/
theorem v11_at (h : Fin 8) (R C : Fin 4096) :
    val_main_v11_0 (F := Ideal) x0 x1 (ix3 h R C) = if C.val ≤ R.val then (sR q k h R C : EReal) else ⊥ := by
  rw [val_main_v11_0_apply, mask_at, v3_at x0 x1 q k hq hk, val_main_call0_v2_apply, val_main_call0_v0_apply, val_main_cst_apply]
  exact congrArg (fun z => if C.val ≤ R.val then (sR q k h R C : EReal) else z) ofBits_negInf

include hq hk in
/-- A row's greatest score is a real number. -/
theorem v12_real (h : Fin 8) (R : Fin 4096) : ∃ μ : ℝ, val_main_v12 (F := Ideal) x0 x1 (ix2 h R) = (μ : EReal) := by
  have hx : ∀ C : Fin 4096, ((val_main_v11_0 (F := Ideal) x0 x1) ∘ (Shape.Reduces.lift (s := S8x4096x4096) (t := S8x4096) (a := 2) (by decide) (ix2 h R))) C
      = if C.val ≤ R.val then (sR q k h R C : EReal) else ⊥ := fun C =>
    (at3 (val_main_v11_0 (F := Ideal) x0 x1) _ h R C rfl rfl rfl).trans (v11_at x0 x1 q k hq hk h R C)
  have ht : ∀ C : Fin 4096, ((val_main_v11_0 (F := Ideal) x0 x1) ∘ (Shape.Reduces.lift (s := S8x4096x4096) (t := S8x4096) (a := 2) (by decide) (ix2 h R))) C ≠ ⊤ := fun C => by
    rw [hx]; split
    · exact EReal.coe_ne_top _
    · exact bot_ne_top
  have e : val_main_v12 (F := Ideal) x0 x1 (ix2 h R) = _ :=
    (Host.reduce_eq_fold_single (FloatOps.maximumf (F := Ideal) (φ := .f32)) (val_main_v11_0 (F := Ideal) x0 x1) (val_main_cst_0 (F := Ideal))
      Cert.ReferenceIdeal.Gen.reducesTo_S8x4096x4096_S8x4096_d2 (by decide) Cert.ReferenceIdeal.Gen.h_S_ (ix2 h R))
  rw [val_main_cst_0_apply, show FloatOps.ofBits (F := Ideal) .f32 0xFF800000#32 = (⊥ : EReal) from ofBits_negInf] at e
  obtain ⟨h1, h2⟩ := fold_max (FloatOps.maximumf (F := Ideal) (φ := .f32)) (fun _ _ => rfl) Finset.univ _ ht
  have h3 := h2 R (Finset.mem_univ R)
  rw [hx, if_pos le_rfl] at h3
  rw [e]
  exact ⟨_, (EReal.coe_toReal h1 (fun hb => absurd (le_bot_iff.mp (h3.trans hb.le)) (EReal.coe_ne_bot _))).symm⟩

end Finite

end Cert.Flash
-- ==== Proof.ValueA.lean ====
module

public import proofs.«01_k».proof.Proof.Spec

@[expose] public section

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
    (arg2 : Memref sig .tc .smem S3 .i32) (harg2 : arg2.IsWhole) (arg3 : Memref sig .tc .smem S3 .i32) (harg3 : arg3.IsWhole)
    (arg4 : Memref sig .tc .vmem S1x2048x192 .bf16) (harg4 : arg4.IsWhole) (arg5 : Memref sig .tc .vmem S1x2048x192 .bf16) (harg5 : arg5.IsWhole)
    (arg6 : Memref sig .tc .vmem S1x2048x128 .bf16) (harg6 : arg6.IsWhole) (arg7 : Memref sig .tc .vmem S1x2048x128 .bf16) (harg7 : arg7.IsWhole)
    (arg8 : Memref sig .tc .vmem S1x2048x1 .f32) (harg8 : arg8.IsWhole) (arg9 : Memref sig .tc .vmem S1x2048x1 .f32) (harg9 : arg9.IsWhole)
    (arg10 : Memref sig .tc .vmem S1x4096x192 .f32) (harg10 : arg10.IsWhole) (arg11 : Memref sig .tc .vmem S1x2048x192 .f32) (harg11 : arg11.IsWhole)
    (arg12 : Memref sig .tc .vmem S1x2048x128 .f32) (harg12 : arg12.IsWhole)  (arg13 : Memref sig .tc .vmem S2048x192 .f32) (harg13 : arg13.IsWhole)
    (arg14 : Memref sig .tc .vmem S2048x128 .f32) (harg14 : arg14.IsWhole)
    (q2 q3 : PosShare TreeShare) (f2 : arg2.view.ty.Contents (Elt Ideal)) (f3 : arg3.view.ty.Contents (Elt Ideal))
    (x4 : Vec Ideal S1x2048x192 .bf16) (x5 : Vec Ideal S1x2048x192 .bf16) (x6 : Vec Ideal S1x2048x128 .bf16) (x7 : Vec Ideal S1x2048x128 .bf16) (x8 : Vec Ideal S1x2048x1 .f32) (x9 : Vec Ideal S1x2048x1 .f32)

set_option maxRecDepth 16384

set_option maxHeartbeats 4000000 in
/-- What a pair on the diagonal leaves in the key gradient's accumulator. -/
theorem read_kA (c : Fin 2048) (d : Fin 192) :
    arg13.view.read (Elt Ideal) (arg13.view.writes (Elt Ideal) arg13.view.junk (runA.sl.H13_9 (F := Ideal) arg4 arg5 arg6 arg7 arg8 arg9 arg13 x4 x5 x6 x7 x8 x9)) (ix2 c d)
      = 0 + ∑ r : Fin 2048, sd x4 x5 x6 x7 x8 x9 r c * x4 (ix3 0 r d) := by
  rw [← groups (sd x4 x5 x6 x7 x8 x9) (fun r d => x4 (ix3 0 r d))]
  revert c d
  iterate 8
    refine read_rows _ _ _ _ _ _ _ ?_ ?_ (fun g h c d => ?_) (fun c d hc => ?_)
    · decide
  · intro c d
    refine (read_whole _ _ _ _ _ c d).trans ?_
    pointwise [k0_pay5]
  all_goals first
    | exact grp_zero _ _ _ _ _ _ fun r => sd_zero _ _ _ _ _ _ _ _ (lt_of_lt_of_le (by show _ + r.val < _; omega) hc)
    | simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.v94, runA.sl.v146, runA.sl.v198, runA.sl.v250, runA.sl.v302, runA.sl.v354, runA.sl.v406, runA.sl.v458, readCov_fun, View.readAt_rep]
      unfold_payloads
      pointwise [runA.sl.v59, runA.sl.v60]
      refine congrArg₂ (· + ·) (h _ _) (Finset.sum_congr rfl fun r _ => ?_)
      first | rw [select_le _ _ _ _ _ (by omega) (by omega)] | rw [select_le_zero _ _ _ _ (by omega) (by omega)]
      first | rfl | simp only [sd, pd, dp, sc, row, Nat.zero_add]

set_option maxHeartbeats 4000000 in
/-- What a pair on the diagonal leaves in the value gradient's accumulator. -/
theorem read_vA (c : Fin 2048) (d : Fin 128) :
    arg14.view.read (Elt Ideal) (arg14.view.writes (Elt Ideal) arg14.view.junk (runA.sl.H14_9 (F := Ideal) arg4 arg5 arg7 arg8 arg14 x4 x5 x7 x8)) (ix2 c d)
      = 0 + ∑ r : Fin 2048, pd x4 x5 x8 r c * x7 (ix3 0 r d) := by
  rw [← groups (pd x4 x5 x8) (fun r d => x7 (ix3 0 r d))]
  revert c d
  iterate 8
    refine read_rows _ _ _ _ _ _ _ ?_ ?_ (fun g h c d => ?_) (fun c d hc => ?_)
    · decide
  · intro c d
    refine (read_whole _ _ _ _ _ c d).trans ?_
    pointwise [k0_pay6]
  all_goals first
    | exact grp_zero _ _ _ _ _ _ fun r => pd_zero _ _ _ _ _ (lt_of_lt_of_le (by show _ + r.val < _; omega) hc)
    | simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.v78, runA.sl.v130, runA.sl.v182, runA.sl.v234, runA.sl.v286, runA.sl.v338, runA.sl.v390, runA.sl.v442, readCov_fun, View.readAt_rep]
      unfold_payloads
      pointwise [runA.sl.v59, runA.sl.v60]
      refine congrArg₂ (· + ·) (h _ _) (Finset.sum_congr rfl fun r _ => ?_)
      first | rw [select_le _ _ _ _ _ (by omega) (by omega)] | rw [select_le_zero _ _ _ _ (by omega) (by omega)]
      first | rfl | simp only [sd, pd, dp, sc, row, Nat.zero_add]

set_option maxHeartbeats 4000000 in
/-- What the first pair leaves in the query gradient. -/
theorem read_qA (R : Fin 4096) (d : Fin 192) :
    arg10.view.read (Elt Ideal) (arg10.view.writes (Elt Ideal) arg10.view.junk (runA.sl.H10_9 (F := Ideal) arg4 arg5 arg6 arg7 arg8 arg9 arg10 x4 x5 x6 x7 x8 x9)) (ix3 0 R d)
      = upTo 0 (fun _ _ => 0) (tot (sd x4 x5 x6 x7 x8 x9) (fun c d => x5 (ix3 0 c d))) 2048 R d := by
  revert R d
  iterate 8
    refine read_group _ _ _ _ _ (by decide) (by decide) (by decide) (by decide) _ _ _ _ _ ?_ (fun x h r d => ?_)
  · intro R d
    refine (read_whole3 _ _ _ _ _ R d).trans ((upTo_zero _ _ _ _ _).trans ?_).symm
    pointwise [k0_pay1]
  all_goals
    rw [← cut _ _ _ _ _ rfl (fun r c h => sd_zero _ _ _ _ _ _ _ _ h)]
    simp only [runA.sl.r, runA.sl.r_1, runA.sl.r_2, runA.sl.r_3, runA.sl.r_4, runA.sl.r_5, runA.sl.r_6, runA.sl.r_7, runA.sl.r_8, runA.sl.r_9, runA.sl.r_10, runA.sl.r_11, runA.sl.r_12, runA.sl.r_13, runA.sl.r_14, runA.sl.r_15, runA.sl.v106, runA.sl.v158, runA.sl.v210, runA.sl.v262, runA.sl.v314, runA.sl.v366, runA.sl.v418, runA.sl.v470, readCov_fun, View.readAt_rep]
    unfold_payloads
    pointwise [runA.sl.v59, runA.sl.v60]
    refine congrArg₂ (· + ·) (h _ _ (by first | exact Nat.zero_le _ | (show _ ≤ _ + r.val; omega))) (Finset.sum_congr rfl fun c _ => ?_)
    first | rw [select_le _ _ _ _ _ (by omega) (by omega)] | rw [select_le_zero _ _ _ _ (by omega) (by omega)]
    first | rfl | simp only [sd, pd, dp, sc, row, Nat.zero_add]

end Cert.Flash
-- ==== Proof.ValueB.lean ====
module

public import proofs.«01_k».proof.Proof.Spec

@[expose] public section

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
    (arg2 : Memref sig .tc .smem S3 .i32) (harg2 : arg2.IsWhole) (arg3 : Memref sig .tc .smem S3 .i32) (harg3 : arg3.IsWhole)
    (arg4 : Memref sig .tc .vmem S1x2048x192 .bf16) (harg4 : arg4.IsWhole) (arg5 : Memref sig .tc .vmem S1x2048x192 .bf16) (harg5 : arg5.IsWhole)
    (arg6 : Memref sig .tc .vmem S1x2048x128 .bf16) (harg6 : arg6.IsWhole) (arg7 : Memref sig .tc .vmem S1x2048x128 .bf16) (harg7 : arg7.IsWhole)
    (arg8 : Memref sig .tc .vmem S1x2048x1 .f32) (harg8 : arg8.IsWhole) (arg9 : Memref sig .tc .vmem S1x2048x1 .f32) (harg9 : arg9.IsWhole)
    (arg10 : Memref sig .tc .vmem S1x4096x192 .f32) (harg10 : arg10.IsWhole) (arg11 : Memref sig .tc .vmem S1x2048x192 .f32) (harg11 : arg11.IsWhole)
    (arg12 : Memref sig .tc .vmem S1x2048x128 .f32) (harg12 : arg12.IsWhole)  (arg13 : Memref sig .tc .vmem S2048x192 .f32) (harg13 : arg13.IsWhole)
    (arg14 : Memref sig .tc .vmem S2048x128 .f32) (harg14 : arg14.IsWhole)
    (q2 q3 : PosShare TreeShare) (f2 : arg2.view.ty.Contents (Elt Ideal)) (f3 : arg3.view.ty.Contents (Elt Ideal))
    (x4 : Vec Ideal S1x2048x192 .bf16) (x5 : Vec Ideal S1x2048x192 .bf16) (x6 : Vec Ideal S1x2048x128 .bf16) (x7 : Vec Ideal S1x2048x128 .bf16) (x8 : Vec Ideal S1x2048x1 .f32) (x9 : Vec Ideal S1x2048x1 .f32)

set_option maxRecDepth 16384

variable (x10 : Vec Ideal S1x4096x192 .f32) (x13 : Vec Ideal S2048x192 .f32) (x14 : Vec Ideal S2048x128 .f32)

set_option maxHeartbeats 4000000 in
/-- What the pair off the diagonal leaves in the key gradient's accumulator. -/
theorem read_kB (c : Fin 2048) (d : Fin 192) :
    arg13.view.read (Elt Ideal) (arg13.view.writes (Elt Ideal) arg13.view.junk (runB.sl.H13_8 (F := Ideal) arg4 arg5 arg6 arg7 arg8 arg9 arg13 x4 x5 x6 x7 x8 x9 x13)) (ix2 c d)
      = x13 (ix2 c d) + ∑ r : Fin 2048, so x4 x5 x6 x7 x8 x9 r c * x4 (ix3 0 r d) := by
  rw [← groups (so x4 x5 x6 x7 x8 x9) (fun r d => x4 (ix3 0 r d))]
  revert c d
  iterate 7
    refine read_rows _ _ _ _ _ _ _ ?_ ?_ (fun g h c d => ?_) (fun c d hc => absurd c.isLt (by omega))
    · decide
  · intro c d
    refine (read_whole _ _ _ _ _ c d).trans ?_
    simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.v56, runB.sl.v78, runB.sl.v94, runB.sl.v106, runB.sl.v128, runB.sl.v144, runB.sl.v156, runB.sl.v178, runB.sl.v194, runB.sl.v206, runB.sl.v228, runB.sl.v244, runB.sl.v256, runB.sl.v278, runB.sl.v294, runB.sl.v306, runB.sl.v328, runB.sl.v344, runB.sl.v356, runB.sl.v378, runB.sl.v394, runB.sl.v406, readCov_fun, View.readAt_rep]
    unfold_payloads
    pointwise
    refine congrArg₂ (· + ·) rfl (Finset.sum_congr rfl fun r _ => ?_)
    simp only [so, po, dp, sc, row, Nat.zero_add]
  all_goals
    simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.v56, runB.sl.v78, runB.sl.v94, runB.sl.v106, runB.sl.v128, runB.sl.v144, runB.sl.v156, runB.sl.v178, runB.sl.v194, runB.sl.v206, runB.sl.v228, runB.sl.v244, runB.sl.v256, runB.sl.v278, runB.sl.v294, runB.sl.v306, runB.sl.v328, runB.sl.v344, runB.sl.v356, runB.sl.v378, runB.sl.v394, runB.sl.v406, readCov_fun, View.readAt_rep]
    unfold_payloads
    pointwise
    exact congrArg₂ (· + ·) (h _ _) (Finset.sum_congr rfl fun r _ => rfl)

set_option maxHeartbeats 4000000 in
/-- What the pair off the diagonal leaves in the value gradient's accumulator. -/
theorem read_vB (c : Fin 2048) (d : Fin 128) :
    arg14.view.read (Elt Ideal) (arg14.view.writes (Elt Ideal) arg14.view.junk (runB.sl.H14_8 (F := Ideal) arg4 arg5 arg7 arg8 arg14 x4 x5 x7 x8 x14)) (ix2 c d)
      = x14 (ix2 c d) + ∑ r : Fin 2048, po x4 x5 x8 r c * x7 (ix3 0 r d) := by
  rw [← groups (po x4 x5 x8) (fun r d => x7 (ix3 0 r d))]
  revert c d
  iterate 7
    refine read_rows _ _ _ _ _ _ _ ?_ ?_ (fun g h c d => ?_) (fun c d hc => absurd c.isLt (by omega))
    · decide
  · intro c d
    refine (read_whole _ _ _ _ _ c d).trans ?_
    simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.v56, runB.sl.v78, runB.sl.v94, runB.sl.v106, runB.sl.v128, runB.sl.v144, runB.sl.v156, runB.sl.v178, runB.sl.v194, runB.sl.v206, runB.sl.v228, runB.sl.v244, runB.sl.v256, runB.sl.v278, runB.sl.v294, runB.sl.v306, runB.sl.v328, runB.sl.v344, runB.sl.v356, runB.sl.v378, runB.sl.v394, runB.sl.v406, readCov_fun, View.readAt_rep]
    unfold_payloads
    pointwise
    refine congrArg₂ (· + ·) rfl (Finset.sum_congr rfl fun r _ => ?_)
    simp only [so, po, dp, sc, row, Nat.zero_add]
  all_goals
    simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.v56, runB.sl.v78, runB.sl.v94, runB.sl.v106, runB.sl.v128, runB.sl.v144, runB.sl.v156, runB.sl.v178, runB.sl.v194, runB.sl.v206, runB.sl.v228, runB.sl.v244, runB.sl.v256, runB.sl.v278, runB.sl.v294, runB.sl.v306, runB.sl.v328, runB.sl.v344, runB.sl.v356, runB.sl.v378, runB.sl.v394, runB.sl.v406, readCov_fun, View.readAt_rep]
    unfold_payloads
    pointwise
    exact congrArg₂ (· + ·) (h _ _) (Finset.sum_congr rfl fun r _ => rfl)

set_option maxHeartbeats 4000000 in
/-- What the pair off the diagonal leaves in the query gradient. -/
theorem read_qB
    (hc1 : ¬ k0_cond1 i = 1#1)
    (hw2 : (arg2.access (Rect.unit (s := S3) (k0_off1 i) S1.size (k0_off1_inb i))).read (Elt Ideal) f2 (Shape.Idx.first (numel1_S1.symm ▸ Nat.one_pos)) = 1#32)
    (hw3 : (arg3.access (Rect.unit (s := S3) (k0_off1 i) S1.size (k0_off1_inb i))).read (Elt Ideal) f3 (Shape.Idx.first (numel1_S1.symm ▸ Nat.one_pos)) = 0#32) (R : Fin 4096) (d : Fin 192) :
    arg10.view.read (Elt Ideal) (runB (F := Ideal) c i arg2 harg2 arg3 harg3 arg4 harg4 arg5 harg5 arg6 harg6 arg7 harg7 arg8 harg8 arg9 harg9 arg10 harg10 arg11 harg11 arg12 harg12 arg13 harg13 arg14 harg14 q2 q3 f2 f3 x4 x5 x6 x7 x8 x9 x10 x13 x14 hc1 hw2 hw3).1 (ix3 0 R d)
      = upTo 2048 (fun R d => x10 (ix3 0 R d)) (tot (so x4 x5 x6 x7 x8 x9) (fun c d => x5 (ix3 0 c d))) 2048 R d := by
  revert R d
  iterate 8
    refine read_group_at _ _ _ _ _ (by decide) (by decide) (by decide) (by decide) _ _ _ _ _ ?_ (fun r d => ?_)
  · intro R d
    rw [upTo_zero, View.writes_nil, View.read_rep]
  all_goals
    unfold tot
    simp only [runB.sl.r, runB.sl.r_1, runB.sl.r_2, runB.sl.r_3, runB.sl.r_4, runB.sl.r_5, runB.sl.r_6, runB.sl.r_7, runB.sl.r_8, runB.sl.r_9, runB.sl.r_10, runB.sl.r_11, runB.sl.r_12, runB.sl.r_13, runB.sl.r_14, runB.sl.r_15, runB.sl.r_16, runB.sl.r_17, runB.sl.r_18, runB.sl.r_19, runB.sl.v56, runB.sl.v78, runB.sl.v94, runB.sl.v106, runB.sl.v128, runB.sl.v144, runB.sl.v156, runB.sl.v178, runB.sl.v194, runB.sl.v206, runB.sl.v228, runB.sl.v244, runB.sl.v256, runB.sl.v278, runB.sl.v294, runB.sl.v306, runB.sl.v328, runB.sl.v344, runB.sl.v356, runB.sl.v378, runB.sl.v394, runB.sl.v406, readCov_fun, View.readAt_rep]
    unfold_payloads
    pointwise
    refine congrArg₂ (· + ·) rfl (Finset.sum_congr rfl fun c _ => ?_)
    first | rfl | simp only [so, po, dp, sc, row, Nat.zero_add]

/-- What the run stores of its accumulator into the key gradient's tile. -/
theorem read_dkB (c : Fin 2048) (d : Fin 192) :
    arg11.view.read (Elt Ideal) (arg11.view.writes (Elt Ideal) arg11.view.junk (runB.sl.H11_1 (F := Ideal) arg4 arg5 arg6 arg7 arg8 arg9 arg13 x4 x5 x6 x7 x8 x9 x13)) (ix3 0 c d)
      = x13 (ix2 c d) + ∑ r : Fin 2048, so x4 x5 x6 x7 x8 x9 r c * x4 (ix3 0 r d) := by
  refine (read_whole3 _ _ _ _ _ c d).trans ?_
  simp only [runB.sl.v16, readCov_fun]
  pointwise [k0_pay3]
  exact read_kB arg4 arg5 arg6 arg7 arg8 arg9 arg13 x4 x5 x6 x7 x8 x9 x13 c d

/-- What the run stores of its accumulator into the value gradient's tile. -/
theorem read_dvB (c : Fin 2048) (d : Fin 128) :
    arg12.view.read (Elt Ideal) (arg12.view.writes (Elt Ideal) arg12.view.junk (runB.sl.H12_1 (F := Ideal) arg4 arg5 arg7 arg8 arg14 x4 x5 x7 x8 x14)) (ix3 0 c d)
      = x14 (ix2 c d) + ∑ r : Fin 2048, po x4 x5 x8 r c * x7 (ix3 0 r d) := by
  refine (read_whole3 _ _ _ _ _ c d).trans ?_
  simp only [runB.sl.v20, readCov_fun]
  pointwise [k0_pay4]
  exact read_vB arg4 arg5 arg7 arg8 arg14 x4 x5 x7 x8 x14 c d

end Cert.Flash
-- ==== Proof.ValueC.lean ====
module

public import proofs.«01_k».proof.Proof.Spec

@[expose] public section

noncomputable section

namespace Cert.Flash

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (c : Dev nD) (i : grid0.Coords)
    (arg2 : Memref sig .tc .smem S3 .i32) (harg2 : arg2.IsWhole) (arg3 : Memref sig .tc .smem S3 .i32) (harg3 : arg3.IsWhole)
    (arg4 : Memref sig .tc .vmem S1x2048x192 .bf16) (harg4 : arg4.IsWhole) (arg5 : Memref sig .tc .vmem S1x2048x192 .bf16) (harg5 : arg5.IsWhole)
    (arg6 : Memref sig .tc .vmem S1x2048x128 .bf16) (harg6 : arg6.IsWhole) (arg7 : Memref sig .tc .vmem S1x2048x128 .bf16) (harg7 : arg7.IsWhole)
    (arg8 : Memref sig .tc .vmem S1x2048x1 .f32) (harg8 : arg8.IsWhole) (arg9 : Memref sig .tc .vmem S1x2048x1 .f32) (harg9 : arg9.IsWhole)
    (arg10 : Memref sig .tc .vmem S1x4096x192 .f32) (harg10 : arg10.IsWhole) (arg11 : Memref sig .tc .vmem S1x2048x192 .f32) (harg11 : arg11.IsWhole)
    (arg12 : Memref sig .tc .vmem S1x2048x128 .f32) (harg12 : arg12.IsWhole)  (arg13 : Memref sig .tc .vmem S2048x192 .f32) (harg13 : arg13.IsWhole)
    (arg14 : Memref sig .tc .vmem S2048x128 .f32) (harg14 : arg14.IsWhole)
    (q2 q3 : PosShare TreeShare) (f2 : arg2.view.ty.Contents (Elt Ideal)) (f3 : arg3.view.ty.Contents (Elt Ideal))
    (x4 : Vec Ideal S1x2048x192 .bf16) (x5 : Vec Ideal S1x2048x192 .bf16) (x6 : Vec Ideal S1x2048x128 .bf16) (x7 : Vec Ideal S1x2048x128 .bf16) (x8 : Vec Ideal S1x2048x1 .f32) (x9 : Vec Ideal S1x2048x1 .f32)

set_option maxRecDepth 16384

variable (x10 : Vec Ideal S1x4096x192 .f32) (x13 : Vec Ideal S2048x192 .f32) (x14 : Vec Ideal S2048x128 .f32)

set_option maxHeartbeats 4000000 in
/-- What a pair on the diagonal leaves in the key gradient's accumulator. -/
theorem read_kC (c : Fin 2048) (d : Fin 192) :
    arg13.view.read (Elt Ideal) (arg13.view.writes (Elt Ideal) arg13.view.junk (runC.sl.H13_9 (F := Ideal) arg4 arg5 arg6 arg7 arg8 arg9 arg13 x4 x5 x6 x7 x8 x9)) (ix2 c d)
      = 0 + ∑ r : Fin 2048, sd x4 x5 x6 x7 x8 x9 r c * x4 (ix3 0 r d) := by
  rw [← groups (sd x4 x5 x6 x7 x8 x9) (fun r d => x4 (ix3 0 r d))]
  revert c d
  iterate 8
    refine read_rows _ _ _ _ _ _ _ ?_ ?_ (fun g h c d => ?_) (fun c d hc => ?_)
    · decide
  · intro c d
    refine (read_whole _ _ _ _ _ c d).trans ?_
    pointwise [k0_pay5]
  all_goals first
    | exact grp_zero _ _ _ _ _ _ fun r => sd_zero _ _ _ _ _ _ _ _ (lt_of_lt_of_le (by show _ + r.val < _; omega) hc)
    | simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.v94, runC.sl.v146, runC.sl.v198, runC.sl.v250, runC.sl.v302, runC.sl.v354, runC.sl.v406, runC.sl.v458, readCov_fun, View.readAt_rep]
      unfold_payloads
      pointwise [runC.sl.v59, runC.sl.v60]
      refine congrArg₂ (· + ·) (h _ _) (Finset.sum_congr rfl fun r _ => ?_)
      first | rw [select_le _ _ _ _ _ (by omega) (by omega)] | rw [select_le_zero _ _ _ _ (by omega) (by omega)]
      first | rfl | simp only [sd, pd, dp, sc, row, Nat.zero_add]

set_option maxHeartbeats 4000000 in
/-- What a pair on the diagonal leaves in the value gradient's accumulator. -/
theorem read_vC (c : Fin 2048) (d : Fin 128) :
    arg14.view.read (Elt Ideal) (arg14.view.writes (Elt Ideal) arg14.view.junk (runC.sl.H14_9 (F := Ideal) arg4 arg5 arg7 arg8 arg14 x4 x5 x7 x8)) (ix2 c d)
      = 0 + ∑ r : Fin 2048, pd x4 x5 x8 r c * x7 (ix3 0 r d) := by
  rw [← groups (pd x4 x5 x8) (fun r d => x7 (ix3 0 r d))]
  revert c d
  iterate 8
    refine read_rows _ _ _ _ _ _ _ ?_ ?_ (fun g h c d => ?_) (fun c d hc => ?_)
    · decide
  · intro c d
    refine (read_whole _ _ _ _ _ c d).trans ?_
    pointwise [k0_pay6]
  all_goals first
    | exact grp_zero _ _ _ _ _ _ fun r => pd_zero _ _ _ _ _ (lt_of_lt_of_le (by show _ + r.val < _; omega) hc)
    | simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.v78, runC.sl.v130, runC.sl.v182, runC.sl.v234, runC.sl.v286, runC.sl.v338, runC.sl.v390, runC.sl.v442, readCov_fun, View.readAt_rep]
      unfold_payloads
      pointwise [runC.sl.v59, runC.sl.v60]
      refine congrArg₂ (· + ·) (h _ _) (Finset.sum_congr rfl fun r _ => ?_)
      first | rw [select_le _ _ _ _ _ (by omega) (by omega)] | rw [select_le_zero _ _ _ _ (by omega) (by omega)]
      first | rfl | simp only [sd, pd, dp, sc, row, Nat.zero_add]

set_option maxHeartbeats 4000000 in
/-- What the last pair leaves in the query gradient. -/
theorem read_qC
    (hc1 : ¬ k0_cond1 i = 1#1)
    (hw2 : (arg2.access (Rect.unit (s := S3) (k0_off1 i) S1.size (k0_off1_inb i))).read (Elt Ideal) f2 (Shape.Idx.first (numel1_S1.symm ▸ Nat.one_pos)) = 1#32)
    (hw3 : (arg3.access (Rect.unit (s := S3) (k0_off1 i) S1.size (k0_off1_inb i))).read (Elt Ideal) f3 (Shape.Idx.first (numel1_S1.symm ▸ Nat.one_pos)) = 1#32) (R : Fin 4096) (d : Fin 192) :
    arg10.view.read (Elt Ideal) (runC (F := Ideal) c i arg2 harg2 arg3 harg3 arg4 harg4 arg5 harg5 arg6 harg6 arg7 harg7 arg8 harg8 arg9 harg9 arg10 harg10 arg11 harg11 arg12 harg12 arg13 harg13 arg14 harg14 q2 q3 f2 f3 x4 x5 x6 x7 x8 x9 x10 hc1 hw2 hw3).1 (ix3 0 R d)
      = upTo 2048 (fun R d => x10 (ix3 0 R d)) (tot (sd x4 x5 x6 x7 x8 x9) (fun c d => x5 (ix3 0 c d))) 2048 R d := by
  revert R d
  iterate 8
    refine read_group_at _ _ _ _ _ (by decide) (by decide) (by decide) (by decide) _ _ _ _ _ ?_ (fun r d => ?_)
  · intro R d
    rw [upTo_zero, View.writes_nil, View.read_rep]
  all_goals
    rw [← cut _ _ _ _ _ rfl (fun r c h => sd_zero _ _ _ _ _ _ _ _ h)]
    simp only [runC.sl.r, runC.sl.r_1, runC.sl.r_2, runC.sl.r_3, runC.sl.r_4, runC.sl.r_5, runC.sl.r_6, runC.sl.r_7, runC.sl.r_8, runC.sl.r_9, runC.sl.r_10, runC.sl.r_11, runC.sl.r_12, runC.sl.r_13, runC.sl.r_14, runC.sl.r_15, runC.sl.v106, runC.sl.v158, runC.sl.v210, runC.sl.v262, runC.sl.v314, runC.sl.v366, runC.sl.v418, runC.sl.v470, readCov_fun, View.readAt_rep]
    unfold_payloads
    pointwise [runC.sl.v59, runC.sl.v60]
    refine congrArg₂ (· + ·) rfl (Finset.sum_congr rfl fun c _ => ?_)
    first | rw [select_le _ _ _ _ _ (by omega) (by omega)] | rw [select_le_zero _ _ _ _ (by omega) (by omega)]
    first | rfl | simp only [sd, pd, dp, sc, row, Nat.zero_add]

/-- What the run stores of its accumulator into the key gradient's tile. -/
theorem read_dkC (c : Fin 2048) (d : Fin 192) :
    arg11.view.read (Elt Ideal) (arg11.view.writes (Elt Ideal) arg11.view.junk (runC.sl.H11_1 (F := Ideal) arg4 arg5 arg6 arg7 arg8 arg9 arg13 x4 x5 x6 x7 x8 x9)) (ix3 0 c d)
      = 0 + ∑ r : Fin 2048, sd x4 x5 x6 x7 x8 x9 r c * x4 (ix3 0 r d) := by
  refine (read_whole3 _ _ _ _ _ c d).trans ?_
  simp only [runC.sl.v16, readCov_fun]
  pointwise [k0_pay3]
  exact (read_kC arg4 arg5 arg6 arg7 arg8 arg9 arg13 x4 x5 x6 x7 x8 x9 c d).trans (zero_add _)

/-- What the run stores of its accumulator into the value gradient's tile. -/
theorem read_dvC (c : Fin 2048) (d : Fin 128) :
    arg12.view.read (Elt Ideal) (arg12.view.writes (Elt Ideal) arg12.view.junk (runC.sl.H12_1 (F := Ideal) arg4 arg5 arg7 arg8 arg14 x4 x5 x7 x8)) (ix3 0 c d)
      = 0 + ∑ r : Fin 2048, pd x4 x5 x8 r c * x7 (ix3 0 r d) := by
  refine (read_whole3 _ _ _ _ _ c d).trans ?_
  simp only [runC.sl.v20, readCov_fun]
  pointwise [k0_pay4]
  exact (read_vC arg4 arg5 arg7 arg8 arg14 x4 x5 x7 x8 c d).trans (zero_add _)

end Cert.Flash
-- ==== Proof.Blocks.lean ====
module

public import proofs.«01_k».proof.Proof.Spec
public import proofs.«01_k».proof.Proof.Run
public import Idealize.ShloMosaic.Lib.Pipeline.ValueKit

@[expose] public section

noncomputable section

namespace Cert.Flash

open Cert.KernelIdeal Cert.KernelIdeal.Gen
open Idealize.ShloMosaic Idealize.ShloMosaic.TcCoe Idealize.ShloMosaic.Tactic
open Idealize.ShloMosaic.Pipeline (Dat Cfg Window)

variable {F : FTy → Type} [FloatOps F]

/-! ## Where a point's blocks lie -/

/-- The block index of the queries. -/
theorem idx0 (t : Fin 24) : ((cfgA F).win (0 : Fin 9)).index t = ![t.val / 3, if t.val % 3 = 0 then 0 else 1, 0] :=
  dec24 (fun t => ((cfgA F).win (0 : Fin 9)).index t) (fun t => ![t.val / 3, if t.val % 3 = 0 then 0 else 1, 0]) (by sl_kernel_rfl) t
/-- The block index of the keys. -/
theorem idx1 (t : Fin 24) : ((cfgA F).win (1 : Fin 9)).index t = ![t.val / 3, if t.val % 3 = 2 then 1 else 0, 0] :=
  dec24 (fun t => ((cfgA F).win (1 : Fin 9)).index t) (fun t => ![t.val / 3, if t.val % 3 = 2 then 1 else 0, 0]) (by sl_kernel_rfl) t
/-- The block index of the values. -/
theorem idx2 (t : Fin 24) : ((cfgA F).win (2 : Fin 9)).index t = ![t.val / 3, if t.val % 3 = 2 then 1 else 0, 0] :=
  dec24 (fun t => ((cfgA F).win (2 : Fin 9)).index t) (fun t => ![t.val / 3, if t.val % 3 = 2 then 1 else 0, 0]) (by sl_kernel_rfl) t
/-- The block index of the upstream gradient. -/
theorem idx3 (t : Fin 24) : ((cfgA F).win (3 : Fin 9)).index t = ![t.val / 3, if t.val % 3 = 0 then 0 else 1, 0] :=
  dec24 (fun t => ((cfgA F).win (3 : Fin 9)).index t) (fun t => ![t.val / 3, if t.val % 3 = 0 then 0 else 1, 0]) (by sl_kernel_rfl) t
/-- The block index of the logarithms. -/
theorem idx4 (t : Fin 24) : ((cfgA F).win (4 : Fin 9)).index t = ![t.val / 3, if t.val % 3 = 0 then 0 else 1, 0] :=
  dec24 (fun t => ((cfgA F).win (4 : Fin 9)).index t) (fun t => ![t.val / 3, if t.val % 3 = 0 then 0 else 1, 0]) (by sl_kernel_rfl) t
/-- The block index of the row sums. -/
theorem idx5 (t : Fin 24) : ((cfgA F).win (5 : Fin 9)).index t = ![t.val / 3, if t.val % 3 = 0 then 0 else 1, 0] :=
  dec24 (fun t => ((cfgA F).win (5 : Fin 9)).index t) (fun t => ![t.val / 3, if t.val % 3 = 0 then 0 else 1, 0]) (by sl_kernel_rfl) t
/-- The block index of the query gradient. -/
theorem idx6 (t : Fin 24) : ((cfgA F).win (6 : Fin 9)).index t = ![t.val / 3, 0, 0] :=
  dec24 (fun t => ((cfgA F).win (6 : Fin 9)).index t) (fun t => ![t.val / 3, 0, 0]) (by sl_kernel_rfl) t
/-- The block index of the key gradient. -/
theorem idx7 (t : Fin 24) : ((cfgA F).win (7 : Fin 9)).index t = ![t.val / 3, if t.val % 3 = 2 then 1 else 0, 0] :=
  dec24 (fun t => ((cfgA F).win (7 : Fin 9)).index t) (fun t => ![t.val / 3, if t.val % 3 = 2 then 1 else 0, 0]) (by sl_kernel_rfl) t
/-- The block index of the value gradient. -/
theorem idx8 (t : Fin 24) : ((cfgA F).win (8 : Fin 9)).index t = ![t.val / 3, if t.val % 3 = 2 then 1 else 0, 0] :=
  dec24 (fun t => ((cfgA F).win (8 : Fin 9)).index t) (fun t => ![t.val / 3, if t.val % 3 = 2 then 1 else 0, 0]) (by sl_kernel_rfl) t

/-- The head of a point. -/
def hd (t : Fin 24) : Fin 8 := ⟨t.val / 3, by omega⟩
/-- A row of the first tile and of the second. -/
def lo (r : Fin 2048) : Fin 4096 := ⟨r.val, by omega⟩
def hi (r : Fin 2048) : Fin 4096 := ⟨2048 + r.val, by omega⟩
/-- A row of a point's query tile and of its key tile. -/
def rowQ (t : Fin 24) (r : Fin 2048) : Fin 4096 := if t.val % 3 = 0 then lo r else hi r
def rowK (t : Fin 24) (r : Fin 2048) : Fin 4096 := if t.val % 3 = 2 then hi r else lo r

variable (m : (ℓ : Loc nD τ sig) → Buf (Elt F) ℓ) (c : Dev nD)

/-- A point's block of the queries. -/
theorem iblk0 (t : Fin (cfgA F).N) (r : Fin 2048) (d : Fin 192) :
    iblk m c 0 t (ix3 0 r d) = V m c main_arg0 (ix3 (hd t) (rowQ t r) d) := by
  unfold rowQ hd lo hi
  have e := idx0 (F := F) t
  split
  · rename_i h
    simp only [h, if_true] at e
    blk_ext [iblk, e]
  · rename_i h
    simp only [h, if_false] at e
    blk_ext [iblk, e]
/-- A point's block of the keys. -/
theorem iblk1 (t : Fin (cfgA F).N) (r : Fin 2048) (d : Fin 192) :
    iblk m c 1 t (ix3 0 r d) = V m c main_arg1 (ix3 (hd t) (rowK t r) d) := by
  unfold rowK hd lo hi
  have e := idx1 (F := F) t
  split
  · rename_i h
    simp only [h, if_true] at e
    blk_ext [iblk, e]
  · rename_i h
    simp only [h, if_false] at e
    blk_ext [iblk, e]
/-- A point's block of the values. -/
theorem iblk2 (t : Fin (cfgA F).N) (r : Fin 2048) (d : Fin 128) :
    iblk m c 2 t (ix3 0 r d) = V m c main_arg2 (ix3 (hd t) (rowK t r) d) := by
  unfold rowK hd lo hi
  have e := idx2 (F := F) t
  split
  · rename_i h
    simp only [h, if_true] at e
    blk_ext [iblk, e]
  · rename_i h
    simp only [h, if_false] at e
    blk_ext [iblk, e]
/-- A point's block of the upstream gradient. -/
theorem iblk3 (t : Fin (cfgA F).N) (r : Fin 2048) (d : Fin 128) :
    iblk m c 3 t (ix3 0 r d) = V m c main_arg3 (ix3 (hd t) (rowQ t r) d) := by
  unfold rowQ hd lo hi
  have e := idx3 (F := F) t
  split
  · rename_i h
    simp only [h, if_true] at e
    blk_ext [iblk, e]
  · rename_i h
    simp only [h, if_false] at e
    blk_ext [iblk, e]
/-- A point's block of the logarithms. -/
theorem iblk4 (t : Fin (cfgA F).N) (r : Fin 2048) (d : Fin 1) :
    iblk m c 4 t (ix3 0 r d) = V m c main_v21 (ix3 (hd t) (rowQ t r) d) := by
  unfold rowQ hd lo hi
  have e := idx4 (F := F) t
  split
  · rename_i h
    simp only [h, if_true] at e
    blk_ext [iblk, e]
  · rename_i h
    simp only [h, if_false] at e
    blk_ext [iblk, e]
/-- A point's block of the row sums. -/
theorem iblk5 (t : Fin (cfgA F).N) (r : Fin 2048) (d : Fin 1) :
    iblk m c 5 t (ix3 0 r d) = V m c main_v45 (ix3 (hd t) (rowQ t r) d) := by
  unfold rowQ hd lo hi
  have e := idx5 (F := F) t
  split
  · rename_i h
    simp only [h, if_true] at e
    blk_ext [iblk, e]
  · rename_i h
    simp only [h, if_false] at e
    blk_ext [iblk, e]

end Cert.Flash
-- ==== Proof.Points.lean ====
module

public import proofs.«01_k».proof.Proof.ValueA
public import proofs.«01_k».proof.Proof.ValueB
public import proofs.«01_k».proof.Proof.ValueC
public import proofs.«01_k».proof.Proof.Blocks

@[expose] public section

noncomputable section

namespace Cert.Flash

open Cert.KernelIdeal Cert.KernelIdeal.Gen
open Idealize.ShloMosaic Idealize.ShloMosaic.TcCoe Idealize.ShloMosaic.Tactic
open Idealize.ShloMosaic.Pipeline (Dat Cfg Window)

/-! ## The gradients of a head, over whole arrays -/

section Whole

variable (q k : S8x4096x192.Idx → EReal) (v w : S8x4096x128.Idx → EReal) (l e : S8x4096x1.Idx → EReal) (h : Fin 8)

/-- The score of a query and a key. -/
def scW (R C : Fin 4096) : EReal := ∑ x : Fin 192, q (ix3 h R x) * k (ix3 h C x)
/-- The gradient of a weight, less the row's mean. -/
def dpW (R C : Fin 4096) : EReal := (∑ x : Fin 128, w (ix3 h R x) * v (ix3 h C x)) - e (ix3 h R 0)
/-- The weight of a query and a key, nought where the key comes after the query. -/
def pW (R C : Fin 4096) : EReal :=
  Ideal.exp ((if C.val ≤ R.val then scW q k h R C else Ideal.ofBits .f32 0xFF800000#32) - l (ix3 h R 0))
/-- The gradient of a score. -/
def sW (R C : Fin 4096) : EReal := pW q k l h R C * dpW v w e h R C
/-- The gradient of the queries. -/
def DQ (R : Fin 4096) (d : Fin 192) : EReal := ∑ C : Fin 4096, sW q k v w l e h R C * k (ix3 h C d)
/-- The gradient of the keys. -/
def DK (C : Fin 4096) (d : Fin 192) : EReal := ∑ R : Fin 4096, sW q k v w l e h R C * q (ix3 h R d)
/-- The gradient of the values. -/
def DV (C : Fin 4096) (d : Fin 128) : EReal := ∑ R : Fin 4096, pW q k l h R C * w (ix3 h R d)

/-- A weight of a later key is nought. -/
theorem pW_zero (R C : Fin 4096) (hc : R.val < C.val) : pW q k l h R C = 0 := by
  unfold pW
  rw [if_neg (by omega), ofBits_negInf, sub_eq_add_neg, EReal.bot_add, Ideal.exp_bot]

theorem sW_zero (R C : Fin 4096) (hc : R.val < C.val) : sW q k v w l e h R C = 0 := by
  unfold sW
  rw [pW_zero q k l h R C hc, zero_mul]

end Whole

/-- A sum over all rows is that over the first tile and that over the second. -/
theorem sum_tiles (T : Fin 4096 → EReal) : ∑ C : Fin 4096, T C = ∑ c : Fin 2048, T (lo c) + ∑ c : Fin 2048, T (hi c) :=
  Fin.sum_univ_add (a := 2048) (b := 2048) T

/-- A row is one of the first tile's or one of the second's. -/
theorem lo_or_hi (R : Fin 4096) : (∃ r, R = lo r) ∨ ∃ r, R = hi r := by
  by_cases hR : R.val < 2048
  · exact Or.inl ⟨⟨R.val, hR⟩, rfl⟩
  · exact Or.inr ⟨⟨R.val - 2048, by omega⟩, Fin.ext (by show R.val = 2048 + (R.val - 2048); omega)⟩

section Rows

variable (x : Fin 4096 → Fin 192 → EReal) (Z : Fin 2048 → Fin 192 → EReal) (r : Fin 2048) (d : Fin 192)

theorem upTo_first_lo : upTo 0 x Z 2048 (lo r) d = x (lo r) d + Z r d := by
  refine (if_pos ⟨Nat.zero_le _, by show r.val < 0 + 2048; omega⟩).trans (congrArg (x (lo r) d + Z · d) (Fin.ext ?_))
  show r.val % 2048 = r.val; omega
theorem upTo_first_hi : upTo 0 x Z 2048 (hi r) d = x (hi r) d :=
  if_neg fun h => absurd h.2 (by show ¬ 2048 + r.val < 0 + 2048; omega)
theorem upTo_second_lo : upTo 2048 x Z 2048 (lo r) d = x (lo r) d :=
  if_neg fun h => absurd h.1 (by show ¬ 2048 ≤ r.val; omega)
theorem upTo_second_hi : upTo 2048 x Z 2048 (hi r) d = x (hi r) d + Z r d := by
  refine (if_pos ⟨by show 2048 ≤ 2048 + r.val; omega, by show 2048 + r.val < 2048 + 2048; omega⟩).trans (congrArg (x (hi r) d + Z · d) (Fin.ext ?_))
  show (2048 + r.val) % 2048 = r.val; omega

end Rows

variable (m : (ℓ : Loc nD τ sig) → Buf (Elt Ideal) ℓ) (c : Dev nD)

/-! ## A point's tile of weights -/

/-- The gradient of the scores of a head, and its weights, at what the kernel finds. -/
abbrev SW (h : Fin 8) (R C : Fin 4096) : EReal :=
  sW (V m c main_arg0) (V m c main_arg1) (V m c main_arg2) (V m c main_arg3) (V m c main_v21) (V m c main_v45) h R C
abbrev PW (h : Fin 8) (R C : Fin 4096) : EReal := pW (V m c main_arg0) (V m c main_arg1) (V m c main_v21) h R C

theorem pd_tile (t : Fin (cfgA Ideal).N) (ht : t.val % 3 ≠ 1) (r cc : Fin 2048) :
    pd (iblk m c 0 t) (iblk m c 1 t) (iblk m c 4 t) r cc = PW m c (hd t) (rowQ t r) (rowK t cc) := by
  have e : (cc.val ≤ r.val) = ((rowK t cc).val ≤ (rowQ t r).val) := by
    unfold rowK rowQ
    rcases (by omega : t.val % 3 = 0 ∨ t.val % 3 = 2) with h | h
    · rw [if_neg (by omega), if_pos h]; rfl
    · rw [if_pos h, if_neg (by omega)]
      exact propext (by show _ ↔ 2048 + cc.val ≤ 2048 + r.val; omega)
  have hs : sc (iblk m c 0 t) (iblk m c 1 t) r cc = scW (V m c main_arg0) (V m c main_arg1) (hd t) (rowQ t r) (rowK t cc) :=
    Finset.sum_congr rfl fun x _ => congrArg₂ (· * ·) (iblk0 m c t r x) (iblk1 m c t cc x)
  unfold pd PW pW
  rw [hs]
  simp only [e]
  rw [iblk4 m c t r 0]

theorem po_tile (t : Fin (cfgA Ideal).N) (ht : t.val % 3 = 1) (r cc : Fin 2048) :
    po (iblk m c 0 t) (iblk m c 1 t) (iblk m c 4 t) r cc = PW m c (hd t) (rowQ t r) (rowK t cc) := by
  have e : (rowK t cc).val ≤ (rowQ t r).val := by
    unfold rowK rowQ
    rw [if_neg (by omega), if_neg (by omega)]
    show cc.val ≤ 2048 + r.val; omega
  have hs : sc (iblk m c 0 t) (iblk m c 1 t) r cc = scW (V m c main_arg0) (V m c main_arg1) (hd t) (rowQ t r) (rowK t cc) :=
    Finset.sum_congr rfl fun x _ => congrArg₂ (· * ·) (iblk0 m c t r x) (iblk1 m c t cc x)
  unfold po PW pW
  rw [hs, if_pos e]
  exact congrArg (fun z => Ideal.exp (_ - z)) (iblk4 m c t r 0)

theorem dp_tile (t : Fin (cfgA Ideal).N) (r cc : Fin 2048) :
    dp (iblk m c 2 t) (iblk m c 3 t) (iblk m c 5 t) r cc
      = dpW (V m c main_arg2) (V m c main_arg3) (V m c main_v45) (hd t) (rowQ t r) (rowK t cc) :=
  congrArg₂ (· - ·) (Finset.sum_congr rfl fun x _ => congrArg₂ (· * ·) (iblk3 m c t r x) (iblk2 m c t cc x)) (iblk5 m c t r 0)

theorem sd_tile (t : Fin (cfgA Ideal).N) (ht : t.val % 3 ≠ 1) (r cc : Fin 2048) :
    sd (iblk m c 0 t) (iblk m c 1 t) (iblk m c 2 t) (iblk m c 3 t) (iblk m c 4 t) (iblk m c 5 t) r cc = SW m c (hd t) (rowQ t r) (rowK t cc) :=
  congrArg₂ (· * ·) (pd_tile m c t ht r cc) (dp_tile m c t r cc)

theorem so_tile (t : Fin (cfgA Ideal).N) (ht : t.val % 3 = 1) (r cc : Fin 2048) :
    so (iblk m c 0 t) (iblk m c 1 t) (iblk m c 2 t) (iblk m c 3 t) (iblk m c 4 t) (iblk m c 5 t) r cc = SW m c (hd t) (rowQ t r) (rowK t cc) :=
  congrArg₂ (· * ·) (po_tile m c t ht r cc) (dp_tile m c t r cc)

/-- The point before, in the same head. -/
theorem hd_prev (t : Fin (cfgA Ideal).N) (h : t.val % 3 ≠ 0) : hd (prev t) = hd t := Fin.ext (by
  show (t.val - 1) / 3 = t.val / 3; omega)

theorem rowQ_0 (t : Fin 24) (h : t.val % 3 = 0) (r : Fin 2048) : rowQ t r = lo r := if_pos h
theorem rowQ_1 (t : Fin 24) (h : t.val % 3 ≠ 0) (r : Fin 2048) : rowQ t r = hi r := if_neg h
theorem rowK_0 (t : Fin 24) (h : t.val % 3 ≠ 2) (r : Fin 2048) : rowK t r = lo r := if_neg h
theorem rowK_1 (t : Fin 24) (h : t.val % 3 = 2) (r : Fin 2048) : rowK t r = hi r := if_pos h

/-! ## What the points leave -/

/-- The first pair's query gradient. -/
theorem dqA_at (t : Fin (cfgA Ideal).N) (h : t.val % 3 = 0) (R : Fin 4096) (d : Fin 192) :
    dqA m c t h (ix3 0 R d) = upTo 0 (fun _ _ => 0)
      (fun r d => ∑ cc : Fin 2048, SW m c (hd t) (lo r) (lo cc) * V m c main_arg1 (ix3 (hd t) (lo cc) d)) 2048 R d := by
  delta dqA ptA runA
  dsimp only
  refine (read_qA (ms0 (F := Ideal) t) (ms1 (F := Ideal) t) (ms2 (F := Ideal) t) (ms3 (F := Ideal) t) (ms4 (F := Ideal) t) (ms5 (F := Ideal) t) (ms6 (F := Ideal) t) (iblk m c 0 t) (iblk m c 1 t) (iblk m c 2 t) (iblk m c 3 t) (iblk m c 4 t) (iblk m c 5 t) R d).trans ?_
  refine congrArg (fun Z => upTo 0 (fun _ _ => 0) Z 2048 R d) (funext fun r => funext fun d => ?_)
  refine Finset.sum_congr rfl fun cc _ => congrArg₂ (· * ·) ((sd_tile m c t (by omega) r cc).trans ?_) ((iblk1 m c t cc d).trans ?_)
  · rw [rowQ_0 t h, rowK_0 t (by omega)]
  · rw [rowK_0 t (by omega)]

/-- The first pair's share of the key gradient. -/
theorem kA_at (t : Fin (cfgA Ideal).N) (h : t.val % 3 = 0) (cc : Fin 2048) (d : Fin 192) :
    kA m c t h (ix2 cc d) = ∑ r : Fin 2048, SW m c (hd t) (lo r) (lo cc) * V m c main_arg0 (ix3 (hd t) (lo r) d) := by
  delta kA ptA runA
  dsimp only
  refine (read_kA (ms0 (F := Ideal) t) (ms1 (F := Ideal) t) (ms2 (F := Ideal) t) (ms3 (F := Ideal) t) (ms4 (F := Ideal) t) (ms5 (F := Ideal) t) scK (iblk m c 0 t) (iblk m c 1 t) (iblk m c 2 t) (iblk m c 3 t) (iblk m c 4 t) (iblk m c 5 t) cc d).trans ((zero_add _).trans ?_)
  refine Finset.sum_congr rfl fun r _ => congrArg₂ (· * ·) ((sd_tile m c t (by omega) r cc).trans ?_) ((iblk0 m c t r d).trans ?_)
  · rw [rowQ_0 t h, rowK_0 t (by omega)]
  · rw [rowQ_0 t h]

/-- The first pair's share of the value gradient. -/
theorem vA_at (t : Fin (cfgA Ideal).N) (h : t.val % 3 = 0) (cc : Fin 2048) (d : Fin 128) :
    vA m c t h (ix2 cc d) = ∑ r : Fin 2048, PW m c (hd t) (lo r) (lo cc) * V m c main_arg3 (ix3 (hd t) (lo r) d) := by
  delta vA ptA runA
  dsimp only
  refine (read_vA (ms0 (F := Ideal) t) (ms1 (F := Ideal) t) (ms3 (F := Ideal) t) (ms4 (F := Ideal) t) scV (iblk m c 0 t) (iblk m c 1 t) (iblk m c 3 t) (iblk m c 4 t) cc d).trans ((zero_add _).trans ?_)
  refine Finset.sum_congr rfl fun r _ => congrArg₂ (· * ·) ((pd_tile m c t (by omega) r cc).trans ?_) ((iblk3 m c t r d).trans ?_)
  · rw [rowQ_0 t h, rowK_0 t (by omega)]
  · rw [rowQ_0 t h]

/-- The second pair's query gradient, from the first's. -/
theorem dqB_at (t : Fin (cfgA Ideal).N) (h : t.val % 3 = 1) (R : Fin 4096) (d : Fin 192) :
    dqB m c t h (ix3 0 R d) = upTo 2048 (fun R d => dqA m c (prev t) (prevA t h) (ix3 0 R d))
      (fun r d => ∑ cc : Fin 2048, SW m c (hd t) (hi r) (lo cc) * V m c main_arg1 (ix3 (hd t) (lo cc) d)) 2048 R d := by
  unfold dqB ptB
  refine (read_qB _ _ _ _ _ _ _ _ _ _ _ _ _ _ _ _ _ _ _ _ _ _ _ _ _ _ _ _ _ _ _ _ _ _ _ _ _ _ _ _ _ _ _ _ R d).trans ?_
  refine congrArg (fun Z => upTo 2048 _ Z 2048 R d) (funext fun r => funext fun d => ?_)
  refine Finset.sum_congr rfl fun cc _ => congrArg₂ (· * ·) ((so_tile m c t h r cc).trans ?_) ((iblk1 m c t cc d).trans ?_)
  · rw [rowQ_1 t (by omega), rowK_0 t (by omega)]
  · rw [rowK_0 t (by omega)]

/-- The third pair's query gradient, from the second's. -/
theorem dqC_at (t : Fin (cfgA Ideal).N) (h : t.val % 3 = 2) (R : Fin 4096) (d : Fin 192) :
    dqC m c t h (ix3 0 R d) = upTo 2048 (fun R d => dqB m c (prev t) (prevB t h) (ix3 0 R d))
      (fun r d => ∑ cc : Fin 2048, SW m c (hd t) (hi r) (hi cc) * V m c main_arg1 (ix3 (hd t) (hi cc) d)) 2048 R d := by
  unfold dqC ptC
  refine (read_qC _ _ _ _ _ _ _ _ _ _ _ _ _ _ _ _ _ _ _ _ _ _ _ _ _ _ _ _ _ _ _ _ _ _ _ _ _ _ _ _ _ _ R d).trans ?_
  refine congrArg (fun Z => upTo 2048 _ Z 2048 R d) (funext fun r => funext fun d => ?_)
  refine Finset.sum_congr rfl fun cc _ => congrArg₂ (· * ·) ((sd_tile m c t (by omega) r cc).trans ?_) ((iblk1 m c t cc d).trans ?_)
  · rw [rowQ_1 t (by omega), rowK_1 t h]
  · rw [rowK_1 t h]

/-- What the third pair leaves is the head's query gradient. -/
theorem dqC_eq (t : Fin (cfgA Ideal).N) (h : t.val % 3 = 2) (R : Fin 4096) (d : Fin 192) :
    dqC m c t h (ix3 0 R d)
      = DQ (V m c main_arg0) (V m c main_arg1) (V m c main_arg2) (V m c main_arg3) (V m c main_v21) (V m c main_v45) (hd t) R d := by
  have e1 : hd (prev t) = hd t := hd_prev t (by omega)
  have e2 : hd (prev (prev t)) = hd t := (hd_prev _ (by have := prevB t h; omega)).trans e1
  unfold DQ
  rw [dqC_at, sum_tiles]
  rcases lo_or_hi R with ⟨r, rfl⟩ | ⟨r, rfl⟩
  · rw [upTo_second_lo, dqB_at, upTo_second_lo, dqA_at, upTo_first_lo, e2, zero_add]
    refine (add_zero _).symm.trans (congrArg₂ (· + ·) rfl (Finset.sum_eq_zero fun cc _ => ?_).symm)
    rw [sW_zero _ _ _ _ _ _ _ _ _ (by show r.val < 2048 + cc.val; omega), zero_mul]
  · rw [upTo_second_hi, dqB_at, upTo_second_hi, dqA_at, upTo_first_hi, e1, zero_add]

/-- What the second pair leaves is the first tile of the head's key gradient. -/
theorem dkB_eq (t : Fin (cfgA Ideal).N) (h : t.val % 3 = 1) (cc : Fin 2048) (d : Fin 192) :
    dkB m c t h (ix3 0 cc d)
      = DK (V m c main_arg0) (V m c main_arg1) (V m c main_arg2) (V m c main_arg3) (V m c main_v21) (V m c main_v45) (hd t) (lo cc) d := by
  unfold DK
  rw [sum_tiles]
  delta dkB ptB runB
  dsimp only
  refine (read_dkB (ms0 (F := Ideal) t) (ms1 (F := Ideal) t) (ms2 (F := Ideal) t) (ms3 (F := Ideal) t) (ms4 (F := Ideal) t) (ms5 (F := Ideal) t) (ms7 (F := Ideal) t) scK (iblk m c 0 t) (iblk m c 1 t) (iblk m c 2 t) (iblk m c 3 t) (iblk m c 4 t) (iblk m c 5 t) (kA m c (prev t) (prevA t h)) cc d).trans (congrArg₂ (· + ·) ?_ (Finset.sum_congr rfl fun r _ =>
    congrArg₂ (· * ·) ((so_tile m c t h r cc).trans ?_) ((iblk0 m c t r d).trans ?_)))
  · rw [kA_at, hd_prev t (by omega)]
  · rw [rowQ_1 t (by omega), rowK_0 t (by omega)]
  · rw [rowQ_1 t (by omega)]

/-- What the second pair leaves is the first tile of the head's value gradient. -/
theorem dvB_eq (t : Fin (cfgA Ideal).N) (h : t.val % 3 = 1) (cc : Fin 2048) (d : Fin 128) :
    dvB m c t h (ix3 0 cc d) = DV (V m c main_arg0) (V m c main_arg1) (V m c main_arg3) (V m c main_v21) (hd t) (lo cc) d := by
  unfold DV
  rw [sum_tiles]
  delta dvB ptB runB
  dsimp only
  refine (read_dvB (ms0 (F := Ideal) t) (ms1 (F := Ideal) t) (ms3 (F := Ideal) t) (ms4 (F := Ideal) t) (ms8 (F := Ideal) t) scV (iblk m c 0 t) (iblk m c 1 t) (iblk m c 3 t) (iblk m c 4 t) (vA m c (prev t) (prevA t h)) cc d).trans (congrArg₂ (· + ·) ?_ (Finset.sum_congr rfl fun r _ =>
    congrArg₂ (· * ·) ((po_tile m c t h r cc).trans ?_) ((iblk3 m c t r d).trans ?_)))
  · rw [vA_at, hd_prev t (by omega)]
  · rw [rowQ_1 t (by omega), rowK_0 t (by omega)]
  · rw [rowQ_1 t (by omega)]

/-- What the third pair leaves is the second tile of the head's key gradient. -/
theorem dkC_eq (t : Fin (cfgA Ideal).N) (h : t.val % 3 = 2) (cc : Fin 2048) (d : Fin 192) :
    dkC m c t h (ix3 0 cc d)
      = DK (V m c main_arg0) (V m c main_arg1) (V m c main_arg2) (V m c main_arg3) (V m c main_v21) (V m c main_v45) (hd t) (hi cc) d := by
  unfold DK
  rw [sum_tiles]
  delta dkC ptC runC
  dsimp only
  refine (read_dkC (ms0 (F := Ideal) t) (ms1 (F := Ideal) t) (ms2 (F := Ideal) t) (ms3 (F := Ideal) t) (ms4 (F := Ideal) t) (ms5 (F := Ideal) t) (ms7 (F := Ideal) t) scK (iblk m c 0 t) (iblk m c 1 t) (iblk m c 2 t) (iblk m c 3 t) (iblk m c 4 t) (iblk m c 5 t) cc d).trans (congrArg₂ (· + ·) (Finset.sum_eq_zero fun r _ => ?_).symm (Finset.sum_congr rfl fun r _ =>
    congrArg₂ (· * ·) ((sd_tile m c t (by omega) r cc).trans ?_) ((iblk0 m c t r d).trans ?_)))
  · rw [sW_zero _ _ _ _ _ _ _ _ _ (by show r.val < 2048 + cc.val; omega), zero_mul]
  · rw [rowQ_1 t (by omega), rowK_1 t h]
  · rw [rowQ_1 t (by omega)]

/-- What the third pair leaves is the second tile of the head's value gradient. -/
theorem dvC_eq (t : Fin (cfgA Ideal).N) (h : t.val % 3 = 2) (cc : Fin 2048) (d : Fin 128) :
    dvC m c t h (ix3 0 cc d) = DV (V m c main_arg0) (V m c main_arg1) (V m c main_arg3) (V m c main_v21) (hd t) (hi cc) d := by
  unfold DV
  rw [sum_tiles]
  delta dvC ptC runC
  dsimp only
  refine (read_dvC (ms0 (F := Ideal) t) (ms1 (F := Ideal) t) (ms3 (F := Ideal) t) (ms4 (F := Ideal) t) (ms8 (F := Ideal) t) scV (iblk m c 0 t) (iblk m c 1 t) (iblk m c 3 t) (iblk m c 4 t) cc d).trans (congrArg₂ (· + ·) (Finset.sum_eq_zero fun r _ => ?_).symm (Finset.sum_congr rfl fun r _ =>
    congrArg₂ (· * ·) ((pd_tile m c t (by omega) r cc).trans ?_) ((iblk3 m c t r d).trans ?_)))
  · rw [pW_zero _ _ _ _ _ _ (by show r.val < 2048 + cc.val; omega), zero_mul]
  · rw [rowQ_1 t (by omega), rowK_1 t h]
  · rw [rowQ_1 t (by omega)]

end Cert.Flash
-- ==== Proof.Compare.lean ====
module

public import proofs.«01_k».proof.Proof.Rows
public import proofs.«01_k».proof.Proof.Points

@[expose] public section

noncomputable section

namespace Cert.Flash

open Cert.KernelIdeal Cert.KernelIdeal.Gen
open Idealize.ShloMosaic Idealize.ShloMosaic.TcCoe Idealize.ShloMosaic.Tactic
open Cert.ReferenceIdeal.Read

variable (x0 x1 : S8x4096x192.Idx → EReal) (x2 x3 : S8x4096x128.Idx → EReal)

/-- The greatest score, once more against negative infinity, is itself. -/
theorem v19_eq : val_main_v19 (F := Ideal) x0 x1 = val_main_v12 (F := Ideal) x0 x1 := by
  funext i
  rw [val_main_v19_apply, val_main_v18_apply, val_main_cst_2_apply]
  refine (congrArg (fun z => max z (val_main_v12 (F := Ideal) x0 x1 i)) ofBits_negInf).trans (max_eq_right bot_le)

theorem add_log_at {s : Shape} (a b : FVec Ideal s .f32) (i : s.Idx) : addf a (Host.log b) i = a i + Ideal.log (b i) := rfl

/-- The logarithms, in the reference's terms. -/
theorem lseOf_eq : lseOf (F := Ideal) x0 x1 = addf (F := Ideal) (s := S8x4096x1) (φ := .f32) (val_main_v29 (F := Ideal) x0 x1) (Host.log (F := Ideal) (s := S8x4096x1) (φ := .f32) (val_main_v34 (F := Ideal) x0 x1)) := by
  unfold lseOf
  rw [← v19_eq, lseWith_v19]

variable (q k : S8x4096x192.Idx → ℝ) (v w : S8x4096x128.Idx → ℝ)
variable (hq : ∀ i, x0 i = q i) (hk : ∀ i, x1 i = k i) (hv : ∀ i, x2 i = v i) (hw : ∀ i, x3 i = w i)
variable (μ : ℝ) (h : Fin 8) (R : Fin 4096) (hμ : val_main_v12 (F := Ideal) x0 x1 (ix2 h R) = (μ : EReal))

include hμ in
theorem v29_at (z : Fin 1) : val_main_v29 (F := Ideal) x0 x1 (ix3 h R z) = (μ : EReal) := by
  rw [val_main_v29_apply, v19_eq, at2 (val_main_v12 (F := Ideal) x0 x1) _ h R rfl rfl, hμ]

include hq hk hμ in
/-- The exponentials. -/
theorem v32_at (C : Fin 4096) : val_main_v32 (F := Ideal) x0 x1 (ix3 h R C) = (eR q k μ h R C : EReal) := by
  rw [val_main_v32_apply, val_main_v31_apply, val_main_v30_apply, at3 (val_main_v29 (F := Ideal) x0 x1) _ h R 0 rfl rfl rfl, v29_at x0 x1 μ h R hμ, v11_at x0 x1 q k hq hk]
  unfold eR
  show Ideal.exp ((if C.val ≤ R.val then (sR q k h R C : EReal) else ⊥) - (μ : EReal)) = _
  split
  · rw [← EReal.coe_sub, Ideal.exp_coe]
  · rw [sub_eq_add_neg, EReal.bot_add, Ideal.exp_bot, EReal.coe_zero]

include hq hk hμ in
theorem v33_at : val_main_v33 (F := Ideal) x0 x1 (ix2 h R) = (lR q k μ h R : EReal) := by
  rw [val_main_v33_apply, val_main_cst_8_apply]
  refine (congrArg₂ (· + ·) Ideal.ofBits_zero_f32 (Eq.trans (Finset.sum_congr rfl fun C _ => ?_) (coe_total Finset.univ (fun C => eR q k μ h R C)).symm)).trans (zero_add _)
  rw [at3 (val_main_v32 (F := Ideal) x0 x1) _ h R C rfl rfl rfl, v32_at x0 x1 q k hq hk μ h R hμ]

include hq hk hμ in
theorem v34_at (z : Fin 1) : val_main_v34 (F := Ideal) x0 x1 (ix3 h R z) = (lR q k μ h R : EReal) := by
  rw [val_main_v34_apply, at2 (val_main_v33 (F := Ideal) x0 x1) _ h R rfl rfl, v33_at x0 x1 q k hq hk μ h R hμ]

include hq hk hμ in
/-- The normalised weights. -/
theorem v36_at (C : Fin 4096) : val_main_v36 (F := Ideal) x0 x1 (ix3 h R C) = ((eR q k μ h R C / lR q k μ h R : ℝ) : EReal) := by
  rw [val_main_v36_apply, val_main_v35_apply, at3 (val_main_v34 (F := Ideal) x0 x1) _ h R 0 rfl rfl rfl, v34_at x0 x1 q k hq hk μ h R hμ, v32_at x0 x1 q k hq hk μ h R hμ]
  exact div_real _ (lR_pos q k μ h R).ne'

include hq hk hμ in
/-- The logarithm the kernel is handed. -/
theorem lse_at (z : Fin 1) : lseOf (F := Ideal) x0 x1 (ix3 h R z) = ((μ + Real.log (lR q k μ h R) : ℝ) : EReal) := by
  rw [lseOf_eq, add_log_at, v29_at x0 x1 μ h R hμ, v34_at x0 x1 q k hq hk μ h R hμ, Ideal.log_coe, if_neg (not_le.mpr (lR_pos q k μ h R)), EReal.coe_add]

include hq hk hμ in
/-- The kernel's weights are the normalised ones. -/
theorem pW_at (C : Fin 4096) : pW x0 x1 (lseOf (F := Ideal) x0 x1) h R C = ((eR q k μ h R C / lR q k μ h R : ℝ) : EReal) := by
  unfold pW scW eR
  rw [lse_at x0 x1 q k hq hk μ h R hμ, scW_at x0 x1 q k hq hk]
  split
  · rw [← EReal.coe_sub, Ideal.exp_coe, ← sub_sub, Real.exp_sub (_ - _), Real.exp_log (lR_pos q k μ h R)]
  · rw [ofBits_negInf, sub_eq_add_neg, EReal.bot_add, Ideal.exp_bot, zero_div, EReal.coe_zero]

include hq hk hv hμ in
/-- The attention's output. -/
theorem v40_at (x : Fin 128) : val_main_v40 (F := Ideal) x0 x1 x2 (ix3 h R x)
    = ((∑ C : Fin 4096, eR q k μ h R C / lR q k μ h R * v (ix3 h C x) : ℝ) : EReal) := by
  refine (val_main_v40_apply x0 x1 x2 _).trans (Eq.trans (Finset.sum_congr rfl fun C _ => ?_) (coe_total _ _).symm)
  show val_main_v36 (F := Ideal) x0 x1 (lidx_main_v40 _ C) * x2 (ridx_main_v40 _ C) = _
  rw [at3 (val_main_v36 (F := Ideal) x0 x1) _ h R C rfl rfl rfl, at3 x2 _ h C x rfl rfl rfl, v36_at x0 x1 q k hq hk μ h R hμ, hv, EReal.coe_mul]

/-- A row sum, read. -/
theorem deltaOf_at (z : Fin 1) : deltaOf (F := Ideal) x0 x1 x2 x3 (ix3 h R z)
    = ∑ x : Fin 128, x3 (ix3 h R x) * val_main_v40 (F := Ideal) x0 x1 x2 (ix3 h R x) := by
  unfold deltaOf
  generalize hy : mulf (F := Ideal) (s := S8x4096x128) (φ := .f32) (val_main_v41 (F := Ideal) x3) (val_main_v40 (F := Ideal) x0 x1 x2) = y
  refine (broadcastInDim_apply _ bcast_S8x4096_S8x4096x1_0_1 _ _ (ix2 h R) (fun a => match a with
    | ⟨0, _⟩ => by show h.val = if (8 : Nat) = 1 then 0 else h.val; rw [if_neg (by decide)]
    | ⟨1, _⟩ => by show R.val = if (4096 : Nat) = 1 then 0 else R.val; rw [if_neg (by decide)])).trans ?_
  simp only [Host.reduceAdd, Ideal.hostReduceAdd_def]
  rw [Ideal.hostReduceAdd_single reducesTo_S8x4096x128_S8x4096_d2 (by decide)]
  refine (congrArg₂ (· + ·) Ideal.ofBits_zero_f32 (Finset.sum_congr rfl fun x _ => ?_)).trans (zero_add _)
  refine (at3 y _ h R x rfl rfl rfl).trans ?_
  rw [← hy]
  rfl

include hq hk hv hw hμ in
/-- The row sum the kernel is handed is the weighted mean of the weights' gradients. -/
theorem delta_at (z : Fin 1) : deltaOf (F := Ideal) x0 x1 x2 x3 (ix3 h R z)
    = ((∑ C : Fin 4096, eR q k μ h R C / lR q k μ h R * gR v w h R C : ℝ) : EReal) := by
  rw [deltaOf_at]
  refine Eq.trans (Finset.sum_congr rfl fun x _ => (congrArg₂ (· * ·) (hw _) (v40_at x0 x1 x2 q k v hq hk hv μ h R hμ x)).trans (EReal.coe_mul _ _).symm) ((coe_total _ _).symm.trans ?_)
  refine congrArg _ ?_
  unfold gR
  simp only [Finset.mul_sum]
  rw [Finset.sum_comm]
  exact Finset.sum_congr rfl fun C _ => Finset.sum_congr rfl fun x _ => by ring

include hq hk hv hw hμ in
/-- The kernel's gradient of a score. -/
theorem sW_at (C : Fin 4096) : sW x0 x1 x2 x3 (lseOf (F := Ideal) x0 x1) (deltaOf (F := Ideal) x0 x1 x2 x3) h R C
    = ((eR q k μ h R C / lR q k μ h R * (gR v w h R C - ∑ C' : Fin 4096, eR q k μ h R C' / lR q k μ h R * gR v w h R C') : ℝ) : EReal) := by
  unfold sW dpW
  rw [pW_at x0 x1 q k hq hk μ h R hμ, delta_at x0 x1 x2 x3 q k v w hq hk hv hw μ h R hμ, gW_at x2 x3 v w hv hw, EReal.coe_mul, EReal.coe_sub]

include hv hw in
theorem v44_at (C : Fin 4096) : val_main_v44 (F := Ideal) x2 x3 (ix3 h R C) = (gR v w h R C : EReal) := by
  refine (val_main_v44_apply x2 x3 _).trans (Eq.trans (Finset.sum_congr rfl fun x _ => ?_) (coe_total _ _).symm)
  show x3 (lidx_main_v44 _ x) * x2 (ridx_main_v44 _ x) = _
  rw [at3 x3 _ h R x rfl rfl rfl, at3 x2 _ h C x rfl rfl rfl, hv, hw, EReal.coe_mul]

include hq hk hμ in
theorem v39_at (z : Fin 1) : val_main_v39 (F := Ideal) x0 x1 (ix3 h R z) = ((1 / (lR q k μ h R * lR q k μ h R) : ℝ) : EReal) := by
  rw [val_main_v39_apply, val_main_v38_apply, val_main_cst_9_apply, val_main_v37_apply, v34_at x0 x1 q k hq hk μ h R hμ]
  refine (congrArg₂ Ideal.div (Ideal.ofBits_one_f32.trans EReal.coe_one.symm) (EReal.coe_mul _ _).symm).trans (div_real _ ?_)
  exact mul_ne_zero (lR_pos q k μ h R).ne' (lR_pos q k μ h R).ne'

include hq hk hv hw hμ in
theorem v48_at : val_main_v48 (F := Ideal) x0 x1 x2 x3 (ix2 h R)
    = ((∑ C : Fin 4096, gR v w h R C * (1 / (lR q k μ h R * lR q k μ h R)) * eR q k μ h R C : ℝ) : EReal) := by
  rw [val_main_v48_apply, val_main_cst_10_apply]
  refine (congrArg₂ (· + ·) Ideal.ofBits_zero_f32 (Eq.trans (Finset.sum_congr rfl fun C _ => ?_) (coe_total Finset.univ _).symm)).trans (zero_add _)
  rw [at3 (val_main_v47 (F := Ideal) x0 x1 x2 x3) _ h R C rfl rfl rfl, val_main_v47_apply, val_main_v46_apply, val_main_v45_apply,
    at3 (val_main_v39 (F := Ideal) x0 x1) _ h R 0 rfl rfl rfl, v39_at x0 x1 q k hq hk μ h R hμ, v44_at x2 x3 v w hv hw, v32_at x0 x1 q k hq hk μ h R hμ,
    EReal.coe_mul, EReal.coe_mul]
  rfl

include hq hk hv hw hμ in
theorem v54_at (C : Fin 4096) : val_main_v54 (F := Ideal) x0 x1 x2 x3 (ix3 h R C)
    = ((-(∑ C : Fin 4096, gR v w h R C * (1 / (lR q k μ h R * lR q k μ h R)) * eR q k μ h R C) : ℝ) : EReal) := by
  rw [val_main_v54_apply, val_main_v53_apply, val_main_cst_11_apply, Fin.sum_univ_one]
  refine (congrArg (· + _) Ideal.ofBits_zero_f32).trans ((zero_add _).trans ?_)
  rw [at3 (val_main_v50 (F := Ideal) x0 x1 x2 x3) _ h R 0 rfl rfl rfl, val_main_v50_apply, val_main_v49_apply,
    at2 (val_main_v48 (F := Ideal) x0 x1 x2 x3) _ h R (by show ((h.val * 4096 + R.val) * 1 + 0) / 4096 = h.val; omega) (by show ((h.val * 4096 + R.val) * 1 + 0) % 4096 = R.val; omega),
    v48_at x0 x1 x2 x3 q k v w hq hk hv hw μ h R hμ, EReal.coe_neg]
  rfl

include hq hk hv hw hμ in
/-- The reference's gradient of a score. -/
theorem v57_at (C : Fin 4096) : val_main_v57 (F := Ideal) x0 x1 x2 x3 (ix3 h R C)
    = (((gR v w h R C / lR q k μ h R + -(∑ C' : Fin 4096, gR v w h R C' * (1 / (lR q k μ h R * lR q k μ h R)) * eR q k μ h R C')) * eR q k μ h R C : ℝ) : EReal) := by
  rw [val_main_v57_apply, mask_at, val_main_v56_apply, val_main_v55_apply, val_main_v52_apply, val_main_v51_apply,
    at3 (val_main_v34 (F := Ideal) x0 x1) _ h R 0 rfl rfl rfl, v34_at x0 x1 q k hq hk μ h R hμ, v44_at x2 x3 v w hv hw,
    v54_at x0 x1 x2 x3 q k v w hq hk hv hw μ h R hμ, v32_at x0 x1 q k hq hk μ h R hμ]
  split
  · rw [EReal.coe_mul, EReal.coe_add]
    exact congrArg (fun z => (z + _) * _) (div_real _ (lR_pos q k μ h R).ne')
  · rename_i hc
    rw [val_main_call1_v0_apply, val_main_call1_cst_apply, show eR q k μ h R C = 0 from if_neg hc, mul_zero, EReal.coe_zero]
    exact Ideal.ofBits_zero_f32

end Cert.Flash
-- ==== Proof.Arrays.lean ====
module

public import proofs.«01_k».proof.Proof.Points

@[expose] public section

noncomputable section

namespace Cert.Flash

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ) (c : Dev nD)

/-- An index of a block of one head is that head's row and column. -/
theorem eq_row {R D : ℕ} (y : (⟨3, ![1, R, D]⟩ : Shape).Idx) : y = ix3 0 (y 1) (y 2) :=
  funext fun a => match a with
    | ⟨0, _⟩ => Fin.ext (by have : (y 0).val < 1 := (y 0).isLt; show (y 0).val = 0; omega)
    | ⟨1, _⟩ => rfl
    | ⟨2, _⟩ => rfl

/-- The query gradient the kernel leaves. -/
theorem arr6 : (dats m 0 c).arrAt (6 : Fin 9) (cfgA Ideal).N = (fun i : S8x4096x192.Idx =>
    DQ (V m c main_arg0) (V m c main_arg1) (V m c main_arg2) (V m c main_arg3) (V m c main_v21) (V m c main_v45) (i 0) (i 1) (i 2)) := by
  refine (dats m 0 c).arrAt_eq_of_covers (6 : Fin 9) _ (by decide +kernel) fun t hf y => ?_
  have h : t.val % 3 = 2 := of_decide_eq_true ((flush6 (F := Ideal) t).symm.trans hf)
  have e := idx6 (F := Ideal) t
  blk_simp
  rw [after_6]
  refine (congrFun (show after6 m c t = dqC m c t h from (dif_neg (by omega)).trans (dif_neg (by omega))) _).trans ?_
  refine (congrArg (dqC m c t h) (eq_row (R := 4096) (D := 192) y)).trans ((dqC_eq m c t h _ _).trans ?_)
  have y0 : (y 0).val < 1 := (y 0).isLt
  have h0 : hd t = (((cfgA Ideal).win 6).blk t).view.emb y 0 := Fin.ext (by unfold hd; blk_simp [e])
  have h1 : y 1 = (((cfgA Ideal).win 6).blk t).view.emb y 1 := Fin.ext (by blk_simp [e])
  have h2 : y 2 = (((cfgA Ideal).win 6).blk t).view.emb y 2 := Fin.ext (by blk_simp [e])
  exact congr (congr (congrArg (DQ _ _ _ _ _ _) h0) h1) h2

/-- The key gradient the kernel leaves. -/
theorem arr7 : (dats m 0 c).arrAt (7 : Fin 9) (cfgA Ideal).N = (fun i : S8x4096x192.Idx =>
    DK (V m c main_arg0) (V m c main_arg1) (V m c main_arg2) (V m c main_arg3) (V m c main_v21) (V m c main_v45) (i 0) (i 1) (i 2)) := by
  refine (dats m 0 c).arrAt_eq_of_covers (7 : Fin 9) _ (by decide +kernel) fun t hf y => ?_
  have h : t.val % 3 ≠ 0 := of_decide_eq_true ((flush7 (F := Ideal) t).symm.trans hf)
  have y0 : (y 0).val < 1 := (y 0).isLt
  blk_simp
  rw [after_7]
  rcases (by omega : t.val % 3 = 1 ∨ t.val % 3 = 2) with h | h
  · have e := idx7 (F := Ideal) t
    simp only [h, (by decide : ¬ (1 : ℕ) = 2), if_false] at e
    refine (congrFun (show after7 m c t = dkB m c t h from dif_pos h) _).trans ?_
    refine (congrArg (dkB m c t h) (eq_row (R := 2048) (D := 192) y)).trans ((dkB_eq m c t h _ _).trans ?_)
    have h0 : hd t = (((cfgA Ideal).win 7).blk t).view.emb y 0 := Fin.ext (by unfold hd; blk_simp [e])
    have h1 : lo (y 1) = (((cfgA Ideal).win 7).blk t).view.emb y 1 := Fin.ext (by unfold lo; blk_simp [e])
    have h2 : y 2 = (((cfgA Ideal).win 7).blk t).view.emb y 2 := Fin.ext (by blk_simp [e])
    exact congr (congr (congrArg (DK _ _ _ _ _ _) h0) h1) h2
  · have e := idx7 (F := Ideal) t
    simp only [h, if_true] at e
    refine (congrFun (show after7 m c t = dkC m c t h from (dif_neg (by omega)).trans (dif_pos h)) _).trans ?_
    refine (congrArg (dkC m c t h) (eq_row (R := 2048) (D := 192) y)).trans ((dkC_eq m c t h _ _).trans ?_)
    have h0 : hd t = (((cfgA Ideal).win 7).blk t).view.emb y 0 := Fin.ext (by unfold hd; blk_simp [e])
    have h1 : hi (y 1) = (((cfgA Ideal).win 7).blk t).view.emb y 1 := Fin.ext (by unfold hi; blk_simp [e])
    have h2 : y 2 = (((cfgA Ideal).win 7).blk t).view.emb y 2 := Fin.ext (by blk_simp [e])
    exact congr (congr (congrArg (DK _ _ _ _ _ _) h0) h1) h2

/-- The value gradient the kernel leaves. -/
theorem arr8 : (dats m 0 c).arrAt (8 : Fin 9) (cfgA Ideal).N = (fun i : S8x4096x128.Idx =>
    DV (V m c main_arg0) (V m c main_arg1) (V m c main_arg3) (V m c main_v21) (i 0) (i 1) (i 2)) := by
  refine (dats m 0 c).arrAt_eq_of_covers (8 : Fin 9) _ (by decide +kernel) fun t hf y => ?_
  have h : t.val % 3 ≠ 0 := of_decide_eq_true ((flush8 (F := Ideal) t).symm.trans hf)
  have y0 : (y 0).val < 1 := (y 0).isLt
  blk_simp
  rw [after_8]
  rcases (by omega : t.val % 3 = 1 ∨ t.val % 3 = 2) with h | h
  · have e := idx8 (F := Ideal) t
    simp only [h, (by decide : ¬ (1 : ℕ) = 2), if_false] at e
    refine (congrFun (show after8 m c t = dvB m c t h from dif_pos h) _).trans ?_
    refine (congrArg (dvB m c t h) (eq_row (R := 2048) (D := 128) y)).trans ((dvB_eq m c t h _ _).trans ?_)
    have h0 : hd t = (((cfgA Ideal).win 8).blk t).view.emb y 0 := Fin.ext (by unfold hd; blk_simp [e])
    have h1 : lo (y 1) = (((cfgA Ideal).win 8).blk t).view.emb y 1 := Fin.ext (by unfold lo; blk_simp [e])
    have h2 : y 2 = (((cfgA Ideal).win 8).blk t).view.emb y 2 := Fin.ext (by blk_simp [e])
    exact congr (congr (congrArg (DV _ _ _ _) h0) h1) h2
  · have e := idx8 (F := Ideal) t
    simp only [h, if_true] at e
    refine (congrFun (show after8 m c t = dvC m c t h from (dif_neg (by omega)).trans (dif_pos h)) _).trans ?_
    refine (congrArg (dvC m c t h) (eq_row (R := 2048) (D := 128) y)).trans ((dvC_eq m c t h _ _).trans ?_)
    have h0 : hd t = (((cfgA Ideal).win 8).blk t).view.emb y 0 := Fin.ext (by unfold hd; blk_simp [e])
    have h1 : hi (y 1) = (((cfgA Ideal).win 8).blk t).view.emb y 1 := Fin.ext (by unfold hi; blk_simp [e])
    have h2 : y 2 = (((cfgA Ideal).win 8).blk t).view.emb y 2 := Fin.ext (by blk_simp [e])
    exact congr (congr (congrArg (DV _ _ _ _) h0) h1) h2

end Cert.Flash
-- ==== Proof.Equal.lean ====
module

public import proofs.«01_k».proof.Proof.Compare
public import proofs.«01_k».proof.Proof.Arrays
public import proofs.«01_k».proof.Proof.Gen.Pre_finite
public import Idealize.ShloMosaic.Lib.ReduceAll

@[expose] public section

noncomputable section

namespace Cert.Flash

open Cert.KernelIdeal Cert.KernelIdeal.Gen
open Idealize.ShloMosaic Idealize.ShloMosaic.TcCoe Idealize.ShloMosaic.Tactic
open Cert.ReferenceIdeal.Read

/-! ## What the precondition says -/

/-- A number whose size compares below the word of infinity is real. -/
theorem real_of_word (x : EReal) (hx : Ideal.cmp .olt (max x (-x)) (Ideal.ofBits .f32 0x7F800000#32) = 1#1) : ∃ r : ℝ, x = (r : EReal) := by
  have hi : Ideal.ofBits .f32 0x7F800000#32 = (⊤ : EReal) := by simp [Ideal.ofBits, Ideal.ieee]
  rw [hi] at hx
  have h : max x (-x) < ⊤ := by
    by_contra hn
    have : Ideal.cmp .olt (max x (-x)) ⊤ = 0#1 := by simp [Ideal.cmp, hn]
    rw [this] at hx
    exact absurd hx (by decide)
  have h1 : x ≠ ⊤ := ((le_max_left _ _).trans_lt h).ne
  have h2 : x ≠ ⊥ := fun e => by rw [e, EReal.neg_bot] at h; exact absurd ((le_max_right _ _).trans_lt h) (lt_irrefl _)
  exact ⟨x.toReal, (EReal.coe_toReal h1 h2).symm⟩

/-- Arguments meeting the precondition are real at every index. -/
theorem real_of_finite (a0 a1 : S8x4096x192.Idx → EReal) (a2 a3 : S8x4096x128.Idx → EReal)
    (hp : Cert.Pre_finite.fn (F := Ideal) a0 a1 a2 a3 = fun _ => 1#1) :
    (∀ i, ∃ r : ℝ, a0 i = r) ∧ (∀ i, ∃ r : ℝ, a1 i = r) ∧ (∀ i, ∃ r : ℝ, a2 i = r) ∧ (∀ i, ∃ r : ℝ, a3 i = r) := by
  haveI : Subsingleton Cert.Pre_finite.S_.Idx := ⟨fun a b => funext fun z => z.elim0⟩
  have h := congrFun hp (fun z => z.elim0)
  dsimp only [Cert.Pre_finite.fn, Cert.Pre_finite.fn_part1] at h
  obtain ⟨h, h3⟩ := IntOp.andi_eq_one.mp h
  obtain ⟨h, h2⟩ := IntOp.andi_eq_one.mp h
  obtain ⟨h0, h1⟩ := IntOp.andi_eq_one.mp h
  exact ⟨fun i => real_of_word _ (Host.reduce_andi_all _ _ _ _ _ h0 i), fun i => real_of_word _ (Host.reduce_andi_all _ _ _ _ _ h1 i),
    fun i => real_of_word _ (Host.reduce_andi_all _ _ _ _ _ h2 i), fun i => real_of_word _ (Host.reduce_andi_all _ _ _ _ _ h3 i)⟩

/-! ## The kernel's gradients are the reference's -/

section

variable (x0 x1 : S8x4096x192.Idx → EReal) (x2 x3 : S8x4096x128.Idx → EReal)
variable (q k : S8x4096x192.Idx → ℝ) (v w : S8x4096x128.Idx → ℝ)
variable (hq : ∀ i, x0 i = q i) (hk : ∀ i, x1 i = k i) (hv : ∀ i, x2 i = v i) (hw : ∀ i, x3 i = w i)

include hq hk in
/-- The weights agree. -/
theorem weight_eq (h : Fin 8) (R C : Fin 4096) :
    pW x0 x1 (lseOf (F := Ideal) x0 x1) h R C = val_main_v36 (F := Ideal) x0 x1 (ix3 h R C) := by
  obtain ⟨μ, hμ⟩ := v12_real x0 x1 q k hq hk h R
  rw [pW_at x0 x1 q k hq hk μ h R hμ, v36_at x0 x1 q k hq hk μ h R hμ]

include hq hk hv hw in
/-- The gradients of the scores agree. -/
theorem grad_eq (h : Fin 8) (R C : Fin 4096) :
    sW x0 x1 x2 x3 (lseOf (F := Ideal) x0 x1) (deltaOf (F := Ideal) x0 x1 x2 x3) h R C = val_main_v57 (F := Ideal) x0 x1 x2 x3 (ix3 h R C) := by
  obtain ⟨μ, hμ⟩ := v12_real x0 x1 q k hq hk h R
  rw [sW_at x0 x1 x2 x3 q k v w hq hk hv hw μ h R hμ, v57_at x0 x1 x2 x3 q k v w hq hk hv hw μ h R hμ]
  exact congrArg _ (softmax_grad (fun C => eR q k μ h R C) (fun C => gR v w h R C) (lR_pos q k μ h R).ne' C)

include hq hk hv hw in
/-- The gradients of the queries agree. -/
theorem dq_eq (i : S8x4096x192.Idx) :
    DQ x0 x1 x2 x3 (lseOf (F := Ideal) x0 x1) (deltaOf (F := Ideal) x0 x1 x2 x3) (i 0) (i 1) (i 2) = val_main_v59 (F := Ideal) x0 x1 x2 x3 i := by
  refine Eq.trans (Finset.sum_congr rfl fun C _ => ?_) (val_main_v59_apply x0 x1 x2 x3 i).symm
  refine congrArg₂ (· * ·) ((grad_eq x0 x1 x2 x3 q k v w hq hk hv hw (i 0) (i 1) C).trans
    (at3 (val_main_v57 (F := Ideal) x0 x1 x2 x3) (lidx_main_v59 i C) (i 0) (i 1) C rfl rfl rfl).symm) ?_
  exact (at3 x1 (ridx_main_v59 i C) (i 0) C (i 2) rfl rfl rfl).symm

include hq hk hv hw in
/-- The gradients of the keys agree. -/
theorem dk_eq (i : S8x4096x192.Idx) :
    DK x0 x1 x2 x3 (lseOf (F := Ideal) x0 x1) (deltaOf (F := Ideal) x0 x1 x2 x3) (i 0) (i 1) (i 2) = val_main_v58 (F := Ideal) x0 x1 x2 x3 i := by
  refine Eq.trans (Finset.sum_congr rfl fun R _ => ?_) (val_main_v58_apply x0 x1 x2 x3 i).symm
  refine congrArg₂ (· * ·) ((grad_eq x0 x1 x2 x3 q k v w hq hk hv hw (i 0) R (i 1)).trans
    (at3 (val_main_v57 (F := Ideal) x0 x1 x2 x3) (lidx_main_v58 i R) (i 0) R (i 1) rfl rfl rfl).symm) ?_
  exact (at3 x0 (ridx_main_v58 i R) (i 0) R (i 2) rfl rfl rfl).symm

include hq hk in
/-- The gradients of the values agree. -/
theorem dv_eq (i : S8x4096x128.Idx) :
    DV x0 x1 x3 (lseOf (F := Ideal) x0 x1) (i 0) (i 1) (i 2) = val_main_v43 (F := Ideal) x0 x1 x3 i := by
  rw [val_main_v43_apply, val_main_v42_apply]
  refine Finset.sum_congr rfl fun R _ => ?_
  refine (mul_comm _ _).trans (congrArg₂ (· * ·) ?_ ((weight_eq x0 x1 q k hq hk (i 0) R (i 1)).trans
    (at3 (val_main_v36 (F := Ideal) x0 x1) (ridx_main_v42 (idx_main_v43 i) R) (i 0) R (i 1) rfl rfl rfl).symm))
  exact (at3 x3 (lidx_main_v42 (idx_main_v43 i) R) (i 0) R (i 2) rfl rfl rfl).symm

end

/-! ## The results -/

variable (m : (ℓ : Loc nD τ sig) → Buf (Elt Ideal) ℓ) (c : Dev nD)
  (hp : Cert.Pre_finite.fn (F := Ideal) (m ((c : Thread nD τ).loc main_arg0)) (m ((c : Thread nD τ).loc main_arg1)) (m ((c : Thread nD τ).loc main_arg2)) (m ((c : Thread nD τ).loc main_arg3)) = fun _ => 1#1)

include hp in
/-- The first result is the reference's gradient of the queries. -/
theorem value_q : (dats m 0 c).arrAt (6 : Fin 9) (cfgA Ideal).N = val_main_v59 (F := Ideal) (m ((c : Thread nD τ).loc main_arg0)) (m ((c : Thread nD τ).loc main_arg1)) (m ((c : Thread nD τ).loc main_arg2)) (m ((c : Thread nD τ).loc main_arg3)) := by
  obtain ⟨h0, h1, h2, h3⟩ := real_of_finite _ _ _ _ hp
  choose q hq using h0
  choose k hk using h1
  choose v hv using h2
  choose w hw using h3
  refine (arr6 m c).trans (funext fun i => ?_)
  rw [V_arg0, V_arg1, V_arg2, V_arg3, V_v21, V_v45]
  exact dq_eq _ _ _ _ q k v w hq hk hv hw i

include hp in
/-- The second result is the reference's gradient of the keys. -/
theorem value_k : (dats m 0 c).arrAt (7 : Fin 9) (cfgA Ideal).N = val_main_v58 (F := Ideal) (m ((c : Thread nD τ).loc main_arg0)) (m ((c : Thread nD τ).loc main_arg1)) (m ((c : Thread nD τ).loc main_arg2)) (m ((c : Thread nD τ).loc main_arg3)) := by
  obtain ⟨h0, h1, h2, h3⟩ := real_of_finite _ _ _ _ hp
  choose q hq using h0
  choose k hk using h1
  choose v hv using h2
  choose w hw using h3
  refine (arr7 m c).trans (funext fun i => ?_)
  rw [V_arg0, V_arg1, V_arg2, V_arg3, V_v21, V_v45]
  exact dk_eq _ _ _ _ q k v w hq hk hv hw i

include hp in
/-- The third result is the reference's gradient of the values. -/
theorem value_v : (dats m 0 c).arrAt (8 : Fin 9) (cfgA Ideal).N = val_main_v43 (F := Ideal) (m ((c : Thread nD τ).loc main_arg0)) (m ((c : Thread nD τ).loc main_arg1)) (m ((c : Thread nD τ).loc main_arg3)) := by
  obtain ⟨h0, h1, h2, h3⟩ := real_of_finite _ _ _ _ hp
  choose q hq using h0
  choose k hk using h1
  refine (arr8 m c).trans (funext fun i => ?_)
  rw [V_arg0, V_arg1, V_arg3, V_v21]
  exact dv_eq _ _ _ q k hq hk i

end Cert.Flash
-- ==== Proof.Weight.lean ====
module

public import proofs.«01_k».proof.Proof.Gen.Kernel2Ideal.Value
public import proofs.«01_k».proof.Proof.Gen.Reference2Ideal.Read
public import proofs.«01_k».proof.Proof.Gen.Reference3Ideal.Read
public import Idealize.ShloMosaic.Lib.Tactic
public import Idealize.ShloMosaic.Lib.Pipeline.ValueKit

@[expose] public section

noncomputable section

namespace Cert.Weight

open Cert.Kernel2Ideal Cert.Kernel2Ideal.Gen
open Idealize.ShloMosaic Idealize.ShloMosaic.TcCoe Idealize.ShloMosaic.Tactic Idealize.SL.Sem

/-- The gradient of a blocked weight: the sum over the rows of a block's activations times the upstream's. -/
def grad (x : S8x4096x704.Idx → EReal) (y : S4096x2048.Idx → EReal) (j : Fin 8) (f : Fin 704) (d : Fin 2048) : EReal :=
  ∑ k : Fin 4096, x (ix3 j k f) * y (ix2 k d)

variable (m : (ℓ : Loc nD τ sig) → Buf (Elt Ideal) ℓ) (c : Dev nD)

/-- The block index of the activations. -/
theorem idx0 : ∀ t : Fin grid0.N, win0_0.index t = ![t.val / 2, 0, 0] := by decide +kernel
/-- The block index of the upstream. -/
theorem idx1 : ∀ t : Fin grid0.N, win0_1.index t = ![0, t.val % 2] := by decide +kernel
/-- The block index of the gradient. -/
theorem idx2 : ∀ t : Fin grid0.N, win0_2.index t = ![t.val / 2, 0, t.val % 2] := by decide +kernel

/-- What a grid point's store holds, of the two blocks it loads. -/
theorem pay (x : Vec Ideal S1x4096x704 .bf16) (y : Vec Ideal S4096x1024 .bf16) (f : Fin 704) (d : Fin 1024) :
    k0_pay1 x y (ix3 0 f d) = ∑ k : Fin 4096, x (ix3 0 k f) * y (ix2 k d) := by
  pointwise [k0_pay1]

theorem eq_row {R D : ℕ} (y : (⟨3, ![1, R, D]⟩ : Shape).Idx) : y = ix3 0 (y 1) (y 2) :=
  funext fun a => match a with
    | ⟨0, _⟩ => Fin.ext (by have : (y 0).val < 1 := (y 0).isLt; show (y 0).val = 0; omega)
    | ⟨1, _⟩ => rfl
    | ⟨2, _⟩ => rfl

/-- The gradient the kernel leaves. -/
theorem arr2 : (dats m 0 c).arrAt (2 : Fin 3) cfg0.N = (fun i : S8x704x2048.Idx =>
    grad (V m c main_arg0) (V m c main_arg1) (i 0) (i 1) (i 2)) := by
  refine (dats m 0 c).arrAt_eq_of_covers (2 : Fin 3) _ (by decide +kernel) fun t hf y => ?_
  have e0 := idx0 t
  have e1 := idx1 t
  have e2 := idx2 t
  blk_simp
  rw [after0_2]
  unfold out0_2
  refine (congrFun (View.canon_unit_zero (show (![0, 0, 0] : Fin 3 → ℕ) = fun _ => 0 by decide) _ _) y).trans ?_
  rw [View.ld_unit_zero (show (![0, 0, 0] : Fin 3 → ℕ) = fun _ => 0 by decide), View.ld_unit_zero (show (![0, 0] : Fin 2 → ℕ) = fun _ => 0 by decide)]
  have ht : t.val < 16 := t.isLt
  have y0 : (y 0).val < 1 := (y 0).isLt
  have y2 : (y 2).val < 1024 := (y 2).isLt
  refine (congrArg _ (eq_row (R := 704) (D := 1024) y)).trans ((pay _ _ _ _).trans (Finset.sum_congr rfl fun k _ => congrArg₂ (· * ·) ?_ ?_))
  · blk_ext [iblk, e0, e2]
  · blk_ext [iblk, e1, e2]

/-- The final array is the first reference's result. -/
theorem down (x : S8x4096x704.Idx → EReal) (y : S4096x2048.Idx → EReal) (i : S8x704x2048.Idx) :
    Cert.Reference2Ideal.Read.val_main_v9 (F := Ideal) x y i = grad x y (i 0) (i 1) (i 2) := by
  have i0 : (i 0).val < 8 := (i 0).isLt
  have i1 : (i 1).val < 704 := (i 1).isLt
  have i2 : (i 2).val < 2048 := (i 2).isLt
  rw [Cert.Reference2Ideal.Read.val_main_v9_apply, Cert.Reference2Ideal.Read.val_main_v8_apply, Cert.Reference2Ideal.Read.val_main_v7_apply, Cert.Reference2Ideal.Read.val_main_v6_apply]
  refine Finset.sum_congr rfl fun k _ => (mul_comm _ _).trans (congrArg₂ (· * ·) ?_ ?_)
  · rw [Cert.Reference2Ideal.Read.val_main_v3_apply, Cert.Reference2Ideal.Read.val_main_v2_apply]
    refine congrArg x (funext fun a => Fin.ext ?_)
    fin_cases a
    · show (k.val * 5632 + (((i 0).val * 704 + (i 1).val) * 2048 + (i 2).val) / 2048) / 704 % 8 = (i 0).val; omega
    · show (k.val * 5632 + (((i 0).val * 704 + (i 1).val) * 2048 + (i 2).val) / 2048) / 5632 = k.val; omega
    · show (k.val * 5632 + (((i 0).val * 704 + (i 1).val) * 2048 + (i 2).val) / 2048) % 704 = (i 1).val; omega
  · refine congrArg y (funext fun a => Fin.ext ?_)
    fin_cases a
    · rfl
    · show (((i 0).val * 704 + (i 1).val) * 2048 + (i 2).val) % 2048 = (i 2).val; omega

/-- The final array is the second reference's result. -/
theorem gate (x : S8x4096x704.Idx → EReal) (y : S4096x2048.Idx → EReal) (i : S8x704x2048.Idx) :
    Cert.Reference3Ideal.Read.val_main_v10 (F := Ideal) x y i = grad x y (i 0) (i 1) (i 2) := by
  have i0 : (i 0).val < 8 := (i 0).isLt
  have i1 : (i 1).val < 704 := (i 1).isLt
  have i2 : (i 2).val < 2048 := (i 2).isLt
  rw [Cert.Reference3Ideal.Read.val_main_v10_apply, Cert.Reference3Ideal.Read.val_main_v9_apply, Cert.Reference3Ideal.Read.val_main_v8_apply, Cert.Reference3Ideal.Read.val_main_v7_apply, Cert.Reference3Ideal.Read.val_main_v6_apply]
  refine Finset.sum_congr rfl fun k _ => congrArg₂ (· * ·) ?_ ?_
  · rw [Cert.Reference3Ideal.Read.val_main_v5_apply, Cert.Reference3Ideal.Read.val_main_v4_apply]
    refine congrArg x (funext fun a => Fin.ext ?_)
    fin_cases a
    · show (k.val * 5632 + (((i 0).val * 704 + (i 1).val) * 2048 + (i 2).val) / 2048) / 704 % 8 = (i 0).val; omega
    · show (k.val * 5632 + (((i 0).val * 704 + (i 1).val) * 2048 + (i 2).val) / 2048) / 5632 = k.val; omega
    · show (k.val * 5632 + (((i 0).val * 704 + (i 1).val) * 2048 + (i 2).val) / 2048) % 704 = (i 1).val; omega
  · refine congrArg y (funext fun a => Fin.ext ?_)
    fin_cases a
    · rfl
    · show (((i 0).val * 704 + (i 1).val) * 2048 + (i 2).val) % 2048 = (i 2).val; omega

/-- The kernel's result is the first reference's. -/
theorem value_down : (dats m 0 c).arrAt (2 : Fin 3) cfg0.N = Cert.Reference2Ideal.Read.val_main_v9 (F := Ideal)
    (m ((c.tc : Thread nD τ).loc main_arg0)) (m ((c.tc : Thread nD τ).loc main_arg1)) := by
  refine (arr2 m c).trans (funext fun i => ?_)
  rw [V_main_arg0, V_main_arg1]
  exact (down _ _ i).symm

/-- The kernel's result is the second reference's. -/
theorem value_gate : (dats m 0 c).arrAt (2 : Fin 3) cfg0.N = Cert.Reference3Ideal.Read.val_main_v10 (F := Ideal)
    (m ((c.tc : Thread nD τ).loc main_arg0)) (m ((c.tc : Thread nD τ).loc main_arg1)) := by
  refine (arr2 m c).trans (funext fun i => ?_)
  rw [V_main_arg0, V_main_arg1]
  exact (gate _ _ i).symm

end Cert.Weight
-- ==== Proof.InputStep.lean ====
module

public import proofs.«01_k».proof.Proof.Gen.Kernel4Ideal.Value
public import Idealize.ShloMosaic.Lib.Tactic
public import Idealize.ShloMosaic.Lib.Pointwise
public import Idealize.ShloMosaic.Lib.WritesUnit

@[expose] public section

noncomputable section

namespace Cert.Input

open Cert.Kernel4Ideal Cert.Kernel4Ideal.Gen
open Idealize.ShloMosaic Idealize.ShloMosaic.TcCoe Idealize.ShloMosaic.Tactic

variable (c : Dev nD) (i : grid0.Coords)
    (arg3 : Memref sig .tc .vmem S1x1024x704 .bf16) (harg3 : arg3.IsWhole) (arg4 : Memref sig .tc .vmem S1x704x1024 .bf16) (harg4 : arg4.IsWhole)
    (arg5 : Memref sig .tc .vmem S1x1024x704 .bf16) (harg5 : arg5.IsWhole) (arg6 : Memref sig .tc .vmem S1x704x1024 .bf16) (harg6 : arg6.IsWhole)
    (arg7 : Memref sig .tc .vmem S1x1024x704 .bf16) (harg7 : arg7.IsWhole) (arg8 : Memref sig .tc .vmem S1x704x1024 .bf16) (harg8 : arg8.IsWhole)
    (arg9 : Memref sig .tc .vmem S1x1024x704 .bf16) (harg9 : arg9.IsWhole) (arg10 : Memref sig .tc .vmem S1x704x1024 .bf16) (harg10 : arg10.IsWhole)
    (arg11 : Memref sig .tc .vmem S1024x1024 .f32) (harg11 : arg11.IsWhole) (arg12 : Memref sig .tc .vmem S1024x1024 .f32) (harg12 : arg12.IsWhole)
    (x0 : Vec Ideal S1x1024x704 .bf16) (x1 : Vec Ideal S1x704x1024 .bf16) (x2 : Vec Ideal S1x1024x704 .bf16) (x3 : Vec Ideal S1x704x1024 .bf16)
    (x4 : Vec Ideal S1x1024x704 .bf16) (x5 : Vec Ideal S1x704x1024 .bf16) (x6 : Vec Ideal S1x1024x704 .bf16) (x7 : Vec Ideal S1x704x1024 .bf16)
    (xs : Vec Ideal S1024x1024 .f32)

/-- One block's product. -/
def part (x : S1x1024x704.Idx → EReal) (w : S1x704x1024.Idx → EReal) (r n : Fin 1024) : EReal := ∑ f : Fin 704, x (ix3 0 r f) * w (ix3 0 f n)

/-- What a grid step adds: the products of two blocks of each of the two hidden arrays. -/
def step (x0 : S1x1024x704.Idx → EReal) (x1 : S1x704x1024.Idx → EReal) (x2 : S1x1024x704.Idx → EReal) (x3 : S1x704x1024.Idx → EReal)
    (x4 : S1x1024x704.Idx → EReal) (x5 : S1x704x1024.Idx → EReal) (x6 : S1x1024x704.Idx → EReal) (x7 : S1x704x1024.Idx → EReal) (r n : Fin 1024) : EReal :=
  (part x0 x1 r n + part x2 x3 r n) + (part x4 x5 r n + part x6 x7 r n)

set_option maxRecDepth 16384

/-- A store of one row group: where the rows above it hold what they should and the group is stored as it should be, so do the rows up to the group's end. -/
theorem rows_lo {sig : RefSig} {κ : Kind} {sp : Space} (z : View sig κ sp S1024x1024 .f32) (f : z.ty.Contents (Elt Ideal)) (o : ℕ) (ho : o + 256 ≤ 1024)
    (inb : ∀ a : Fin 2, (![o, 0] : Fin 2 → ℕ) a + (![256, 1024] : Fin 2 → ℕ) a ≤ (![1024, 1024] : Fin 2 → ℕ) a)
    (u : (⟨2, ![256, 1024]⟩ : Shape).Idx → EReal) (L : List (View.Piece (Elt Ideal) S1024x1024 .f32)) (G : Fin 1024 → Fin 1024 → EReal)
    (hL : ∀ R d : Fin 1024, R.val < o → z.read (Elt Ideal) (z.writes (Elt Ideal) f L) (ix2 R d) = G R d)
    (hu : ∀ (r : Fin 256) (d : Fin 1024), u (ix2 r d) = G ⟨o + r.val, by omega⟩ d) :
    ∀ R d : Fin 1024, R.val < o + 256 → z.read (Elt Ideal) (z.writes (Elt Ideal) f
      (⟨Rect.unit (s := S1024x1024) ![o, 0] ![256, 1024] inb, u⟩ :: L)) (ix2 R d) = G R d := by
  intro R d hR
  by_cases h : R.val < o
  · rw [View.read_writes_cons_unit_of_not_mem z f inb u L (ix2 R d) rfl (0 : Fin 2) (Or.inl h)]
    exact hL R d h
  · rw [View.read_writes_cons_unit_of_mem z f inb u L (ix2 R d) (ix2 ⟨R.val - o, by omega⟩ d) rfl
      (Fin.forall_fin_two.mpr ⟨by show R.val = o + (R.val - o); omega, (Nat.zero_add _).symm⟩)]
    exact (hu _ d).trans (congrArg (G · d) (Fin.ext (by show o + (R.val - o) = R.val; omega)))

/-- A store of one row group leaves the rows past it. -/
theorem rows_hi {sig : RefSig} {κ : Kind} {sp : Space} (z : View sig κ sp S1024x1024 .f32) (f : z.ty.Contents (Elt Ideal)) (o : ℕ)
    (inb : ∀ a : Fin 2, (![o, 0] : Fin 2 → ℕ) a + (![256, 1024] : Fin 2 → ℕ) a ≤ (![1024, 1024] : Fin 2 → ℕ) a)
    (u : (⟨2, ![256, 1024]⟩ : Shape).Idx → EReal) (L : List (View.Piece (Elt Ideal) S1024x1024 .f32)) (R d : Fin 1024) (h : o + 256 ≤ R.val) :
    z.read (Elt Ideal) (z.writes (Elt Ideal) f (⟨Rect.unit (s := S1024x1024) ![o, 0] ![256, 1024] inb, u⟩ :: L)) (ix2 R d)
      = z.read (Elt Ideal) (z.writes (Elt Ideal) f L) (ix2 R d) :=
  View.read_writes_cons_unit_of_not_mem z f inb u L (ix2 R d) rfl (0 : Fin 2) (Or.inr h)

/-- A store over the whole scratch leaves what was stored. -/
theorem rows_all {sig : RefSig} {κ : Kind} {sp : Space} (z : View sig κ sp S1024x1024 .f32) (f : z.ty.Contents (Elt Ideal))
    (inb : ∀ a : Fin 2, (![0, 0] : Fin 2 → ℕ) a + (![1024, 1024] : Fin 2 → ℕ) a ≤ (![1024, 1024] : Fin 2 → ℕ) a)
    (u : (⟨2, ![1024, 1024]⟩ : Shape).Idx → EReal) (L : List (View.Piece (Elt Ideal) S1024x1024 .f32)) (R d : Fin 1024) :
    z.read (Elt Ideal) (z.writes (Elt Ideal) f (⟨Rect.unit (s := S1024x1024) ![0, 0] ![1024, 1024] inb, u⟩ :: L)) (ix2 R d) = u (ix2 R d) :=
  View.read_writes_cons_unit_of_mem z f inb u L (ix2 R d) (ix2 R d) rfl
    (Fin.forall_fin_two.mpr ⟨(Nat.zero_add _).symm, (Nat.zero_add _).symm⟩)

/-- A load of one row group of a hidden block. -/
theorem ld_rows (M : Memref sig .tc .vmem S1x1024x704 .bf16) (hM : M.IsWhole) (x : Vec Ideal S1x1024x704 .bf16) (o : ℕ)
    (inb : ∀ a : Fin 3, (![0, o, 0] : Fin 3 → ℕ) a + (![1, 256, 704] : Fin 3 → ℕ) a ≤ (![1, 1024, 704] : Fin 3 → ℕ) a) (r : Fin 256) (f : Fin 704) :
    View.readAt (Elt Ideal) M.view (Rect.unit (s := S1x1024x704) ![0, o, 0] ![1, 256, 704] inb).toLoadRect (hM.unread x) (ix3 0 r f)
      = x (ix3 0 ⟨o + r.val, by have : o + 256 ≤ 1024 := inb 1; omega⟩ f) := by
  refine (congrFun (hM.read_unread (Val := Elt Ideal) x) _).trans (congrArg x (funext fun a => Fin.ext ?_))
  fin_cases a
  · rfl
  · show o + 1 * r.val = o + r.val; omega
  · show 0 + 1 * f.val = f.val; omega

/-- A load of a whole weight block. -/
theorem ld_weight (M : Memref sig .tc .vmem S1x704x1024 .bf16) (hM : M.IsWhole) (x : Vec Ideal S1x704x1024 .bf16)
    (inb : ∀ a : Fin 3, (![0, 0, 0] : Fin 3 → ℕ) a + (![1, 704, 1024] : Fin 3 → ℕ) a ≤ (![1, 704, 1024] : Fin 3 → ℕ) a) (f : Fin 704) (n : Fin 1024) :
    View.readAt (Elt Ideal) M.view (Rect.unit (s := S1x704x1024) ![0, 0, 0] ![1, 704, 1024] inb).toLoadRect (hM.unread x) (ix3 0 f n) = x (ix3 0 f n) := by
  refine (congrFun (hM.read_unread (Val := Elt Ideal) x) _).trans (congrArg x (funext fun a => Fin.ext ?_))
  fin_cases a
  · rfl
  · show 0 + 1 * f.val = f.val; omega
  · show 0 + 1 * n.val = n.val; omega

/-- A load of one row group of the scratch as the step before left it. -/
theorem ld_acc (M : Memref sig .tc .vmem S1024x1024 .f32) (hM : M.IsWhole) (x : Vec Ideal S1024x1024 .f32) (o : ℕ)
    (inb : ∀ a : Fin 2, (![o, 0] : Fin 2 → ℕ) a + (![256, 1024] : Fin 2 → ℕ) a ≤ (![1024, 1024] : Fin 2 → ℕ) a) (r : Fin 256) (n : Fin 1024) :
    View.readAt (Elt Ideal) M.view (Rect.unit (s := S1024x1024) ![o, 0] ![256, 1024] inb).toLoadRect (hM.unread x) (ix2 r n)
      = x (ix2 ⟨o + r.val, by have : o + 256 ≤ 1024 := inb 0; omega⟩ n) := by
  refine (congrFun (hM.read_unread (Val := Elt Ideal) x) _).trans (congrArg x (funext fun a => Fin.ext ?_))
  fin_cases a
  · show o + 1 * r.val = o + r.val; omega
  · show 0 + 1 * n.val = n.val; omega

/-- A load of one row group of the scratch, of the stores so far. -/
theorem ld_cov {sig : RefSig} {κ : Kind} {sp : Space} (z : View sig κ sp S1024x1024 .f32) (L : List (View.Piece (Elt Ideal) S1024x1024 .f32)) (o : ℕ)
    (inb : ∀ a : Fin 2, (![o, 0] : Fin 2 → ℕ) a + (![256, 1024] : Fin 2 → ℕ) a ≤ (![1024, 1024] : Fin 2 → ℕ) a) (r : Fin 256) (n : Fin 1024) :
    z.readCov L (Rect.unit (s := S1024x1024) ![o, 0] ![256, 1024] inb).toLoadRect (ix2 r n)
      = z.read (Elt Ideal) (z.writes (Elt Ideal) z.junk L) (ix2 ⟨o + r.val, by have : o + 256 ≤ 1024 := inb 0; omega⟩ n) := by
  refine congrArg (z.read (Elt Ideal) (z.writes (Elt Ideal) z.junk L)) (funext fun a => Fin.ext ?_)
  fin_cases a
  · show o + 1 * r.val = o + r.val; omega
  · show 0 + 1 * n.val = n.val; omega

set_option maxHeartbeats 4000000 in
/-- What an inner step leaves in the scratch. -/
theorem step_B (hc0 : ¬cond0_0 i) (hc1 : ¬cond0_1 i) (r n : Fin 1024) :
    sout0_B_0 c i arg3 harg3 arg4 harg4 arg5 harg5 arg6 harg6 arg7 harg7 arg8 harg8 arg9 harg9 arg10 harg10 arg11 harg11 arg12 harg12 hc0 hc1 x0 x1 x2 x3 x4 x5 x6 x7 xs (ix2 r n)
      = xs (ix2 r n) + step x0 x1 x2 x3 x4 x5 x6 x7 r n := by
  delta sout0_B_0 kernelRun0_B
  dsimp only
  sl_unfold_words
  refine rows_lo _ _ 768 (by decide) _ _ _ (fun r n => xs (ix2 r n) + step x0 x1 x2 x3 x4 x5 x6 x7 r n)
    (rows_lo _ _ 512 (by decide) _ _ _ _ (rows_lo _ _ 256 (by decide) _ _ _ _ (rows_lo _ _ 0 (by decide) _ _ _ _
      (fun R d h => absurd h (Nat.not_lt_zero _)) ?_) ?_) ?_) ?_ r n r.isLt
  all_goals
    intro r n
    unfold_payloads
    pointwise
    simp only [ld_rows, ld_weight, ld_acc, step, part, Nat.zero_add]

set_option maxHeartbeats 4000000 in
/-- What the last step leaves in the scratch. -/
theorem step_C (hc0 : ¬cond0_0 i) (hc1 : cond0_1 i) (r n : Fin 1024) :
    sout0_C_0 c i arg3 harg3 arg4 harg4 arg5 harg5 arg6 harg6 arg7 harg7 arg8 harg8 arg9 harg9 arg10 harg10 arg11 harg11 arg12 harg12 hc0 hc1 x0 x1 x2 x3 x4 x5 x6 x7 xs (ix2 r n)
      = xs (ix2 r n) + step x0 x1 x2 x3 x4 x5 x6 x7 r n := by
  delta sout0_C_0 kernelRun0_C
  dsimp only
  sl_unfold_words
  refine rows_lo _ _ 768 (by decide) _ _ _ (fun r n => xs (ix2 r n) + step x0 x1 x2 x3 x4 x5 x6 x7 r n)
    (rows_lo _ _ 512 (by decide) _ _ _ _ (rows_lo _ _ 256 (by decide) _ _ _ _ (rows_lo _ _ 0 (by decide) _ _ _ _
      (fun R d h => absurd h (Nat.not_lt_zero _)) ?_) ?_) ?_) ?_ r n r.isLt
  all_goals
    intro r n
    unfold_payloads
    pointwise
    simp only [ld_rows, ld_weight, ld_acc, step, part, Nat.zero_add]

set_option maxHeartbeats 4000000 in
/-- What the last step stores to the result's block: the scratch. -/
theorem out_C (hc0 : ¬cond0_0 i) (hc1 : cond0_1 i) :
    out0_C_8 c i arg3 harg3 arg4 harg4 arg5 harg5 arg6 harg6 arg7 harg7 arg8 harg8 arg9 harg9 arg10 harg10 arg11 harg11 arg12 harg12 hc0 hc1 x0 x1 x2 x3 x4 x5 x6 x7 xs
      = sout0_C_0 c i arg3 harg3 arg4 harg4 arg5 harg5 arg6 harg6 arg7 harg7 arg8 harg8 arg9 harg9 arg10 harg10 arg11 harg11 arg12 harg12 hc0 hc1 x0 x1 x2 x3 x4 x5 x6 x7 xs := by
  delta out0_C_8 sout0_C_0 kernelRun0_C
  dsimp only
  rw [View.read_writes_junk_eq_canon, View.read_writes_junk_eq_canon, View.canon_unit_zero (show (![0, 0] : Fin 2 → ℕ) = fun _ => 0 by decide)]
  delta kernelRun0_C.sl.v118
  dsimp only
  rw [View.readCov_eq_canon']
  refine funext fun j => congrArg _ (funext fun a => Fin.ext ?_)
  fin_cases a
  · show 0 + 1 * (j 0).val = (j 0).val; omega
  · show 0 + 1 * (j 1).val = (j 1).val; omega

set_option maxHeartbeats 4000000 in
/-- What a first step leaves in the scratch. -/
theorem step_A (hc0 : cond0_0 i) (hc1 : ¬cond0_1 i) (r n : Fin 1024) :
    sout0_A_0 c i arg3 harg3 arg4 harg4 arg5 harg5 arg6 harg6 arg7 harg7 arg8 harg8 arg9 harg9 arg10 harg10 arg11 harg11 arg12 harg12 hc0 hc1 x0 x1 x2 x3 x4 x5 x6 x7 (ix2 r n)
      = 0 + step x0 x1 x2 x3 x4 x5 x6 x7 r n := by
  delta sout0_A_0 kernelRun0_A
  dsimp only
  sl_unfold_words
  refine rows_lo _ _ 768 (by decide) _ _ _ (fun r n => 0 + step x0 x1 x2 x3 x4 x5 x6 x7 r n)
    (rows_lo _ _ 512 (by decide) _ _ _ _ (rows_lo _ _ 256 (by decide) _ _ _ _ (rows_lo _ _ 0 (by decide) _ _ _ _
      (fun R d h => absurd h (Nat.not_lt_zero _)) ?_) ?_) ?_) ?_ r n r.isLt
  all_goals
    intro r n
    unfold_payloads
    pointwise
    simp only [ld_rows, ld_weight, ld_cov, step, part, Nat.zero_add]
    refine (congrArg₂ (· + ·) (?_ : _ = (0 : EReal)) rfl).trans (zero_add _)
    try simp (disch := (dsimp only; omega)) only [rows_hi]
    refine (rows_all _ _ _ _ _ _ _).trans ?_
    rfl

end Cert.Input
-- ==== Proof.Input.lean ====
module

public import proofs.«01_k».proof.Proof.InputStep
public import proofs.«01_k».proof.Proof.Gen.Reference4Ideal.Read
public import Idealize.ShloMosaic.Lib.Pipeline.ValueKit

@[expose] public section

noncomputable section

namespace Cert.Input

open Cert.Kernel4Ideal Cert.Kernel4Ideal.Gen
open Idealize.ShloMosaic Idealize.ShloMosaic.TcCoe Idealize.ShloMosaic.Tactic Idealize.SL.Sem

/-- One hidden block's product. -/
def term (x : S8x4096x704.Idx → EReal) (w : S8x704x2048.Idx → EReal) (j : Fin 8) (R : Fin 4096) (C : Fin 2048) : EReal :=
  ∑ f : Fin 704, x (ix3 j R f) * w (ix3 j f C)

/-- The gradient of the block's input: over the hidden blocks, the gate's product and the up projection's. -/
def dv (x0 : S8x4096x704.Idx → EReal) (x1 : S8x704x2048.Idx → EReal) (x2 : S8x4096x704.Idx → EReal) (x3 : S8x704x2048.Idx → EReal)
    (R : Fin 4096) (C : Fin 2048) : EReal := ∑ j : Fin 8, (term x0 x1 j R C + term x2 x3 j R C)

variable (m : (ℓ : Loc nD τ sig) → Buf (Elt Ideal) ℓ) (c : Dev nD)

/-- The block indices of the even hidden blocks. -/
theorem idx_even : ∀ t : Fin grid0.N, win0_0.index t = ![2 * (t.val % 4), t.val / 8, 0] ∧ win0_1.index t = ![2 * (t.val % 4), 0, t.val / 4 % 2]
    ∧ win0_2.index t = ![2 * (t.val % 4), t.val / 8, 0] ∧ win0_3.index t = ![2 * (t.val % 4), 0, t.val / 4 % 2] := by decide +kernel
/-- The block indices of the odd hidden blocks. -/
theorem idx_odd : ∀ t : Fin grid0.N, win0_4.index t = ![2 * (t.val % 4) + 1, t.val / 8, 0] ∧ win0_5.index t = ![2 * (t.val % 4) + 1, 0, t.val / 4 % 2]
    ∧ win0_6.index t = ![2 * (t.val % 4) + 1, t.val / 8, 0] ∧ win0_7.index t = ![2 * (t.val % 4) + 1, 0, t.val / 4 % 2] := by decide +kernel
/-- The block index of the result. -/
theorem idx_out : ∀ t : Fin grid0.N, win0_8.index t = ![t.val / 8, t.val / 4 % 2] := by decide +kernel

/-- What grid point `t` adds to its block. -/
def add (t : Fin cfg0.N) (r n : Fin 1024) : EReal :=
  step (iblk m c 0 t) (iblk m c 1 t) (iblk m c 2 t) (iblk m c 3 t) (iblk m c 4 t) (iblk m c 5 t) (iblk m c 6 t) (iblk m c 7 t) r n

/-- What grid point `t` adds, of the whole arrays. -/
theorem add_eq (t : Fin cfg0.N) (r n : Fin 1024) (R : Fin 4096) (C : Fin 2048) (j k : Fin 8) (hR : R.val = t.val / 8 * 1024 + r.val)
    (hC : C.val = t.val / 4 % 2 * 1024 + n.val) (hj : j.val = 2 * (t.val % 4)) (hk : k.val = 2 * (t.val % 4) + 1) :
    add m c t r n = (term (V m c main_arg0) (V m c main_arg1) j R C + term (V m c main_arg2) (V m c main_arg3) j R C)
      + (term (V m c main_arg0) (V m c main_arg1) k R C + term (V m c main_arg2) (V m c main_arg3) k R C) := by
  obtain ⟨e0, e1, e2, e3⟩ := idx_even t
  obtain ⟨e4, e5, e6, e7⟩ := idx_odd t
  have ht : t.val < 32 := t.isLt
  unfold add step part term
  refine congrArg₂ (· + ·) (congrArg₂ (· + ·) (Finset.sum_congr rfl fun f _ => congrArg₂ (· * ·) ?_ ?_) (Finset.sum_congr rfl fun f _ => congrArg₂ (· * ·) ?_ ?_))
    (congrArg₂ (· + ·) (Finset.sum_congr rfl fun f _ => congrArg₂ (· * ·) ?_ ?_) (Finset.sum_congr rfl fun f _ => congrArg₂ (· * ·) ?_ ?_))
  · blk_ext [iblk, e0]
  · blk_ext [iblk, e1]
  · blk_ext [iblk, e2]
  · blk_ext [iblk, e3]
  · blk_ext [iblk, e4]
  · blk_ext [iblk, e5]
  · blk_ext [iblk, e6]
  · blk_ext [iblk, e7]

/-- The scratch after a block's first point. -/
theorem first (t : Fin cfg0.N) (h : t.val % 4 = 0) (r n : Fin 1024) : (outsAt0 m c t.val t.isLt).2 (ix2 r n) = 0 + add m c t r n := by
  rw [outsAt0_A m c t h (by omega)]
  dsimp only
  rw [step_A]
  rfl

/-- The scratch after a later point. -/
theorem later (t : Fin cfg0.N) (h : ¬t.val % 4 = 0) (r n : Fin 1024) : (outsAt0 m c t.val t.isLt).2 (ix2 r n)
    = (outsAt0 m c (t.val - 1) (Nat.lt_of_le_of_lt (Nat.sub_le _ _) t.isLt)).2 (ix2 r n) + add m c t r n := by
  by_cases h1 : t.val % 4 = 3
  · rw [outsAt0_C m c t h h1]
    dsimp only
    rw [step_C]
    rfl
  · rw [outsAt0_B m c t h h1]
    dsimp only
    rw [step_B]
    rfl

/-- The scratch after a block's last point is the gradient. -/
theorem last (t : Fin cfg0.N) (h : t.val % 4 = 3) (r n : Fin 1024) (R : Fin 4096) (C : Fin 2048) (hR : R.val = t.val / 8 * 1024 + r.val)
    (hC : C.val = t.val / 4 % 2 * 1024 + n.val) : (outsAt0 m c t.val t.isLt).2 (ix2 r n)
      = dv (V m c main_arg0) (V m c main_arg1) (V m c main_arg2) (V m c main_arg3) R C := by
  have hN : t.val < cfg0.N := t.isLt
  rw [later m c t (by omega) r n, later m c ⟨t.val - 1, by omega⟩ (by dsimp only; omega) r n, later m c ⟨t.val - 1 - 1, by omega⟩ (by dsimp only; omega) r n,
    first m c ⟨t.val - 1 - 1 - 1, by omega⟩ (by dsimp only; omega) r n,
    add_eq m c t r n R C 6 7 hR hC (by show 6 = _; omega) (by show 7 = _; omega),
    add_eq m c ⟨t.val - 1, by omega⟩ r n R C 4 5 (by dsimp only; omega) (by dsimp only; omega) (by show 4 = 2 * ((t.val - 1) % 4); omega) (by show 5 = 2 * ((t.val - 1) % 4) + 1; omega),
    add_eq m c ⟨t.val - 1 - 1, by omega⟩ r n R C 2 3 (by dsimp only; omega) (by dsimp only; omega) (by show 2 = 2 * ((t.val - 1 - 1) % 4); omega) (by show 3 = 2 * ((t.val - 1 - 1) % 4) + 1; omega),
    add_eq m c ⟨t.val - 1 - 1 - 1, by omega⟩ r n R C 0 1 (by dsimp only; omega) (by dsimp only; omega) (by show 0 = 2 * ((t.val - 1 - 1 - 1) % 4); omega) (by show 1 = 2 * ((t.val - 1 - 1 - 1) % 4) + 1; omega)]
  unfold dv
  rw [Fin.sum_univ_eight, zero_add]
  simp only [add_assoc]

/-- The last point of a block stores the scratch. -/
theorem stored (t : Fin cfg0.N) (h : t.val % 4 = 3) : (outsAt0 m c t.val t.isLt).1 = (outsAt0 m c t.val t.isLt).2 := by
  rw [outsAt0_C m c t (by omega) h]
  dsimp only
  rw [out_C]

theorem eq_pair {R D : ℕ} (y : (⟨2, ![R, D]⟩ : Shape).Idx) : y = ix2 (y 0) (y 1) :=
  funext fun a => match a with
    | ⟨0, _⟩ => rfl
    | ⟨1, _⟩ => rfl

/-- The gradient the kernel leaves. -/
theorem arr8 : (dats m 0 c).arrAt (8 : Fin 9) cfg0.N = (fun i : S4096x2048.Idx =>
    dv (V m c main_arg0) (V m c main_arg1) (V m c main_arg2) (V m c main_arg3) (i 0) (i 1)) := by
  refine (dats m 0 c).arrAt_eq_of_covers (8 : Fin 9) _ (by decide +kernel) fun t hf y => ?_
  have e8 := idx_out t
  have h3 : t.val % 4 = 3 := (flush0_8 t).mp hf
  have b0 : (((cfg0.win 8).blk t).view.emb y 0).val = win0_8.index t (0 : Fin 2) * 1024 + 1 * (y 0).val := rfl
  have b1 : (((cfg0.win 8).blk t).view.emb y 1).val = win0_8.index t (1 : Fin 2) * 1024 + 1 * (y 1).val := rfl
  rw [e8] at b0 b1
  blk_simp
  rw [after0_8, stored m c t h3]
  refine (congrArg _ (eq_pair (R := 1024) (D := 1024) y)).trans (last m c t h3 _ _ _ _ ?_ ?_)
  · exact b0.trans (congrArg (t.val / 8 * 1024 + ·) (one_mul _))
  · exact b1.trans (congrArg (t.val / 4 % 2 * 1024 + ·) (one_mul _))

/-- A sum over the hidden axis, block by block. -/
theorem blocks (x : S8x4096x704.Idx → EReal) (w : S8x704x2048.Idx → EReal) (R : Fin 4096) (C : Fin 2048) (T : Fin 5632 → EReal)
    (h : ∀ (j : Fin 8) (f : Fin 704) (k : Fin 5632), k.val = j.val * 704 + f.val → T k = x (ix3 j R f) * w (ix3 j f C)) :
    ∑ k : Fin 5632, T k = ∑ j : Fin 8, term x w j R C := by
  rw [(Equiv.sum_comp (finProdFinEquiv (m := 8) (n := 704)) T).symm, Fintype.sum_prod_type]
  refine Finset.sum_congr rfl fun j _ => Finset.sum_congr rfl fun f _ => h j f _ ?_
  show f.val + 704 * j.val = j.val * 704 + f.val
  omega

/-- The reference's result is that gradient. -/
theorem ref (x0 : S8x4096x704.Idx → EReal) (x1 : S8x704x2048.Idx → EReal) (x2 : S8x4096x704.Idx → EReal) (x3 : S8x704x2048.Idx → EReal) (i : S4096x2048.Idx) :
    Cert.Reference4Ideal.Read.val_main_v17 (F := Ideal) x0 x1 x2 x3 i = dv x0 x1 x2 x3 (i 0) (i 1) := by
  have i0 : (i 0).val < 4096 := (i 0).isLt
  have i1 : (i 1).val < 2048 := (i 1).isLt
  rw [Cert.Reference4Ideal.Read.val_main_v17_apply, Cert.Reference4Ideal.Read.val_main_v15_apply, Cert.Reference4Ideal.Read.val_main_v16_apply]
  unfold dv
  rw [Finset.sum_add_distrib]
  refine (add_comm (G := EReal) _ _).trans (congrArg₂ (· + ·) (blocks x0 x1 (i 0) (i 1) _ fun j f k hk => congrArg₂ (· * ·) ?_ ?_) (blocks x2 x3 (i 0) (i 1) _ fun j f k hk => congrArg₂ (· * ·) ?_ ?_))
  · rw [Cert.Reference4Ideal.Read.val_main_v11_apply, Cert.Reference4Ideal.Read.val_main_v10_apply]
    refine congrArg x0 (funext fun a => Fin.ext ?_)
    fin_cases a
    · show ((i 0).val * 5632 + k.val) / 704 % 8 = j.val; omega
    · show ((i 0).val * 5632 + k.val) / 5632 = (i 0).val; omega
    · show ((i 0).val * 5632 + k.val) % 704 = f.val; omega
  · rw [Cert.Reference4Ideal.Read.val_main_v2_apply, Cert.Reference4Ideal.Read.val_main_v1_apply]
    refine congrArg x1 (funext fun a => Fin.ext ?_)
    fin_cases a
    · show (k.val * 2048 + (i 1).val) / 1441792 = j.val; omega
    · show (k.val * 2048 + (i 1).val) / 2048 % 704 = f.val; omega
    · show (k.val * 2048 + (i 1).val) % 2048 = (i 1).val; omega
  · rw [Cert.Reference4Ideal.Read.val_main_v14_apply, Cert.Reference4Ideal.Read.val_main_v13_apply]
    refine congrArg x2 (funext fun a => Fin.ext ?_)
    fin_cases a
    · show ((i 0).val * 5632 + k.val) / 704 % 8 = j.val; omega
    · show ((i 0).val * 5632 + k.val) / 5632 = (i 0).val; omega
    · show ((i 0).val * 5632 + k.val) % 704 = f.val; omega
  · rw [Cert.Reference4Ideal.Read.val_main_v5_apply, Cert.Reference4Ideal.Read.val_main_v4_apply]
    refine congrArg x3 (funext fun a => Fin.ext ?_)
    fin_cases a
    · show (k.val * 2048 + (i 1).val) / 1441792 = j.val; omega
    · show (k.val * 2048 + (i 1).val) / 2048 % 704 = f.val; omega
    · show (k.val * 2048 + (i 1).val) % 2048 = (i 1).val; omega

/-- The kernel's result is the reference's. -/
theorem value_input : (dats m 0 c).arrAt (8 : Fin 9) cfg0.N = Cert.Reference4Ideal.Read.val_main_v17 (F := Ideal)
    (m ((c.tc : Thread nD τ).loc main_arg0)) (m ((c.tc : Thread nD τ).loc main_arg1)) (m ((c.tc : Thread nD τ).loc main_arg2)) (m ((c.tc : Thread nD τ).loc main_arg3)) := by
  refine (arr8 m c).trans (funext fun i => ?_)
  rw [V_main_arg0, V_main_arg1, V_main_arg2, V_main_arg3]
  exact (ref _ _ _ _ i).symm

end Cert.Input
-- ==== Proof.Groups.lean ====
module

public import Idealize.ShloMosaic.Lib.Tactic
public import Idealize.ShloMosaic.Lib.Pointwise
public import Idealize.ShloMosaic.Lib.WritesUnit
public import Idealize.ShloMosaic.Lib.Pipeline.ValueKit
public import Idealize.ShloMosaic.PureOps

@[expose] public section

noncomputable section

namespace Cert.Groups

open Idealize.ShloMosaic

variable {T N K : ℕ}

/-- A store of one row group of a hidden block: the index has the value where the group's row has it and the other stores have it. -/
theorem hidden (o n : ℕ) (inb : ∀ a : Fin 3, (![0, o, 0] : Fin 3 → ℕ) a + (![1, n, K] : Fin 3 → ℕ) a ≤ (![1, T, K] : Fin 3 → ℕ) a)
    (u : (⟨3, ![1, n, K]⟩ : Shape).Idx → EReal) (L : List (View.Piece (Elt Ideal) (⟨3, ![1, T, K]⟩ : Shape) .bf16)) (R : Fin T) (d : Fin K) (v : EReal)
    (hu : ∀ (r : Fin n) (h : o + r.val < T), R = ⟨o + r.val, h⟩ → u (ix3 0 r d) = v) (hL : View.AllAt L (ix3 0 R d) v) :
    View.AllAt ((⟨Rect.unit (s := (⟨3, ![1, T, K]⟩ : Shape)) ![0, o, 0] ![1, n, K] inb, u⟩ : View.Piece (Elt Ideal) (⟨3, ![1, T, K]⟩ : Shape) .bf16) :: L) (ix3 0 R d) v := by
  refine View.allAt_cons_unit (S := (⟨3, ![1, T, K]⟩ : Shape)) _ _ inb u L (fun x hx => ?_) hL
  have h1 : R.val = o + (x 1).val := hx 1
  have h2 : d.val = 0 + (x 2).val := hx 2
  refine Eq.trans (congrArg u (funext fun a => Fin.ext ?_)) (hu (x 1) (h1 ▸ R.isLt) (Fin.ext h1))
  fin_cases a
  · have : (x 0).val < 1 := (x 0).isLt
    show (x 0).val = 0
    omega
  · rfl
  · show (x 2).val = d.val
    omega

/-- A store of one row group of a block of rows, likewise. -/
theorem plain {e : EltTy} (o n : ℕ) (inb : ∀ a : Fin 2, (![o, 0] : Fin 2 → ℕ) a + (![n, K] : Fin 2 → ℕ) a ≤ (![T, K] : Fin 2 → ℕ) a)
    (u : (⟨2, ![n, K]⟩ : Shape).Idx → Elt Ideal e) (L : List (View.Piece (Elt Ideal) (⟨2, ![T, K]⟩ : Shape) e)) (R : Fin T) (d : Fin K) (v : Elt Ideal e)
    (hu : ∀ (r : Fin n) (h : o + r.val < T), R = ⟨o + r.val, h⟩ → u (ix2 r d) = v) (hL : View.AllAt L (ix2 R d) v) :
    View.AllAt ((⟨Rect.unit (s := (⟨2, ![T, K]⟩ : Shape)) ![o, 0] ![n, K] inb, u⟩ : View.Piece (Elt Ideal) (⟨2, ![T, K]⟩ : Shape) e) :: L) (ix2 R d) v := by
  refine View.allAt_cons_unit (S := (⟨2, ![T, K]⟩ : Shape)) _ _ inb u L (fun x hx => ?_) hL
  have h1 : R.val = o + (x 0).val := hx 0
  have h2 : d.val = 0 + (x 1).val := hx 1
  refine Eq.trans (congrArg u (funext fun a => Fin.ext ?_)) (hu (x 0) (h1 ▸ R.isLt) (Fin.ext h1))
  fin_cases a
  · rfl
  · show (x 1).val = d.val
    omega

/-- A load of one row group of a block of rows. -/
theorem ld_plain (x : (⟨2, ![T, K]⟩ : Shape).Idx → EReal) (o n : ℕ)
    (inb : ∀ a : Fin 2, (![o, 0] : Fin 2 → ℕ) a + (![n, K] : Fin 2 → ℕ) a ≤ (![T, K] : Fin 2 → ℕ) a) (r : Fin n) (k : Fin K) :
    View.ld (Val := Elt Ideal) (e' := .bf16) x (Rect.unit (s := (⟨2, ![T, K]⟩ : Shape)) ![o, 0] ![n, K] inb) (ix2 r k)
      = x (ix2 ⟨o + r.val, by have : o + n ≤ T := inb 0; omega⟩ k) := by
  refine congrArg x (funext fun a => Fin.ext ?_)
  fin_cases a
  · show o + 1 * r.val = o + r.val; omega
  · show 0 + 1 * k.val = k.val; omega

/-- A load of one row group of a hidden block. -/
theorem ld_hidden (x : (⟨3, ![1, T, K]⟩ : Shape).Idx → EReal) (o n : ℕ)
    (inb : ∀ a : Fin 3, (![0, o, 0] : Fin 3 → ℕ) a + (![1, n, K] : Fin 3 → ℕ) a ≤ (![1, T, K] : Fin 3 → ℕ) a) (r : Fin n) (k : Fin K) :
    View.ld (Val := Elt Ideal) (e' := .bf16) x (Rect.unit (s := (⟨3, ![1, T, K]⟩ : Shape)) ![0, o, 0] ![1, n, K] inb) (ix3 0 r k)
      = x (ix3 0 ⟨o + r.val, by have : o + n ≤ T := inb 1; omega⟩ k) := by
  refine congrArg x (funext fun a => Fin.ext ?_)
  fin_cases a
  · rfl
  · show o + 1 * r.val = o + r.val; omega
  · show 0 + 1 * k.val = k.val; omega

/-- An index of a block of rows. -/
theorem eq_pair (y : (⟨2, ![T, K]⟩ : Shape).Idx) : y = ix2 (y 0) (y 1) :=
  funext fun a => match a with
    | ⟨0, _⟩ => rfl
    | ⟨1, _⟩ => rfl

/-- An index of a hidden block. -/
theorem eq_row (y : (⟨3, ![1, T, K]⟩ : Shape).Idx) : y = ix3 0 (y 1) (y 2) :=
  funext fun a => match a with
    | ⟨0, _⟩ => Fin.ext (by have : (y 0).val < 1 := (y 0).isLt; show (y 0).val = 0; omega)
    | ⟨1, _⟩ => rfl
    | ⟨2, _⟩ => rfl

end Cert.Groups
-- ==== Proof.Hidden.lean ====
module

public import proofs.«01_k».proof.Proof.Groups
public import proofs.«01_k».proof.Proof.Gen.Kernel5Ideal.Value
public import proofs.«01_k».proof.Proof.Gen.Reference5Ideal.Read

@[expose] public section

noncomputable section

namespace Cert.Hidden

open Cert.Kernel5Ideal Cert.Kernel5Ideal.Gen
open Idealize.ShloMosaic Idealize.ShloMosaic.TcCoe Idealize.ShloMosaic.Tactic Idealize.SL.Sem

variable (m : (ℓ : Loc nD τ sig) → Buf (Elt Ideal) ℓ) (c : Dev nD)

/-- The gradient that reaches the product's left argument, times the other factor. -/
def grad (x : S4096x2048.Idx → EReal) (w : S8x704x2048.Idx → EReal) (g : S8x4096x704.Idx → EReal) (j : Fin 8) (R : Fin 4096) (f : Fin 704) : EReal :=
  (∑ k : Fin 2048, x (ix2 R k) * w (ix3 j f k)) * g (ix3 j R f)

/-- The same of a grid point's blocks. -/
def part (x : S2048x2048.Idx → EReal) (w : S1x704x2048.Idx → EReal) (g : S1x2048x704.Idx → EReal) (R : Fin 2048) (f : Fin 704) : EReal :=
  (∑ k : Fin 2048, x (ix2 R k) * w (ix3 0 f k)) * g (ix3 0 R f)

/-- The block index of the upstream gradient. -/
theorem idx0 : ∀ t : Fin grid0.N, win0_0.index t = ![t.val / 8, 0] := by decide +kernel
/-- The block index of the weight. -/
theorem idx1 : ∀ t : Fin grid0.N, win0_1.index t = ![t.val % 8, 0, 0] := by decide +kernel
/-- The block indices of the hidden arrays. -/
theorem idx2 : ∀ t : Fin grid0.N, win0_2.index t = ![t.val % 8, t.val / 8, 0] ∧ win0_3.index t = ![t.val % 8, t.val / 8, 0]
    ∧ win0_4.index t = ![t.val % 8, t.val / 8, 0] ∧ win0_5.index t = ![t.val % 8, t.val / 8, 0] := by decide +kernel

section
variable (x0 : Vec Ideal S2048x2048 .bf16) (x1 : Vec Ideal S1x704x2048 .bf16) (x2 x3 : Vec Ideal S1x2048x704 .bf16)

/-- What a grid point stores to the first result's block. -/
theorem out4 (R : Fin 2048) (d : Fin 704) : out0_4 x0 x1 x2 x3 (ix3 0 R d) = part x0 x1 x2 R d := by
  refine View.canon_eq_of_allAt _ _ _ (cover0_4 _ _ _ _ _) (Groups.hidden 1536 512 _ _ _ R d _ ?_ (Groups.hidden 1024 512 _ _ _ R d _ ?_
    (Groups.hidden 512 512 _ _ _ R d _ ?_ (Groups.hidden 0 512 _ _ _ R d _ ?_ (View.allAt_nil _ _)))))
  all_goals
    rintro r h rfl
    unfold_payloads
    pointwise
    simp only [Groups.ld_plain, Groups.ld_hidden, part, Nat.zero_add]

/-- What a grid point stores to the second result's block. -/
theorem out5 (R : Fin 2048) (d : Fin 704) : out0_5 x0 x1 x2 x3 (ix3 0 R d) = part x0 x1 x3 R d := by
  refine View.canon_eq_of_allAt _ _ _ (cover0_5 _ _ _ _ _) (Groups.hidden 1536 512 _ _ _ R d _ ?_ (Groups.hidden 1024 512 _ _ _ R d _ ?_
    (Groups.hidden 512 512 _ _ _ R d _ ?_ (Groups.hidden 0 512 _ _ _ R d _ ?_ (View.allAt_nil _ _)))))
  all_goals
    rintro r h rfl
    unfold_payloads
    pointwise
    simp only [Groups.ld_plain, Groups.ld_hidden, part, Nat.zero_add]

end

/-- The first gradient the kernel leaves. -/
theorem arr4 : (dats m 0 c).arrAt (4 : Fin 6) cfg0.N = (fun i : S8x4096x704.Idx =>
    grad (V m c main_arg0) (V m c main_arg1) (V m c main_arg2) (i 0) (i 1) (i 2)) := by
  refine (dats m 0 c).arrAt_eq_of_covers (4 : Fin 6) _ (by decide +kernel) fun t hf y => ?_
  have e0 := idx0 t
  have e1 := idx1 t
  obtain ⟨e2, e3, e4, e5⟩ := idx2 t
  blk_simp
  rw [after0_4]
  have ht : t.val < 16 := t.isLt
  have y0 : (y 0).val < 1 := (y 0).isLt
  refine (congrArg _ (Groups.eq_row (T := 2048) (K := 704) y)).trans ((out4 _ _ _ _ _ _).trans (congrArg₂ (· * ·) (Finset.sum_congr rfl fun k _ => congrArg₂ (· * ·) ?_ ?_) ?_))
  · blk_ext [iblk, e0, e4]
  · blk_ext [iblk, e1, e4]
  · blk_ext [iblk, e2, e4]

/-- The second gradient the kernel leaves. -/
theorem arr5 : (dats m 0 c).arrAt (5 : Fin 6) cfg0.N = (fun i : S8x4096x704.Idx =>
    grad (V m c main_arg0) (V m c main_arg1) (V m c main_arg3) (i 0) (i 1) (i 2)) := by
  refine (dats m 0 c).arrAt_eq_of_covers (5 : Fin 6) _ (by decide +kernel) fun t hf y => ?_
  have e0 := idx0 t
  have e1 := idx1 t
  obtain ⟨e2, e3, e4, e5⟩ := idx2 t
  blk_simp
  rw [after0_5]
  have ht : t.val < 16 := t.isLt
  have y0 : (y 0).val < 1 := (y 0).isLt
  refine (congrArg _ (Groups.eq_row (T := 2048) (K := 704) y)).trans ((out5 _ _ _ _ _ _).trans (congrArg₂ (· * ·) (Finset.sum_congr rfl fun k _ => congrArg₂ (· * ·) ?_ ?_) ?_))
  · blk_ext [iblk, e0, e5]
  · blk_ext [iblk, e1, e5]
  · blk_ext [iblk, e3, e5]

section
open Cert.Reference5Ideal.Read

/-- The reference's product, at a hidden index. -/
theorem ref_sum (x0 : S4096x2048.Idx → EReal) (x1 : S8x704x2048.Idx → EReal) (j : Fin 8) (R : Fin 4096) (f : Fin 704) (i : Cert.Reference5Ideal.S4096x5632.Idx)
    (h0 : (i 0).val = R.val) (h1 : (i 1).val = j.val * 704 + f.val) :
    val_main_v14 (F := Ideal) x0 x1 i = ∑ k : Fin 2048, x0 (ix2 R k) * x1 (ix3 j f k) := by
  have hj : j.val < 8 := j.isLt
  have hf : f.val < 704 := f.isLt
  rw [val_main_v14_apply]
  refine Finset.sum_congr rfl fun k _ => congrArg₂ (· * ·) (congrArg x0 (funext fun a => Fin.ext ?_)) ?_
  · fin_cases a
    · exact h0
    · rfl
  · have hk : k.val < 2048 := k.isLt
    rw [val_main_v1_apply]
    refine congrArg x1 (funext fun a => Fin.ext ?_)
    fin_cases a
    · show ((i 1).val * 2048 + k.val) / 1441792 = j.val; omega
    · show ((i 1).val * 2048 + k.val) / 2048 % 704 = f.val; omega
    · show ((i 1).val * 2048 + k.val) % 2048 = k.val; omega

/-- The first result of the reference is that gradient. -/
theorem ref4 (x0 : S4096x2048.Idx → EReal) (x1 : S8x704x2048.Idx → EReal) (x2 : S8x4096x704.Idx → EReal) (i : S8x4096x704.Idx) :
    val_main_v19 (F := Ideal) x0 x1 x2 i = grad x0 x1 x2 (i 0) (i 1) (i 2) := by
  have i0 : (i 0).val < 8 := (i 0).isLt
  have i1 : (i 1).val < 4096 := (i 1).isLt
  have i2 : (i 2).val < 704 := (i 2).isLt
  rw [val_main_v19_apply, val_main_v18_apply, val_main_v17_apply, val_main_v16_apply, val_main_v5_apply, val_main_v4_apply,
    ref_sum x0 x1 (i 0) (i 1) (i 2)]
  · refine (mul_comm (G := EReal) _ _).trans (congrArg₂ (· * ·) rfl (congrArg x2 (funext fun a => Fin.ext ?_)))
    fin_cases a
    · show ((((i 1).val * 8 + (i 0).val) * 704 + (i 2).val) / 5632 * 5632 + (((i 1).val * 8 + (i 0).val) * 704 + (i 2).val) % 5632) / 704 % 8 = (i 0).val; omega
    · show ((((i 1).val * 8 + (i 0).val) * 704 + (i 2).val) / 5632 * 5632 + (((i 1).val * 8 + (i 0).val) * 704 + (i 2).val) % 5632) / 5632 = (i 1).val; omega
    · show ((((i 1).val * 8 + (i 0).val) * 704 + (i 2).val) / 5632 * 5632 + (((i 1).val * 8 + (i 0).val) * 704 + (i 2).val) % 5632) % 704 = (i 2).val; omega
  · show (((i 1).val * 8 + (i 0).val) * 704 + (i 2).val) / 5632 = (i 1).val; omega
  · show (((i 1).val * 8 + (i 0).val) * 704 + (i 2).val) % 5632 = (i 0).val * 704 + (i 2).val; omega

/-- The second result of the reference is that gradient. -/
theorem ref5 (x0 : S4096x2048.Idx → EReal) (x1 : S8x704x2048.Idx → EReal) (x3 : S8x4096x704.Idx → EReal) (i : S8x4096x704.Idx) :
    val_main_v22 (F := Ideal) x0 x1 x3 i = grad x0 x1 x3 (i 0) (i 1) (i 2) := by
  have i0 : (i 0).val < 8 := (i 0).isLt
  have i1 : (i 1).val < 4096 := (i 1).isLt
  have i2 : (i 2).val < 704 := (i 2).isLt
  rw [val_main_v22_apply, val_main_v21_apply, val_main_v20_apply, val_main_v15_apply, val_main_v9_apply, val_main_v8_apply,
    ref_sum x0 x1 (i 0) (i 1) (i 2)]
  · refine (mul_comm (G := EReal) _ _).trans (congrArg₂ (· * ·) rfl (congrArg x3 (funext fun a => Fin.ext ?_)))
    fin_cases a
    · show ((((i 1).val * 8 + (i 0).val) * 704 + (i 2).val) / 5632 * 5632 + (((i 1).val * 8 + (i 0).val) * 704 + (i 2).val) % 5632) / 704 % 8 = (i 0).val; omega
    · show ((((i 1).val * 8 + (i 0).val) * 704 + (i 2).val) / 5632 * 5632 + (((i 1).val * 8 + (i 0).val) * 704 + (i 2).val) % 5632) / 5632 = (i 1).val; omega
    · show ((((i 1).val * 8 + (i 0).val) * 704 + (i 2).val) / 5632 * 5632 + (((i 1).val * 8 + (i 0).val) * 704 + (i 2).val) % 5632) % 704 = (i 2).val; omega
  · show (((i 1).val * 8 + (i 0).val) * 704 + (i 2).val) / 5632 = (i 1).val; omega
  · show (((i 1).val * 8 + (i 0).val) * 704 + (i 2).val) % 5632 = (i 0).val * 704 + (i 2).val; omega

end

/-- The kernel's first result is the reference's. -/
theorem value_first : (dats m 0 c).arrAt (4 : Fin 6) cfg0.N = Cert.Reference5Ideal.Read.val_main_v19 (F := Ideal)
    (m ((c.tc : Thread nD τ).loc main_arg0)) (m ((c.tc : Thread nD τ).loc main_arg1)) (m ((c.tc : Thread nD τ).loc main_arg2)) := by
  refine (arr4 m c).trans (funext fun i => ?_)
  rw [V_main_arg0, V_main_arg1, V_main_arg2]
  exact (ref4 _ _ _ i).symm

/-- The kernel's second result is the reference's. -/
theorem value_second : (dats m 0 c).arrAt (5 : Fin 6) cfg0.N = Cert.Reference5Ideal.Read.val_main_v22 (F := Ideal)
    (m ((c.tc : Thread nD τ).loc main_arg0)) (m ((c.tc : Thread nD τ).loc main_arg1)) (m ((c.tc : Thread nD τ).loc main_arg3)) := by
  refine (arr5 m c).trans (funext fun i => ?_)
  rw [V_main_arg0, V_main_arg1, V_main_arg3]
  exact (ref5 _ _ _ i).symm

end Cert.Hidden
-- ==== Proof.Down.lean ====
module

public import proofs.«01_k».proof.Proof.Groups
public import proofs.«01_k».proof.Proof.Input
public import proofs.«01_k».proof.Proof.Gen.Kernel6Ideal.Value
public import proofs.«01_k».proof.Proof.Gen.Reference6Ideal.Read

@[expose] public section

noncomputable section

namespace Cert.Down

open Cert.Kernel6Ideal Cert.Kernel6Ideal.Gen
open Idealize.ShloMosaic Idealize.ShloMosaic.TcCoe Idealize.ShloMosaic.Tactic Idealize.SL.Sem

variable (m : (ℓ : Loc nD τ sig) → Buf (Elt Ideal) ℓ) (c : Dev nD)

/-- One hidden block's product, of a grid point's blocks. -/
def part (x : S1x512x704.Idx → EReal) (w : S1x704x1024.Idx → EReal) (R : Fin 512) (C : Fin 1024) : EReal :=
  ∑ f : Fin 704, x (ix3 0 R f) * w (ix3 0 f C)

/-- The block indices of the activations. -/
theorem idx_act : ∀ t : Fin grid0.N, (win0_0.index t = ![0, t.val / 2, 0] ∧ win0_1.index t = ![1, t.val / 2, 0] ∧ win0_2.index t = ![2, t.val / 2, 0]
    ∧ win0_3.index t = ![3, t.val / 2, 0]) ∧ win0_4.index t = ![4, t.val / 2, 0] ∧ win0_5.index t = ![5, t.val / 2, 0] ∧ win0_6.index t = ![6, t.val / 2, 0]
    ∧ win0_7.index t = ![7, t.val / 2, 0] := by decide +kernel
/-- The block indices of the weight. -/
theorem idx_weight : ∀ t : Fin grid0.N, (win0_8.index t = ![0, 0, t.val % 2] ∧ win0_9.index t = ![1, 0, t.val % 2] ∧ win0_10.index t = ![2, 0, t.val % 2]
    ∧ win0_11.index t = ![3, 0, t.val % 2]) ∧ win0_12.index t = ![4, 0, t.val % 2] ∧ win0_13.index t = ![5, 0, t.val % 2] ∧ win0_14.index t = ![6, 0, t.val % 2]
    ∧ win0_15.index t = ![7, 0, t.val % 2] := by decide +kernel
/-- The block index of the result. -/
theorem idx_out : ∀ t : Fin grid0.N, win0_16.index t = ![t.val / 2, t.val % 2] := by decide +kernel

section
variable (x0 x1 x2 x3 x4 x5 x6 x7 : Vec Ideal S1x512x704 .bf16) (w0 w1 w2 w3 w4 w5 w6 w7 : Vec Ideal S1x704x1024 .bf16)

set_option maxHeartbeats 4000000 in
/-- What a grid point stores to the result's block: the sum of the eight products. -/
theorem out16 (R : Fin 512) (C : Fin 1024) : out0_16 x0 x1 x2 x3 x4 x5 x6 x7 w0 w1 w2 w3 w4 w5 w6 w7 (ix2 R C)
    = part x0 w0 R C + part x1 w1 R C + part x2 w2 R C + part x3 w3 R C + part x4 w4 R C + part x5 w5 R C + part x6 w6 R C + part x7 w7 R C := by
  refine View.canon_eq_of_allAt _ _ _ (cover0_16 _ _ _ _ _) (Groups.plain 384 128 _ _ _ R C _ ?_ (Groups.plain 256 128 _ _ _ R C _ ?_
    (Groups.plain 128 128 _ _ _ R C _ ?_ (Groups.plain 0 128 _ _ _ R C _ ?_ (View.allAt_nil _ _)))))
  all_goals
    rintro r h rfl
    unfold_payloads
    pointwise
    simp only [Groups.ld_hidden, part, Nat.zero_add]

end

set_option maxHeartbeats 4000000 in
/-- The product the kernel leaves. -/
theorem arr16 : (dats m 0 c).arrAt (16 : Fin 17) cfg0.N = (fun i : S4096x2048.Idx =>
    ∑ j : Fin 8, Input.term (V m c main_arg0) (V m c main_arg1) j (i 0) (i 1)) := by
  refine (dats m 0 c).arrAt_eq_of_covers (16 : Fin 17) _ (by decide +kernel) fun t hf y => ?_
  obtain ⟨⟨a0, a1, a2, a3⟩, a4, a5, a6, a7⟩ := idx_act t
  obtain ⟨⟨b0, b1, b2, b3⟩, b4, b5, b6, b7⟩ := idx_weight t
  have e := idx_out t
  blk_simp
  rw [after0_16]
  have ht : t.val < 16 := t.isLt
  have y0 : (y 0).val < 512 := (y 0).isLt
  have y1 : (y 1).val < 1024 := (y 1).isLt
  refine (congrArg _ (Input.eq_pair (R := 512) (D := 1024) y)).trans ((out16 _ _ _ _ _ _ _ _ _ _ _ _ _ _ _ _ _ _).trans ?_)
  rw [Fin.sum_univ_eight]
  refine congrArg₂ (· + ·) (congrArg₂ (· + ·) (congrArg₂ (· + ·) (congrArg₂ (· + ·) (congrArg₂ (· + ·) (congrArg₂ (· + ·) (congrArg₂ (· + ·)
    ?_ ?_) ?_) ?_) ?_) ?_) ?_) ?_
  all_goals
    refine Finset.sum_congr rfl fun f _ => congrArg₂ (· * ·) ?_ ?_
  · blk_ext [iblk, a0, e]
  · blk_ext [iblk, b0, e]
  · blk_ext [iblk, a1, e]
  · blk_ext [iblk, b1, e]
  · blk_ext [iblk, a2, e]
  · blk_ext [iblk, b2, e]
  · blk_ext [iblk, a3, e]
  · blk_ext [iblk, b3, e]
  · blk_ext [iblk, a4, e]
  · blk_ext [iblk, b4, e]
  · blk_ext [iblk, a5, e]
  · blk_ext [iblk, b5, e]
  · blk_ext [iblk, a6, e]
  · blk_ext [iblk, b6, e]
  · blk_ext [iblk, a7, e]
  · blk_ext [iblk, b7, e]

/-- The reference's result is that product. -/
theorem ref (x : S8x4096x704.Idx → EReal) (w : S8x704x2048.Idx → EReal) (i : S4096x2048.Idx) :
    Cert.Reference6Ideal.Read.val_main_v5 (F := Ideal) x w i = ∑ j : Fin 8, Input.term x w j (i 0) (i 1) := by
  have i0 : (i 0).val < 4096 := (i 0).isLt
  have i1 : (i 1).val < 2048 := (i 1).isLt
  rw [Cert.Reference6Ideal.Read.val_main_v5_apply]
  refine Input.blocks x w (i 0) (i 1) _ fun j f k hk => congrArg₂ (· * ·) ?_ ?_
  · rw [Cert.Reference6Ideal.Read.val_main_v2_apply, Cert.Reference6Ideal.Read.val_main_v1_apply]
    refine congrArg x (funext fun a => Fin.ext ?_)
    fin_cases a
    · show ((i 0).val * 5632 + k.val) / 704 % 8 = j.val; omega
    · show ((i 0).val * 5632 + k.val) / 5632 = (i 0).val; omega
    · show ((i 0).val * 5632 + k.val) % 704 = f.val; omega
  · rw [Cert.Reference6Ideal.Read.val_main_v4_apply]
    refine congrArg w (funext fun a => Fin.ext ?_)
    fin_cases a
    · show (k.val * 2048 + (i 1).val) / 1441792 = j.val; omega
    · show (k.val * 2048 + (i 1).val) / 2048 % 704 = f.val; omega
    · show (k.val * 2048 + (i 1).val) % 2048 = (i 1).val; omega

/-- The kernel's result is the reference's. -/
theorem value_product : (dats m 0 c).arrAt (16 : Fin 17) cfg0.N = Cert.Reference6Ideal.Read.val_main_v5 (F := Ideal)
    (m ((c.tc : Thread nD τ).loc main_arg0)) (m ((c.tc : Thread nD τ).loc main_arg1)) := by
  refine (arr16 m c).trans (funext fun i => ?_)
  rw [V_main_arg0, V_main_arg1]
  exact (ref _ _ i).symm

end Cert.Down
-- ==== Proof.Act.lean ====
module

public import proofs.«01_k».proof.Proof.Groups
public import proofs.«01_k».proof.Proof.Gen.Kernel7Ideal.Value
public import proofs.«01_k».proof.Proof.Gen.Reference7Ideal.Read
public import proofs.«01_k».proof.Proof.Gen.Pre_finite_ffn
public import proofs.«01_k».proof.Proof.Equal

@[expose] public section

noncomputable section

namespace Cert.Act

open Cert.Kernel7Ideal Cert.Kernel7Ideal.Gen
open Idealize.ShloMosaic Idealize.ShloMosaic.TcCoe Idealize.ShloMosaic.Tactic Idealize.SL.Sem

variable (m : (ℓ : Loc nD τ sig) → Buf (Elt Ideal) ℓ) (c : Dev nD)

section
variable (x0 : Vec Ideal S2048x2048 .bf16) (x1 x2 : Vec Ideal S1x704x2048 .bf16)

/-- A row's product with a weight's row, of a grid point's blocks. -/
def part (x : S2048x2048.Idx → EReal) (w : S1x704x2048.Idx → EReal) (R : Fin 2048) (f : Fin 704) : EReal :=
  ∑ k : Fin 2048, x (ix2 R k) * w (ix3 0 f k)

/-- The logistic function as the kernel computes it. -/
def logi (g : EReal) : EReal := Ideal.div 1 (1 + Ideal.exp (0 - g))

/-- What a grid point stores to the first result's block. -/
theorem out3 (R : Fin 2048) (d : Fin 704) : out0_3 x0 x1 x2 (ix3 0 R d)
    = part x0 x2 R d * (logi (part x0 x1 R d) * (1 + part x0 x1 R d * (1 - logi (part x0 x1 R d)))) := by
  refine View.canon_eq_of_allAt _ _ _ (cover0_3 _ _ _ _ _) (Groups.hidden 1536 512 _ _ _ R d _ ?_ (Groups.hidden 1024 512 _ _ _ R d _ ?_
    (Groups.hidden 512 512 _ _ _ R d _ ?_ (Groups.hidden 0 512 _ _ _ R d _ ?_ (View.allAt_nil _ _)))))
  all_goals
    rintro r h rfl
    unfold_payloads
    pointwise
    simp only [Groups.ld_plain, Groups.ld_hidden, part, logi, Nat.zero_add]

/-- What a grid point stores to the second result's block. -/
theorem out4 (R : Fin 2048) (d : Fin 704) : out0_4 x0 x1 x2 (ix3 0 R d)
    = part x0 x1 R d * logi (part x0 x1 R d) := by
  refine View.canon_eq_of_allAt _ _ _ (cover0_4 _ _ _ _ _) (Groups.hidden 1536 512 _ _ _ R d _ ?_ (Groups.hidden 1024 512 _ _ _ R d _ ?_
    (Groups.hidden 512 512 _ _ _ R d _ ?_ (Groups.hidden 0 512 _ _ _ R d _ ?_ (View.allAt_nil _ _)))))
  all_goals
    rintro r h rfl
    unfold_payloads
    pointwise
    simp only [Groups.ld_plain, Groups.ld_hidden, part, logi, Nat.zero_add]

/-- What a grid point stores to the third result's block. -/
theorem out5 (R : Fin 2048) (d : Fin 704) : out0_5 x0 x1 x2 (ix3 0 R d)
    = part x0 x1 R d * logi (part x0 x1 R d) * part x0 x2 R d := by
  refine View.canon_eq_of_allAt _ _ _ (cover0_5 _ _ _ _ _) (Groups.hidden 1536 512 _ _ _ R d _ ?_ (Groups.hidden 1024 512 _ _ _ R d _ ?_
    (Groups.hidden 512 512 _ _ _ R d _ ?_ (Groups.hidden 0 512 _ _ _ R d _ ?_ (View.allAt_nil _ _)))))
  all_goals
    rintro r h rfl
    unfold_payloads
    pointwise
    simp only [Groups.ld_plain, Groups.ld_hidden, part, logi, Nat.zero_add]

end

/-- The block index of the rows. -/
theorem idx0 : ∀ t : Fin grid0.N, win0_0.index t = ![t.val % 2, 0] := by decide +kernel
/-- The block indices of the weights. -/
theorem idx1 : ∀ t : Fin grid0.N, win0_1.index t = ![t.val / 2, 0, 0] ∧ win0_2.index t = ![t.val / 2, 0, 0] := by decide +kernel
/-- The block indices of the results. -/
theorem idx3 : ∀ t : Fin grid0.N, win0_3.index t = ![t.val / 2, t.val % 2, 0] ∧ win0_4.index t = ![t.val / 2, t.val % 2, 0]
    ∧ win0_5.index t = ![t.val / 2, t.val % 2, 0] := by decide +kernel

/-- A row's product with a weight's row. -/
def row (x : S4096x2048.Idx → EReal) (w : S8x704x2048.Idx → EReal) (j : Fin 8) (R : Fin 4096) (f : Fin 704) : EReal :=
  ∑ k : Fin 2048, x (ix2 R k) * w (ix3 j f k)

/-- The derivative by the gate as the kernel computes it, of the gate and of the up projection. -/
def dgate (g u : EReal) : EReal := u * (logi g * (1 + g * (1 - logi g)))

/-- The first array the kernel leaves. -/
theorem arr3 : (dats m 0 c).arrAt (3 : Fin 6) cfg0.N = (fun i : S8x4096x704.Idx => dgate (row (V m c main_arg0) (V m c main_arg1) (i 0) (i 1) (i 2)) (row (V m c main_arg0) (V m c main_arg2) (i 0) (i 1) (i 2))) := by
  refine (dats m 0 c).arrAt_eq_of_covers (3 : Fin 6) _ (by decide +kernel) fun t hf y => ?_
  have e0 := idx0 t
  obtain ⟨e1, e2⟩ := idx1 t
  obtain ⟨e3, e4, e5⟩ := idx3 t
  blk_simp
  rw [after0_3]
  have ht : t.val < 16 := t.isLt
  have y0 : (y 0).val < 1 := (y 0).isLt
  have hg : part (iblk m c 0 t) (iblk m c 1 t) (y 1) (y 2) = row (V m c main_arg0) (V m c main_arg1)
      (((cfg0.win 3).blk t).view.emb y 0) (((cfg0.win 3).blk t).view.emb y 1) (((cfg0.win 3).blk t).view.emb y 2) := by
    refine Finset.sum_congr rfl fun k _ => congrArg₂ (· * ·) ?_ ?_
    · blk_ext [iblk, e0, e3]
    · blk_ext [iblk, e1, e3]
  have hu : part (iblk m c 0 t) (iblk m c 2 t) (y 1) (y 2) = row (V m c main_arg0) (V m c main_arg2)
      (((cfg0.win 3).blk t).view.emb y 0) (((cfg0.win 3).blk t).view.emb y 1) (((cfg0.win 3).blk t).view.emb y 2) := by
    refine Finset.sum_congr rfl fun k _ => congrArg₂ (· * ·) ?_ ?_
    · blk_ext [iblk, e0, e3]
    · blk_ext [iblk, e2, e3]
  refine (congrArg _ (Groups.eq_row (T := 2048) (K := 704) y)).trans ((out3 _ _ _ _ _).trans ?_)
  rw [hg, hu]
  rfl

/-- The second array the kernel leaves. -/
theorem arr4 : (dats m 0 c).arrAt (4 : Fin 6) cfg0.N = (fun i : S8x4096x704.Idx => row (V m c main_arg0) (V m c main_arg1) (i 0) (i 1) (i 2) * logi (row (V m c main_arg0) (V m c main_arg1) (i 0) (i 1) (i 2))) := by
  refine (dats m 0 c).arrAt_eq_of_covers (4 : Fin 6) _ (by decide +kernel) fun t hf y => ?_
  have e0 := idx0 t
  obtain ⟨e1, e2⟩ := idx1 t
  obtain ⟨e3, e4, e5⟩ := idx3 t
  blk_simp
  rw [after0_4]
  have ht : t.val < 16 := t.isLt
  have y0 : (y 0).val < 1 := (y 0).isLt
  have hg : part (iblk m c 0 t) (iblk m c 1 t) (y 1) (y 2) = row (V m c main_arg0) (V m c main_arg1)
      (((cfg0.win 4).blk t).view.emb y 0) (((cfg0.win 4).blk t).view.emb y 1) (((cfg0.win 4).blk t).view.emb y 2) := by
    refine Finset.sum_congr rfl fun k _ => congrArg₂ (· * ·) ?_ ?_
    · blk_ext [iblk, e0, e4]
    · blk_ext [iblk, e1, e4]
  have hu : part (iblk m c 0 t) (iblk m c 2 t) (y 1) (y 2) = row (V m c main_arg0) (V m c main_arg2)
      (((cfg0.win 4).blk t).view.emb y 0) (((cfg0.win 4).blk t).view.emb y 1) (((cfg0.win 4).blk t).view.emb y 2) := by
    refine Finset.sum_congr rfl fun k _ => congrArg₂ (· * ·) ?_ ?_
    · blk_ext [iblk, e0, e4]
    · blk_ext [iblk, e2, e4]
  refine (congrArg _ (Groups.eq_row (T := 2048) (K := 704) y)).trans ((out4 _ _ _ _ _).trans ?_)
  rw [hg]

/-- The third array the kernel leaves. -/
theorem arr5 : (dats m 0 c).arrAt (5 : Fin 6) cfg0.N = (fun i : S8x4096x704.Idx => row (V m c main_arg0) (V m c main_arg1) (i 0) (i 1) (i 2) * logi (row (V m c main_arg0) (V m c main_arg1) (i 0) (i 1) (i 2)) * row (V m c main_arg0) (V m c main_arg2) (i 0) (i 1) (i 2)) := by
  refine (dats m 0 c).arrAt_eq_of_covers (5 : Fin 6) _ (by decide +kernel) fun t hf y => ?_
  have e0 := idx0 t
  obtain ⟨e1, e2⟩ := idx1 t
  obtain ⟨e3, e4, e5⟩ := idx3 t
  blk_simp
  rw [after0_5]
  have ht : t.val < 16 := t.isLt
  have y0 : (y 0).val < 1 := (y 0).isLt
  have hg : part (iblk m c 0 t) (iblk m c 1 t) (y 1) (y 2) = row (V m c main_arg0) (V m c main_arg1)
      (((cfg0.win 5).blk t).view.emb y 0) (((cfg0.win 5).blk t).view.emb y 1) (((cfg0.win 5).blk t).view.emb y 2) := by
    refine Finset.sum_congr rfl fun k _ => congrArg₂ (· * ·) ?_ ?_
    · blk_ext [iblk, e0, e5]
    · blk_ext [iblk, e1, e5]
  have hu : part (iblk m c 0 t) (iblk m c 2 t) (y 1) (y 2) = row (V m c main_arg0) (V m c main_arg2)
      (((cfg0.win 5).blk t).view.emb y 0) (((cfg0.win 5).blk t).view.emb y 1) (((cfg0.win 5).blk t).view.emb y 2) := by
    refine Finset.sum_congr rfl fun k _ => congrArg₂ (· * ·) ?_ ?_
    · blk_ext [iblk, e0, e5]
    · blk_ext [iblk, e2, e5]
  refine (congrArg _ (Groups.eq_row (T := 2048) (K := 704) y)).trans ((out5 _ _ _ _ _).trans ?_)
  rw [hg, hu]

section
open Cert.Reference7Ideal.Read

variable (x0 : S4096x2048.Idx → EReal) (x1 x2 : S8x704x2048.Idx → EReal)

/-- The reference's gate, at a hidden index. -/
theorem ref_gate (j : Fin 8) (R : Fin 4096) (f : Fin 704) (i : Cert.Reference7Ideal.S4096x5632.Idx)
    (h0 : (i 0).val = R.val) (h1 : (i 1).val = j.val * 704 + f.val) : val_main_v4 (F := Ideal) x0 x1 i = row x0 x1 j R f := by
  have hj : j.val < 8 := j.isLt
  have hf : f.val < 704 := f.isLt
  rw [val_main_v4_apply]
  refine Finset.sum_congr rfl fun k _ => congrArg₂ (· * ·) (congrArg x0 (funext fun a => Fin.ext ?_)) ?_
  · fin_cases a
    · exact h0
    · rfl
  · have hk : k.val < 2048 := k.isLt
    rw [val_main_v3_apply, val_main_v2_apply]
    refine congrArg x1 (funext fun a => Fin.ext ?_)
    fin_cases a
    · show ((i 1).val * 2048 + k.val) / 1441792 = j.val; omega
    · show ((i 1).val * 2048 + k.val) / 2048 % 704 = f.val; omega
    · show ((i 1).val * 2048 + k.val) % 2048 = k.val; omega

/-- The reference's up projection, at a hidden index: the gate's expression of the other weight. -/
theorem ref_up (j : Fin 8) (R : Fin 4096) (f : Fin 704) (i : Cert.Reference7Ideal.S4096x5632.Idx)
    (h0 : (i 0).val = R.val) (h1 : (i 1).val = j.val * 704 + f.val) : val_main_v8 (F := Ideal) x0 x2 i = row x0 x2 j R f :=
  Eq.trans rfl (ref_gate x0 x2 j R f i h0 h1)

/-- The reference's logistic function. -/
theorem ref_logi (i : Cert.Reference7Ideal.S4096x5632.Idx) :
    val_main_v9_2 (F := Ideal) x0 x1 i = logi (val_main_v4 (F := Ideal) x0 x1 i) := by
  rw [val_main_v9_2_apply, val_main_call0_v4_apply, val_main_call0_cst_0_apply, val_main_call0_v3_apply, val_main_call0_v2_apply, val_main_call0_cst_apply,
    val_main_call0_v1_apply, val_main_call0_v0_apply]
  show Ideal.div (Ideal.ofBits .f32 0x3F800000#32) (Ideal.ofBits .f32 0x3F800000#32 + Ideal.exp (-val_main_v4 (F := Ideal) x0 x1 i)) = _
  rw [Ideal.ofBits_one_f32, logi, zero_sub]

/-- The reference's second result. -/
theorem ref4 (i : S8x4096x704.Idx) :
    val_main_v20 (F := Ideal) x0 x1 i = row x0 x1 (i 0) (i 1) (i 2) * logi (row x0 x1 (i 0) (i 1) (i 2)) := by
  have i0 : (i 0).val < 8 := (i 0).isLt
  have i1 : (i 1).val < 4096 := (i 1).isLt
  have i2 : (i 2).val < 704 := (i 2).isLt
  rw [val_main_v20_apply, val_main_v19_apply, val_main_v18_apply, val_main_v12_apply, val_main_v11_apply, val_main_cst_apply, val_main_v9_0_apply, ref_logi,
    ref_gate x0 x1 (i 0) (i 1) (i 2) (idx_main_v18 (idx_main_v19 i)) (by show (((i 1).val * 8 + (i 0).val) * 704 + (i 2).val) / 5632 = (i 1).val; omega)
      (by show (((i 1).val * 8 + (i 0).val) * 704 + (i 2).val) % 5632 = (i 0).val * 704 + (i 2).val; omega)]
  exact (congrArg (_ * ·) Ideal.ofBits_one_f32).trans (mul_one _)

/-- The reference's third result. -/
theorem ref5 (i : S8x4096x704.Idx) : val_main_v23 (F := Ideal) x0 x1 x2 i
    = row x0 x1 (i 0) (i 1) (i 2) * logi (row x0 x1 (i 0) (i 1) (i 2)) * row x0 x2 (i 0) (i 1) (i 2) := by
  have i0 : (i 0).val < 8 := (i 0).isLt
  have i1 : (i 1).val < 4096 := (i 1).isLt
  have i2 : (i 2).val < 704 := (i 2).isLt
  have h0 : (idx_main_v21 (idx_main_v22 i) 0).val = (i 1).val := (by show (((i 1).val * 8 + (i 0).val) * 704 + (i 2).val) / 5632 = (i 1).val; omega)
  have h1 : (idx_main_v21 (idx_main_v22 i) 1).val = (i 0).val * 704 + (i 2).val := (by show (((i 1).val * 8 + (i 0).val) * 704 + (i 2).val) % 5632 = (i 0).val * 704 + (i 2).val; omega)
  rw [val_main_v23_apply, val_main_v22_apply, val_main_v21_apply, val_main_v10_apply, val_main_v9_0_apply, ref_logi,
    ref_gate x0 x1 (i 0) (i 1) (i 2) _ h0 h1, ref_up x0 x2 (i 0) (i 1) (i 2) _ h0 h1]
  rfl

/-- The derivative by the gate as the reference computes it. -/
def dref (g u : EReal) : EReal := u * logi g + g * u * (logi g * (1 - logi g))

/-- The reference's first result. -/
theorem ref3 (i : S8x4096x704.Idx) : val_main_v17 (F := Ideal) x0 x1 x2 i
    = dref (row x0 x1 (i 0) (i 1) (i 2)) (row x0 x2 (i 0) (i 1) (i 2)) := by
  have i0 : (i 0).val < 8 := (i 0).isLt
  have i1 : (i 1).val < 4096 := (i 1).isLt
  have i2 : (i 2).val < 704 := (i 2).isLt
  have h0 : (idx_main_v15 (idx_main_v16 i) 0).val = (i 1).val := (by show (((i 1).val * 8 + (i 0).val) * 704 + (i 2).val) / 5632 = (i 1).val; omega)
  have h1 : (idx_main_v15 (idx_main_v16 i) 1).val = (i 0).val * 704 + (i 2).val := (by show (((i 1).val * 8 + (i 0).val) * 704 + (i 2).val) % 5632 = (i 0).val * 704 + (i 2).val; omega)
  have hu : val_main_v13 (F := Ideal) x0 x2 (idx_main_v15 (idx_main_v16 i)) = row x0 x2 (i 0) (i 1) (i 2) := by
    rw [val_main_v13_apply, val_main_v11_apply, val_main_cst_apply, ref_up x0 x2 (i 0) (i 1) (i 2) _ h0 h1]
    exact (congrArg (· * _) Ideal.ofBits_one_f32).trans (one_mul _)
  have hs : val_main_v9_1 (F := Ideal) x0 x1 (idx_main_v15 (idx_main_v16 i))
      = logi (row x0 x1 (i 0) (i 1) (i 2)) * (1 - logi (row x0 x1 (i 0) (i 1) (i 2))) := by
    rw [val_main_v9_1_apply, val_main_call0_v7_apply, val_main_call0_v6_apply, val_main_call0_cst_1_apply, ref_logi,
      ref_gate x0 x1 (i 0) (i 1) (i 2) _ h0 h1]
    exact congrArg (fun o => _ * (o - _)) Ideal.ofBits_one_f32
  rw [val_main_v17_apply, val_main_v16_apply, val_main_v15_apply, val_main_v14_apply, val_main_call1_v1_apply, val_main_call1_v2_apply, val_main_call1_v0_apply,
    hu, hs, ref_logi, ref_gate x0 x1 (i 0) (i 1) (i 2) _ h0 h1]
  rfl

end

/-! ## The two forms of the derivative by the gate -/

/-- The two forms agree at real numbers. -/
theorem dgate_eq (g u : ℝ) : dgate (g : EReal) (u : EReal) = dref (g : EReal) (u : EReal) := by
  have hs : logi (g : EReal) = (((1 + Real.exp (-g))⁻¹ : ℝ) : EReal) := (congrArg (fun z => Ideal.div 1 (1 + Ideal.exp z)) (zero_sub _)).trans (Ideal.logistic_coe (r := g))
  unfold dgate dref
  rw [hs]
  generalize (1 + Real.exp (-g))⁻¹ = s
  rw [← EReal.coe_one, ← EReal.coe_sub, ← EReal.coe_mul, ← EReal.coe_add, ← EReal.coe_mul, ← EReal.coe_mul, ← EReal.coe_mul, ← EReal.coe_mul, ← EReal.coe_mul,
    ← EReal.coe_mul, ← EReal.coe_add]
  exact congrArg _ (by ring)

/-- A row's product of real arrays is real. -/
theorem row_real (x : S4096x2048.Idx → EReal) (w : S8x704x2048.Idx → EReal) (hx : ∀ i, ∃ r : ℝ, x i = r) (hw : ∀ i, ∃ r : ℝ, w i = r)
    (j : Fin 8) (R : Fin 4096) (f : Fin 704) : ∃ r : ℝ, row x w j R f = r := by
  choose a ha using hx
  choose b hb using hw
  refine ⟨∑ k : Fin 2048, a (ix2 R k) * b (ix3 j f k), ?_⟩
  rw [Flash.coe_total]
  refine Finset.sum_congr rfl fun k _ => ?_
  rw [ha, hb, EReal.coe_mul]

/-- Arguments meeting the precondition are real at every index. -/
theorem real_of_finite (x0 : S4096x2048.Idx → EReal) (x1 x2 : S8x704x2048.Idx → EReal)
    (hp : Cert.Pre_finite_ffn.fn (F := Ideal) x0 x1 x2 = fun _ => 1#1) :
    (∀ i, ∃ r : ℝ, x0 i = r) ∧ (∀ i, ∃ r : ℝ, x1 i = r) ∧ (∀ i, ∃ r : ℝ, x2 i = r) := by
  haveI : Subsingleton Cert.Pre_finite_ffn.S_.Idx := ⟨fun a b => funext fun z => z.elim0⟩
  have h := congrFun hp (fun z => z.elim0)
  dsimp only [Cert.Pre_finite_ffn.fn] at h
  obtain ⟨h, h2⟩ := IntOp.andi_eq_one.mp h
  obtain ⟨h0, h1⟩ := IntOp.andi_eq_one.mp h
  exact ⟨fun i => Flash.real_of_word _ (Host.reduce_andi_all _ _ _ _ _ h0 i), fun i => Flash.real_of_word _ (Host.reduce_andi_all _ _ _ _ _ h1 i),
    fun i => Flash.real_of_word _ (Host.reduce_andi_all _ _ _ _ _ h2 i)⟩

/-- Of finite arguments the kernel's first result is the reference's. -/
theorem value_dgate (hp : Cert.Pre_finite_ffn.fn (F := Ideal) (m ((c.tc : Thread nD τ).loc main_arg0)) (m ((c.tc : Thread nD τ).loc main_arg1))
      (m ((c.tc : Thread nD τ).loc main_arg2)) = fun _ => 1#1) :
    (dats m 0 c).arrAt (3 : Fin 6) cfg0.N = Cert.Reference7Ideal.Read.val_main_v17 (F := Ideal)
      (m ((c.tc : Thread nD τ).loc main_arg0)) (m ((c.tc : Thread nD τ).loc main_arg1)) (m ((c.tc : Thread nD τ).loc main_arg2)) := by
  refine (arr3 m c).trans (funext fun i => ?_)
  rw [V_main_arg0, V_main_arg1, V_main_arg2]
  obtain ⟨h0, h1, h2⟩ := real_of_finite _ _ _ hp
  obtain ⟨g, hg⟩ := row_real _ _ h0 h1 (i 0) (i 1) (i 2)
  obtain ⟨u, hu⟩ := row_real _ _ h0 h2 (i 0) (i 1) (i 2)
  refine Eq.trans ?_ (ref3 _ _ _ i).symm
  rw [hg, hu]
  exact dgate_eq g u

/-- The kernel's second result is the reference's. -/
theorem value_silu : (dats m 0 c).arrAt (4 : Fin 6) cfg0.N = Cert.Reference7Ideal.Read.val_main_v20 (F := Ideal)
    (m ((c.tc : Thread nD τ).loc main_arg0)) (m ((c.tc : Thread nD τ).loc main_arg1)) := by
  refine (arr4 m c).trans (funext fun i => ?_)
  rw [V_main_arg0, V_main_arg1]
  exact (ref4 _ _ i).symm

/-- The kernel's third result is the reference's. -/
theorem value_act : (dats m 0 c).arrAt (5 : Fin 6) cfg0.N = Cert.Reference7Ideal.Read.val_main_v23 (F := Ideal)
    (m ((c.tc : Thread nD τ).loc main_arg0)) (m ((c.tc : Thread nD τ).loc main_arg1)) (m ((c.tc : Thread nD τ).loc main_arg2)) := by
  refine (arr5 m c).trans (funext fun i => ?_)
  rw [V_main_arg0, V_main_arg1, V_main_arg2]
  exact (ref5 _ _ _ i).symm

end Cert.Act
-- ==== Proof.Out.lean ====
module

public import proofs.«01_k».proof.Proof.Groups
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read

@[expose] public section

noncomputable section

namespace Cert.Out

open Idealize.ShloMosaic Idealize.ShloMosaic.TcCoe Idealize.ShloMosaic.Tactic Idealize.SL.Sem

/-- Four stores of some rows each leave, in a block of rows, the value that each has at its own rows. -/
theorem four {e : EltTy} {T K n o0 o1 o2 o3 : ℕ} (v : Fin T → Fin K → Elt Ideal e) (u0 u1 u2 u3 : (⟨2, ![n, K]⟩ : Shape).Idx → Elt Ideal e) (i0 i1 i2 i3)
    (h0 : ∀ (r : Fin n) C (h : o0 + r.val < T), u0 (ix2 r C) = v ⟨o0 + r.val, h⟩ C) (h1 : ∀ (r : Fin n) C (h : o1 + r.val < T), u1 (ix2 r C) = v ⟨o1 + r.val, h⟩ C)
    (h2 : ∀ (r : Fin n) C (h : o2 + r.val < T), u2 (ix2 r C) = v ⟨o2 + r.val, h⟩ C) (h3 : ∀ (r : Fin n) C (h : o3 + r.val < T), u3 (ix2 r C) = v ⟨o3 + r.val, h⟩ C)
    (R : Fin T) (C : Fin K) : View.AllAt ([⟨Rect.unit ![o3, 0] ![n, K] i3, u3⟩, ⟨Rect.unit ![o2, 0] ![n, K] i2, u2⟩,
      ⟨Rect.unit ![o1, 0] ![n, K] i1, u1⟩, ⟨Rect.unit ![o0, 0] ![n, K] i0, u0⟩]
      : List (View.Piece (Elt Ideal) (⟨2, ![T, K]⟩ : Shape) e)) (ix2 R C) (v R C) := by
  refine Groups.plain o3 n _ _ _ R C _ ?_ (Groups.plain o2 n _ _ _ R C _ ?_
    (Groups.plain o1 n _ _ _ R C _ ?_ (Groups.plain o0 n _ _ _ R C _ ?_ (View.allAt_nil _ _))))
  · rintro r h rfl; exact h3 r C h
  · rintro r h rfl; exact h2 r C h
  · rintro r h rfl; exact h1 r C h
  · rintro r h rfl; exact h0 r C h

section
open Cert.Kernel8Ideal Cert.Kernel8Ideal.Gen

/-- What a grid point of the output projection stores. -/
theorem projStored (x : Vec Ideal S1024x2048 .bf16) (w : Vec Ideal S2048x1024 .bf16) (R C : Fin 1024) :
    out0_2 x w (ix2 R C) = ∑ k : Fin 2048, x (ix2 R k) * w (ix2 k C) := by
  refine View.canon_eq_of_allAt _ _ _ (cover0_2 _ _ _ _ _) (four (fun R C => ∑ k : Fin 2048, x (ix2 R k) * w (ix2 k C)) _ _ _ _ _ _ _ _ ?_ ?_ ?_ ?_ R C)
  all_goals
    intro r C h
    unfold_payloads
    pointwise

/-- The block indices of the output projection. -/
theorem projIdx : ∀ t : Fin grid0.N, win0_0.index t = ![t.val / 2, 0] ∧ win0_1.index t = ![0, t.val % 2] ∧ win0_2.index t = ![t.val / 2, t.val % 2] := by
  decide +kernel

/-- The output projection's result is the reference's. -/
theorem proj (m : (ℓ : Loc nD τ sig) → Buf (Elt Ideal) ℓ) (c : Dev nD) : (dats m 0 c).arrAt (2 : Fin 3) cfg0.N
    = Cert.Reference8Ideal.Read.val_main_v2 (F := Ideal) (m ((c.tc : Thread nD τ).loc main_arg0)) (m ((c.tc : Thread nD τ).loc main_arg1)) := by
  rw [← V_main_arg0 m c, ← V_main_arg1 m c]
  refine (dats m 0 c).arrAt_eq_of_covers (2 : Fin 3) _ (by decide +kernel) fun t hf y => ?_
  obtain ⟨e0, e1, e2⟩ := projIdx t
  have ht : t.val < 8 := t.isLt
  have y0 : (y 0).val < 1024 := (y 0).isLt
  have y1 : (y 1).val < 1024 := (y 1).isLt
  blk_simp
  rw [after0_2]
  refine (congrArg _ (Groups.eq_pair (T := 1024) (K := 1024) y)).trans ((projStored _ _ _ _).trans
    (Eq.trans (Finset.sum_congr rfl fun k _ => congrArg₂ (· * ·) ?_ ?_) (Cert.Reference8Ideal.Read.val_main_v2_apply _ _ _).symm))
  · blk_ext [iblk, e0, e2]
  · blk_ext [iblk, e1, e2]

end

section
open Cert.Kernel9Ideal Cert.Kernel9Ideal.Gen

/-- What a grid point of the gradient of the output projection's input stores. -/
theorem inputStored (x w : Vec Ideal S1024x2048 .bf16) (R C : Fin 1024) : out0_2 x w (ix2 R C) = ∑ k : Fin 2048, x (ix2 R k) * w (ix2 C k) := by
  refine View.canon_eq_of_allAt _ _ _ (cover0_2 _ _ _ _ _) (four (fun R C => ∑ k : Fin 2048, x (ix2 R k) * w (ix2 C k)) _ _ _ _ _ _ _ _ ?_ ?_ ?_ ?_ R C)
  all_goals
    intro r C h
    unfold_payloads
    pointwise

/-- The block indices of that gradient. -/
theorem inputIdx : ∀ t : Fin grid0.N, win0_0.index t = ![t.val / 2, 0] ∧ win0_1.index t = ![t.val % 2, 0] ∧ win0_2.index t = ![t.val / 2, t.val % 2] := by
  decide +kernel

/-- The gradient of the output projection's input is the reference's. -/
theorem input (m : (ℓ : Loc nD τ sig) → Buf (Elt Ideal) ℓ) (c : Dev nD) : (dats m 0 c).arrAt (2 : Fin 3) cfg0.N
    = Cert.Reference9Ideal.Read.val_main_v4 (F := Ideal) (m ((c.tc : Thread nD τ).loc main_arg0)) (m ((c.tc : Thread nD τ).loc main_arg1)) := by
  rw [← V_main_arg0 m c, ← V_main_arg1 m c]
  refine (dats m 0 c).arrAt_eq_of_covers (2 : Fin 3) _ (by decide +kernel) fun t hf y => ?_
  obtain ⟨e0, e1, e2⟩ := inputIdx t
  have ht : t.val < 8 := t.isLt
  have y0 : (y 0).val < 1024 := (y 0).isLt
  have y1 : (y 1).val < 1024 := (y 1).isLt
  blk_simp
  rw [after0_2]
  refine (congrArg _ (Groups.eq_pair (T := 1024) (K := 1024) y)).trans ((inputStored _ _ _ _).trans
    (Eq.trans (Finset.sum_congr rfl fun k _ => congrArg₂ (· * ·) ?_ ?_) (Cert.Reference9Ideal.Read.val_main_v4_apply _ _ _).symm))
  · blk_ext [iblk, e0, e2]
  · blk_ext [iblk, e1, e2]

end

section
open Cert.Kernel10Ideal Cert.Kernel10Ideal.Gen

/-- What a grid point of the gradient of the output projection's weight stores. -/
theorem weightStored (x w : Vec Ideal S4096x1024 .bf16) (R C : Fin 1024) : out0_2 x w (ix2 R C) = ∑ k : Fin 4096, x (ix2 k R) * w (ix2 k C) := by
  refine View.canon_eq_of_allAt _ _ _ (cover0_2 _ _ _ _ _) (four (e := .bf16) (fun R C => ∑ k : Fin 4096, x (ix2 k R) * w (ix2 k C)) _ _ _ _ _ _ _ _ ?_ ?_ ?_ ?_ R C)
  all_goals
    intro r C h
    unfold_payloads
    pointwise

/-- The block indices of that gradient. -/
theorem weightIdx : ∀ t : Fin grid0.N, win0_0.index t = ![0, t.val / 2] ∧ win0_1.index t = ![0, t.val % 2] ∧ win0_2.index t = ![t.val / 2, t.val % 2] := by
  decide +kernel

open Cert.Reference10Ideal.Read in
/-- The gradient of the output projection's weight is the reference's. -/
theorem weight (m : (ℓ : Loc nD τ sig) → Buf (Elt Ideal) ℓ) (c : Dev nD) : (dats m 0 c).arrAt (2 : Fin 3) cfg0.N
    = val_main_v6 (F := Ideal) (m ((c.tc : Thread nD τ).loc main_arg0)) (m ((c.tc : Thread nD τ).loc main_arg1)) := by
  rw [← V_main_arg0 m c, ← V_main_arg1 m c]
  refine (dats m 0 c).arrAt_eq_of_covers (2 : Fin 3) _ (by decide +kernel) fun t hf y => ?_
  obtain ⟨e0, e1, e2⟩ := weightIdx t
  have ht : t.val < 4 := t.isLt
  have y0 : (y 0).val < 1024 := (y 0).isLt
  have y1 : (y 1).val < 1024 := (y 1).isLt
  blk_simp
  rw [after0_2]
  refine (congrArg _ (Groups.eq_pair (T := 1024) (K := 1024) y)).trans ((weightStored _ _ _ _).trans
    (Eq.trans (Finset.sum_congr rfl fun k _ => (mul_comm (G := EReal) _ _).trans (congrArg₂ (· * ·) ?_ ?_))
      ((val_main_v6_apply _ _ _).trans ((val_main_v5_apply _ _ _).trans (val_main_v4_apply _ _ _))).symm))
  · blk_ext [iblk, e1, e2]
  · blk_ext [iblk, e0, e2]

end

end Cert.Out
-- ==== Proof.Segments.lean ====
module

public import proofs.«01_k».proof.Proof.Out
public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import proofs.«01_k».proof.Proof.Gen.Kernel13Ideal.Value
public import proofs.«01_k».proof.Proof.Gen.Reference13Ideal.Read
public import proofs.«01_k».proof.Proof.Gen.Kernel14Ideal.Value
public import proofs.«01_k».proof.Proof.Gen.Reference14Ideal.Read
public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read

@[expose] public section

noncomputable section

namespace Cert.Segments

open Idealize.ShloMosaic Idealize.ShloMosaic.TcCoe Idealize.ShloMosaic.Tactic Idealize.SL.Sem

section
open Cert.Kernel11Ideal Cert.Kernel11Ideal.Gen

/-- What a grid point stores of the 1024 columns of a wide segment. -/
theorem wideStored (x : Vec Ideal S1024x2048 .bf16) (w : Vec Ideal S1024x2048 .bf16) (R : Fin 1024) (C : Fin 1024) :
    out0_2 x w (ix2 R C) = ∑ k : Fin 2048, x (ix2 R k) * w (ix2 C k) := by
  refine View.canon_eq_of_allAt _ _ _ (cover0_2 _ _ _ _ _) (Out.four (fun R C => ∑ k : Fin 2048, x (ix2 R k) * w (ix2 C k)) _ _ _ _ _ _ _ _ ?_ ?_ ?_ ?_ R C)
  all_goals
    intro r C h
    unfold_payloads
    pointwise

/-- The block indices. -/
theorem wideIdx : ∀ t : Fin grid0.N, win0_0.index t = ![t.val, 0] ∧ win0_1.index t = ![0, 0] ∧ win0_2.index t = ![t.val, 0] := by
  decide +kernel

open Cert.Reference11Ideal.Read in
/-- The kernel's 1024 columns of a wide segment are the reference's. -/
theorem wide (m : (ℓ : Loc nD τ sig) → Buf (Elt Ideal) ℓ) (c : Dev nD) : (dats m 0 c).arrAt (2 : Fin 3) cfg0.N
    = val_main_v3 (F := Ideal) (m ((c.tc : Thread nD τ).loc main_arg0)) (m ((c.tc : Thread nD τ).loc main_arg1)) := by
  rw [← V_main_arg0 m c, ← V_main_arg1 m c]
  refine (dats m 0 c).arrAt_eq_of_covers (2 : Fin 3) _ (by decide +kernel) fun t hf y => ?_
  obtain ⟨e0, e1, e2⟩ := wideIdx t
  have ht : t.val < 4 := t.isLt
  have y0 : (y 0).val < 1024 := (y 0).isLt
  have y1 : (y 1).val < 1024 := (y 1).isLt
  blk_simp
  rw [after0_2]
  refine (congrArg _ (Groups.eq_pair (T := 1024) (K := 1024) y)).trans ((wideStored _ _ _ _).trans
    (Eq.trans (Finset.sum_congr rfl fun k _ => congrArg₂ (· * ·) ?_ ?_) (val_main_v3_apply _ _ _).symm))
  · blk_ext [iblk, e0, e2]
  · rw [val_main_v2_apply]
    blk_ext [iblk, e1, e2]

end

section
open Cert.Kernel12Ideal Cert.Kernel12Ideal.Gen

/-- What a grid point stores of the 1536 columns of the convolution's segment. -/
theorem convStored (x : Vec Ideal S1024x2048 .bf16) (w : Vec Ideal S768x2048 .bf16) (R : Fin 1024) (C : Fin 768) :
    out0_2 x w (ix2 R C) = ∑ k : Fin 2048, x (ix2 R k) * w (ix2 C k) := by
  refine View.canon_eq_of_allAt _ _ _ (cover0_2 _ _ _ _ _) (Out.four (fun R C => ∑ k : Fin 2048, x (ix2 R k) * w (ix2 C k)) _ _ _ _ _ _ _ _ ?_ ?_ ?_ ?_ R C)
  all_goals
    intro r C h
    unfold_payloads
    pointwise

/-- The block indices. -/
theorem convIdx : ∀ t : Fin grid0.N, win0_0.index t = ![t.val / 2, 0] ∧ win0_1.index t = ![t.val % 2, 0] ∧ win0_2.index t = ![t.val / 2, t.val % 2] := by
  decide +kernel

open Cert.Reference12Ideal.Read in
/-- The kernel's 1536 columns of the convolution's segment are the reference's. -/
theorem conv (m : (ℓ : Loc nD τ sig) → Buf (Elt Ideal) ℓ) (c : Dev nD) : (dats m 0 c).arrAt (2 : Fin 3) cfg0.N
    = val_main_v3 (F := Ideal) (m ((c.tc : Thread nD τ).loc main_arg0)) (m ((c.tc : Thread nD τ).loc main_arg1)) := by
  rw [← V_main_arg0 m c, ← V_main_arg1 m c]
  refine (dats m 0 c).arrAt_eq_of_covers (2 : Fin 3) _ (by decide +kernel) fun t hf y => ?_
  obtain ⟨e0, e1, e2⟩ := convIdx t
  have ht : t.val < 8 := t.isLt
  have y0 : (y 0).val < 1024 := (y 0).isLt
  have y1 : (y 1).val < 768 := (y 1).isLt
  blk_simp
  rw [after0_2]
  refine (congrArg _ (Groups.eq_pair (T := 1024) (K := 768) y)).trans ((convStored _ _ _ _).trans
    (Eq.trans (Finset.sum_congr rfl fun k _ => congrArg₂ (· * ·) ?_ ?_) (val_main_v3_apply _ _ _).symm))
  · blk_ext [iblk, e0, e2]
  · rw [val_main_v2_apply]
    blk_ext [iblk, e1, e2]

end

section
open Cert.Kernel13Ideal Cert.Kernel13Ideal.Gen

/-- What a grid point stores of the 128 columns of the narrow segment. -/
theorem narrowStored (x : Vec Ideal S1024x2048 .bf16) (w : Vec Ideal S128x2048 .bf16) (R : Fin 1024) (C : Fin 128) :
    out0_2 x w (ix2 R C) = ∑ k : Fin 2048, x (ix2 R k) * w (ix2 C k) := by
  refine View.canon_eq_of_allAt _ _ _ (cover0_2 _ _ _ _ _) (Out.four (fun R C => ∑ k : Fin 2048, x (ix2 R k) * w (ix2 C k)) _ _ _ _ _ _ _ _ ?_ ?_ ?_ ?_ R C)
  all_goals
    intro r C h
    unfold_payloads
    pointwise

/-- The block indices. -/
theorem narrowIdx : ∀ t : Fin grid0.N, win0_0.index t = ![t.val, 0] ∧ win0_1.index t = ![0, 0] ∧ win0_2.index t = ![t.val, 0] := by
  decide +kernel

open Cert.Reference13Ideal.Read in
/-- The kernel's 128 columns of the narrow segment are the reference's. -/
theorem narrow (m : (ℓ : Loc nD τ sig) → Buf (Elt Ideal) ℓ) (c : Dev nD) : (dats m 0 c).arrAt (2 : Fin 3) cfg0.N
    = val_main_v3 (F := Ideal) (m ((c.tc : Thread nD τ).loc main_arg0)) (m ((c.tc : Thread nD τ).loc main_arg1)) := by
  rw [← V_main_arg0 m c, ← V_main_arg1 m c]
  refine (dats m 0 c).arrAt_eq_of_covers (2 : Fin 3) _ (by decide +kernel) fun t hf y => ?_
  obtain ⟨e0, e1, e2⟩ := narrowIdx t
  have ht : t.val < 4 := t.isLt
  have y0 : (y 0).val < 1024 := (y 0).isLt
  have y1 : (y 1).val < 128 := (y 1).isLt
  blk_simp
  rw [after0_2]
  refine (congrArg _ (Groups.eq_pair (T := 1024) (K := 128) y)).trans ((narrowStored _ _ _ _).trans
    (Eq.trans (Finset.sum_congr rfl fun k _ => congrArg₂ (· * ·) ?_ ?_) (val_main_v3_apply _ _ _).symm))
  · blk_ext [iblk, e0, e2]
  · rw [val_main_v2_apply]
    blk_ext [iblk, e1, e2]

end

section
open Cert.Kernel14Ideal Cert.Kernel14Ideal.Gen

/-- What a grid point stores of the 1024 rows of the gradient of a wide segment's weight. -/
theorem wideWeightStored (x : Vec Ideal S4096x1024 .bf16) (w : Vec Ideal S4096x1024 .bf16) (R : Fin 1024) (C : Fin 1024) :
    out0_2 x w (ix2 R C) = ∑ k : Fin 4096, x (ix2 k R) * w (ix2 k C) := by
  refine View.canon_eq_of_allAt _ _ _ (cover0_2 _ _ _ _ _) (Out.four (e := .bf16) (fun R C => ∑ k : Fin 4096, x (ix2 k R) * w (ix2 k C)) _ _ _ _ _ _ _ _ ?_ ?_ ?_ ?_ R C)
  all_goals
    intro r C h
    unfold_payloads
    pointwise

/-- The block indices. -/
theorem wideWeightIdx : ∀ t : Fin grid0.N, win0_0.index t = ![0, 0] ∧ win0_1.index t = ![0, t.val] ∧ win0_2.index t = ![0, t.val] := by
  decide +kernel

open Cert.Reference14Ideal.Read in
/-- The kernel's 1024 rows of the gradient of a wide segment's weight are the reference's. -/
theorem wideWeight (m : (ℓ : Loc nD τ sig) → Buf (Elt Ideal) ℓ) (c : Dev nD) : (dats m 0 c).arrAt (2 : Fin 3) cfg0.N
    = val_main_v7 (F := Ideal) (m ((c.tc : Thread nD τ).loc main_arg0)) (m ((c.tc : Thread nD τ).loc main_arg1)) := by
  rw [← V_main_arg0 m c, ← V_main_arg1 m c]
  refine (dats m 0 c).arrAt_eq_of_covers (2 : Fin 3) _ (by decide +kernel) fun t hf y => ?_
  obtain ⟨e0, e1, e2⟩ := wideWeightIdx t
  have ht : t.val < 2 := t.isLt
  have y0 : (y 0).val < 1024 := (y 0).isLt
  have y1 : (y 1).val < 1024 := (y 1).isLt
  blk_simp
  rw [after0_2]
  refine (congrArg _ (Groups.eq_pair (T := 1024) (K := 1024) y)).trans ((wideWeightStored _ _ _ _).trans
    (Eq.trans (Finset.sum_congr rfl fun k _ => congrArg₂ (· * ·) ?_ ?_) ((val_main_v7_apply _ _ _).trans ((val_main_v6_apply _ _ _).trans ((val_main_v5_apply _ _ _).trans (val_main_v4_apply _ _ _)))).symm))
  · blk_ext [iblk, e0, e2]
  · blk_ext [iblk, e1, e2]

end

section
open Cert.Kernel15Ideal Cert.Kernel15Ideal.Gen

/-- What a grid point stores of the 1536 rows of the gradient of the convolution's segment's weight. -/
theorem convWeightStored (x : Vec Ideal S4096x512 .bf16) (w : Vec Ideal S4096x1024 .bf16) (R : Fin 512) (C : Fin 1024) :
    out0_2 x w (ix2 R C) = ∑ k : Fin 4096, x (ix2 k R) * w (ix2 k C) := by
  refine View.canon_eq_of_allAt _ _ _ (cover0_2 _ _ _ _ _) (Out.four (e := .bf16) (fun R C => ∑ k : Fin 4096, x (ix2 k R) * w (ix2 k C)) _ _ _ _ _ _ _ _ ?_ ?_ ?_ ?_ R C)
  all_goals
    intro r C h
    unfold_payloads
    pointwise

/-- The block indices. -/
theorem convWeightIdx : ∀ t : Fin grid0.N, win0_0.index t = ![0, t.val / 2] ∧ win0_1.index t = ![0, t.val % 2] ∧ win0_2.index t = ![t.val / 2, t.val % 2] := by
  decide +kernel

open Cert.Reference15Ideal.Read in
/-- The kernel's 1536 rows of the gradient of the convolution's segment's weight are the reference's. -/
theorem convWeight (m : (ℓ : Loc nD τ sig) → Buf (Elt Ideal) ℓ) (c : Dev nD) : (dats m 0 c).arrAt (2 : Fin 3) cfg0.N
    = val_main_v7 (F := Ideal) (m ((c.tc : Thread nD τ).loc main_arg0)) (m ((c.tc : Thread nD τ).loc main_arg1)) := by
  rw [← V_main_arg0 m c, ← V_main_arg1 m c]
  refine (dats m 0 c).arrAt_eq_of_covers (2 : Fin 3) _ (by decide +kernel) fun t hf y => ?_
  obtain ⟨e0, e1, e2⟩ := convWeightIdx t
  have ht : t.val < 6 := t.isLt
  have y0 : (y 0).val < 512 := (y 0).isLt
  have y1 : (y 1).val < 1024 := (y 1).isLt
  blk_simp
  rw [after0_2]
  refine (congrArg _ (Groups.eq_pair (T := 512) (K := 1024) y)).trans ((convWeightStored _ _ _ _).trans
    (Eq.trans (Finset.sum_congr rfl fun k _ => congrArg₂ (· * ·) ?_ ?_) ((val_main_v7_apply _ _ _).trans ((val_main_v6_apply _ _ _).trans ((val_main_v5_apply _ _ _).trans (val_main_v4_apply _ _ _)))).symm))
  · blk_ext [iblk, e0, e2]
  · blk_ext [iblk, e1, e2]

end

section
open Cert.Kernel16Ideal Cert.Kernel16Ideal.Gen

/-- What a grid point stores of the 128 rows of the gradient of the narrow segment's weight. -/
theorem narrowWeightStored (x : Vec Ideal S4096x128 .bf16) (w : Vec Ideal S4096x1024 .bf16) (R : Fin 128) (C : Fin 1024) :
    out0_2 x w (ix2 R C) = ∑ k : Fin 4096, x (ix2 k R) * w (ix2 k C) := by
  refine View.canon_eq_of_allAt _ _ _ (cover0_2 _ _) (Groups.plain 0 128 _ _ _ R C _ ?_ (View.allAt_nil _ _))
  rintro r h rfl
  unfold_payloads
  pointwise

/-- The block indices. -/
theorem narrowWeightIdx : ∀ t : Fin grid0.N, win0_0.index t = ![0, 0] ∧ win0_1.index t = ![0, t.val] ∧ win0_2.index t = ![0, t.val] := by
  decide +kernel

open Cert.Reference16Ideal.Read in
/-- The kernel's 128 rows of the gradient of the narrow segment's weight are the reference's. -/
theorem narrowWeight (m : (ℓ : Loc nD τ sig) → Buf (Elt Ideal) ℓ) (c : Dev nD) : (dats m 0 c).arrAt (2 : Fin 3) cfg0.N
    = val_main_v7 (F := Ideal) (m ((c.tc : Thread nD τ).loc main_arg0)) (m ((c.tc : Thread nD τ).loc main_arg1)) := by
  rw [← V_main_arg0 m c, ← V_main_arg1 m c]
  refine (dats m 0 c).arrAt_eq_of_covers (2 : Fin 3) _ (by decide +kernel) fun t hf y => ?_
  obtain ⟨e0, e1, e2⟩ := narrowWeightIdx t
  have ht : t.val < 2 := t.isLt
  have y0 : (y 0).val < 128 := (y 0).isLt
  have y1 : (y 1).val < 1024 := (y 1).isLt
  blk_simp
  rw [after0_2]
  refine (congrArg _ (Groups.eq_pair (T := 128) (K := 1024) y)).trans ((narrowWeightStored _ _ _ _).trans
    (Eq.trans (Finset.sum_congr rfl fun k _ => congrArg₂ (· * ·) ?_ ?_) ((val_main_v7_apply _ _ _).trans ((val_main_v6_apply _ _ _).trans ((val_main_v5_apply _ _ _).trans (val_main_v4_apply _ _ _)))).symm))
  · blk_ext [iblk, e0, e2]
  · blk_ext [iblk, e1, e2]

end

/-- A sum of four terms, from its end. -/
theorem backwards (a b c d : EReal) : a + b + c + d = d + c + b + a := by
  rw [add_comm (a + b + c) d, add_comm (a + b) c, add_comm a b, add_assoc d, add_assoc d, add_assoc c]

section
open Cert.Kernel17Ideal Cert.Kernel17Ideal.Gen

/-- What a grid point stores of the gradient of the input: the sum of the four segments' products. -/
theorem sumStored (x0 : Vec Ideal S1024x128 .bf16) (x1 x2 : Vec Ideal S1024x1024 .bf16) (x3 : Vec Ideal S1024x1536 .bf16) (x4 : Vec Ideal S128x1024 .bf16)
    (x5 x6 : Vec Ideal S1024x1024 .bf16) (x7 : Vec Ideal S1536x1024 .bf16) (R C : Fin 1024) : out0_8 x0 x1 x2 x3 x4 x5 x6 x7 (ix2 R C)
    = (∑ k : Fin 128, x0 (ix2 R k) * x4 (ix2 k C)) + (∑ k : Fin 1024, x1 (ix2 R k) * x5 (ix2 k C)) + (∑ k : Fin 1024, x2 (ix2 R k) * x6 (ix2 k C))
      + ∑ k : Fin 1536, x3 (ix2 R k) * x7 (ix2 k C) := by
  refine View.canon_eq_of_allAt _ _ _ (cover0_8 _ _ _ _ _) (Out.four (fun R C => (∑ k : Fin 128, x0 (ix2 R k) * x4 (ix2 k C)) + (∑ k : Fin 1024, x1 (ix2 R k) * x5 (ix2 k C)) + (∑ k : Fin 1024, x2 (ix2 R k) * x6 (ix2 k C))
      + ∑ k : Fin 1536, x3 (ix2 R k) * x7 (ix2 k C)) _ _ _ _ _ _ _ _ ?_ ?_ ?_ ?_ R C)
  all_goals
    intro r C h
    unfold_payloads
    pointwise

/-- The block indices of the gradients. -/
theorem sumIdx : ∀ t : Fin grid0.N, win0_0.index t = ![t.val / 2, 0] ∧ win0_1.index t = ![t.val / 2, 0] ∧ win0_2.index t = ![t.val / 2, 0]
    ∧ win0_3.index t = ![t.val / 2, 0] := by decide +kernel
/-- The block indices of the weights and of the result. -/
theorem sumWeightIdx : ∀ t : Fin grid0.N, win0_4.index t = ![0, t.val % 2] ∧ win0_5.index t = ![0, t.val % 2] ∧ win0_6.index t = ![0, t.val % 2]
    ∧ win0_7.index t = ![0, t.val % 2] ∧ win0_8.index t = ![t.val / 2, t.val % 2] := by decide +kernel

open Cert.Reference17Ideal.Read in
/-- The gradient of the input projection's input is the reference's. -/
theorem sum (m : (ℓ : Loc nD τ sig) → Buf (Elt Ideal) ℓ) (c : Dev nD) : (dats m 0 c).arrAt (8 : Fin 9) cfg0.N
    = val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [← V_main_arg0 m c, ← V_main_arg1 m c, ← V_main_arg2 m c, ← V_main_arg3 m c, ← V_main_arg4 m c, ← V_main_arg5 m c, ← V_main_arg6 m c, ← V_main_arg7 m c]
  refine (dats m 0 c).arrAt_eq_of_covers (8 : Fin 9) _ (by decide +kernel) fun t hf y => ?_
  obtain ⟨a0, a1, a2, a3⟩ := sumIdx t
  obtain ⟨b0, b1, b2, b3, e⟩ := sumWeightIdx t
  have ht : t.val < 8 := t.isLt
  have y0 : (y 0).val < 1024 := (y 0).isLt
  have y1 : (y 1).val < 1024 := (y 1).isLt
  blk_simp
  rw [after0_8]
  refine (congrArg _ (Groups.eq_pair (T := 1024) (K := 1024) y)).trans ((sumStored _ _ _ _ _ _ _ _ _ _).trans ?_)
  rw [val_main_v23_apply, val_main_v21_apply, val_main_v19_apply, val_main_v17_apply, val_main_v18_apply, val_main_v20_apply, val_main_v22_apply]
  refine Eq.trans (congrArg₂ (· + ·) (congrArg₂ (· + ·) (congrArg₂ (· + ·) (Finset.sum_congr rfl fun k _ => congrArg₂ (· * ·) ?_ ?_)
    (Finset.sum_congr rfl fun k _ => congrArg₂ (· * ·) ?_ ?_)) (Finset.sum_congr rfl fun k _ => congrArg₂ (· * ·) ?_ ?_))
    (Finset.sum_congr rfl fun k _ => congrArg₂ (· * ·) ?_ ?_)) (backwards _ _ _ _)
  · blk_ext [iblk, a0, e]
  · rw [val_main_v2_apply]
    blk_ext [iblk, b0, e]
  · blk_ext [iblk, a1, e]
  · rw [val_main_v5_apply]
    blk_ext [iblk, b1, e]
  · blk_ext [iblk, a2, e]
  · rw [val_main_v8_apply]
    blk_ext [iblk, b2, e]
  · blk_ext [iblk, a3, e]
  · rw [val_main_v11_apply]
    blk_ext [iblk, b3, e]

end

end Cert.Segments
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Run
public import proofs.«01_k».proof.Proof.Equal
public import proofs.«01_k».proof.Proof.Gen.Kernel2
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Weight
public import proofs.«01_k».proof.Proof.Gen.Kernel4
public import proofs.«01_k».proof.Proof.Gen.Kernel4Ideal.Value
public import proofs.«01_k».proof.Proof.Gen.Reference4Ideal.Run
public import proofs.«01_k».proof.Proof.Gen.Reference4Ideal.Read
public import proofs.«01_k».proof.Proof.Input
public import proofs.«01_k».proof.Proof.Gen.Kernel5
public import proofs.«01_k».proof.Proof.Gen.Kernel5Ideal.Value
public import proofs.«01_k».proof.Proof.Gen.Reference5Ideal.Run
public import proofs.«01_k».proof.Proof.Gen.Reference5Ideal.Read
public import proofs.«01_k».proof.Proof.Hidden
public import proofs.«01_k».proof.Proof.Gen.Kernel6
public import proofs.«01_k».proof.Proof.Gen.Kernel6Ideal.Value
public import proofs.«01_k».proof.Proof.Gen.Reference6Ideal.Run
public import proofs.«01_k».proof.Proof.Gen.Reference6Ideal.Read
public import proofs.«01_k».proof.Proof.Down
public import proofs.«01_k».proof.Proof.Gen.Kernel7
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Pre_finite_ffn
public import proofs.«01_k».proof.Proof.Act
public import proofs.«01_k».proof.Proof.Gen.Kernel8
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10Ideal.Value
public import proofs.«01_k».proof.Proof.Gen.Reference10Ideal.Run
public import proofs.«01_k».proof.Proof.Gen.Reference10Ideal.Read
public import proofs.«01_k».proof.Proof.Out
public import proofs.«01_k».proof.Proof.Gen.Kernel11
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17
public import proofs.«01_k».proof.Proof.Gen.Kernel17Ideal.Value
public import proofs.«01_k».proof.Proof.Gen.Reference17Ideal.Run
public import proofs.«01_k».proof.Proof.Gen.Reference17Ideal.Read
public import proofs.«01_k».proof.Proof.Segments
public import Idealize.ShloMosaic.Adequacy
public import Idealize.ShloMosaic.Init

@[expose] public section

noncomputable section

namespace Cert.Proof

open Idealize.ShloMosaic Idealize.SL.Sem

/-- The kernel runs over float values `F`, its arguments unchanged and every semaphore counter at zero at the end. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

/-- The kernel's frame: its text is its ideal form's, read at machine numbers. -/
theorem frame_kernel : Cert.quiescent_Kernel :=
  (show Cert.quiescent_Kernel = FrameAt Bits from by sl_kernel_rfl).mpr fun m ρ _ => Cert.Flash.frame (F := Bits) m ρ
/-- The ideal kernel's frame. -/
theorem frame_ideal : Cert.quiescent_KernelIdeal := fun m ρ _ => Cert.Flash.frame (F := Ideal) m ρ
/-- The same, of finite arguments. -/
theorem frame_ideal_finite : Cert.quiescent_KernelIdeal_pre_finite := fun m ρ _ => Cert.Flash.frame (F := Ideal) m ρ

/-- The reference's frame: host operations alone, so no semaphore at all. -/
theorem frame_reference : Cert.quiescent_ReferenceIdeal := fun m ρ _ =>
  (θ_run Cert.ReferenceIdeal.defs _ _).mono (fun _ h => ⟨fun c => (h c).2.2.2, Idealize.ShloMosaic.sem_eq_zero_of_no_sems (by decide) _⟩) (Cert.ReferenceIdeal.Value.run (F := Ideal) m ρ)
/-- The same, of finite arguments. -/
theorem frame_reference_finite : Cert.quiescent_ReferenceIdeal_pre_finite := fun m ρ _ => frame_reference m ρ trivial

/-- Of finite arguments, the kernel's three results are the reference's: the gradients of the attention's queries, keys and values. -/
theorem value_finite : Cert.algebraic_KernelIdeal_ReferenceIdeal_pre_finite := by
  intro m g m' g' hp ha
  refine ⟨fun c => Cert.ReferenceIdeal.Read.val_main_v59 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v58 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.Read.val_main_v43 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)),
    (θ_run _ _ _).mono (fun r h c => ⟨(h c).1.trans (Cert.Flash.value_q m c (hp c)), (h c).2.1.trans (Cert.Flash.value_k m c (hp c)),
      (h c).2.2.1.trans (Cert.Flash.value_v m c (hp c)), (h c).2.2.2⟩) (Cert.Flash.results (F := Ideal) m g),
    (θ_run _ _ _).mono (fun r h c => ⟨?_, ?_, ?_, (h c).2.2.2⟩) (Cert.ReferenceIdeal.Value.run (F := Ideal) m' g')⟩
  · refine (h c).1.trans ((Cert.ReferenceIdeal.Read.val_main_v59_eq m' c).trans ?_)
    rw [(ha c).1, (ha c).2.1, (ha c).2.2.1, (ha c).2.2.2]
  · refine (h c).2.1.trans ((Cert.ReferenceIdeal.Read.val_main_v58_eq m' c).trans ?_)
    rw [(ha c).1, (ha c).2.1, (ha c).2.2.1, (ha c).2.2.2]
  · refine (h c).2.2.1.trans ((Cert.ReferenceIdeal.Read.val_main_v43_eq _ _ _).trans ?_)
    rw [(ha c).1, (ha c).2.1, (ha c).2.2.2]

/-- The gradient of a blocked weight runs over float values `F`, its arguments unchanged and every semaphore counter at zero at the end. -/
def FrameAt2 (F : FTy → Type) [FloatOps F] : Prop :=
  ∀ (m : (ℓ : Loc Cert.Kernel2Ideal.nD Cert.Kernel2Ideal.τ Cert.Kernel2Ideal.sig) → Buf (Elt F) ℓ) (g : Dev Cert.Kernel2Ideal.nD → PrngReg), True →
    θ_run (Cert.Kernel2Ideal.defs (F := F)) (onTc (τ := Cert.Kernel2Ideal.τ) (Cert.Kernel2Ideal.main (F := F))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

/-- Its frame: its text is its ideal form's, read at machine numbers. -/
theorem frame_kernel2 : Cert.quiescent_Kernel2 :=
  (show Cert.quiescent_Kernel2 = FrameAt2 Bits from by sl_kernel_rfl).mpr fun m ρ _ => Cert.Kernel2Ideal.Gen.frame (F := Bits) m ρ
/-- Its ideal form's frame. -/
theorem frame_ideal2 : Cert.quiescent_Kernel2Ideal := fun m ρ _ => Cert.Kernel2Ideal.Gen.frame (F := Ideal) m ρ

/-- The frame of its reference. -/
theorem frame_reference2 : Cert.quiescent_Reference2Ideal := fun m ρ _ =>
  (θ_run Cert.Reference2Ideal.defs _ _).mono (fun _ h => ⟨fun c => (h c).2, Idealize.ShloMosaic.sem_eq_zero_of_no_sems (by decide) _⟩) (Cert.Reference2Ideal.Value.run (F := Ideal) m ρ)

/-- The frame of its reference. -/
theorem frame_reference3 : Cert.quiescent_Reference3Ideal := fun m ρ _ =>
  (θ_run Cert.Reference3Ideal.defs _ _).mono (fun _ h => ⟨fun c => (h c).2, Idealize.ShloMosaic.sem_eq_zero_of_no_sems (by decide) _⟩) (Cert.Reference3Ideal.Value.run (F := Ideal) m ρ)

/-- The kernel's result is the gradient of the down projection's weight. -/
theorem value_down : Cert.algebraic_Kernel2Ideal_Reference2Ideal := by
  intro m g m' g' _ ha
  refine ⟨fun c => Cert.Reference2Ideal.Read.val_main_v9 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run _ _ _).mono (fun r h c => ⟨(h c).1.trans (Cert.Weight.value_down m c), (h c).2⟩) (Cert.Kernel2Ideal.Value.run_blocks (F := Ideal) m g),
    (θ_run _ _ _).mono (fun r h c => ⟨?_, (h c).2⟩) (Cert.Reference2Ideal.Value.run (F := Ideal) m' g')⟩
  refine (h c).1.trans ((Cert.Reference2Ideal.Read.val_main_v9_eq _ _).trans ?_)
  rw [(ha c).1, (ha c).2]

/-- The kernel's result is the gradient of the gate's weight, or of the up projection's. -/
theorem value_gate : Cert.algebraic_Kernel2Ideal_Reference3Ideal := by
  intro m g m' g' _ ha
  refine ⟨fun c => Cert.Reference3Ideal.Read.val_main_v10 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run _ _ _).mono (fun r h c => ⟨(h c).1.trans (Cert.Weight.value_gate m c), (h c).2⟩) (Cert.Kernel2Ideal.Value.run_blocks (F := Ideal) m g),
    (θ_run _ _ _).mono (fun r h c => ⟨?_, (h c).2⟩) (Cert.Reference3Ideal.Value.run (F := Ideal) m' g')⟩
  refine (h c).1.trans ((Cert.Reference3Ideal.Read.val_main_v10_eq _ _).trans ?_)
  rw [(ha c).1, (ha c).2]

/-- The gradient of the block's input runs over float values `F`, its arguments unchanged and every semaphore counter at zero at the end. -/
def FrameAt4 (F : FTy → Type) [FloatOps F] : Prop :=
  ∀ (m : (ℓ : Loc Cert.Kernel4Ideal.nD Cert.Kernel4Ideal.τ Cert.Kernel4Ideal.sig) → Buf (Elt F) ℓ) (g : Dev Cert.Kernel4Ideal.nD → PrngReg), True →
    θ_run (Cert.Kernel4Ideal.defs (F := F)) (onTc (τ := Cert.Kernel4Ideal.τ) (Cert.Kernel4Ideal.main (F := F))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

/-- Its frame: its text is its ideal form's, read at machine numbers. -/
theorem frame_kernel4 : Cert.quiescent_Kernel4 :=
  (show Cert.quiescent_Kernel4 = FrameAt4 Bits from by sl_kernel_rfl).mpr fun m ρ _ => Cert.Kernel4Ideal.Gen.frame (F := Bits) m ρ
/-- Its ideal form's frame. -/
theorem frame_ideal4 : Cert.quiescent_Kernel4Ideal := fun m ρ _ => Cert.Kernel4Ideal.Gen.frame (F := Ideal) m ρ

/-- The frame of its reference. -/
theorem frame_reference4 : Cert.quiescent_Reference4Ideal := fun m ρ _ =>
  (θ_run Cert.Reference4Ideal.defs _ _).mono (fun _ h => ⟨fun c => (h c).2, Idealize.ShloMosaic.sem_eq_zero_of_no_sems (by decide) _⟩) (Cert.Reference4Ideal.Value.run (F := Ideal) m ρ)

/-- The kernel's result is the gradient of the feed-forward block's input. -/
theorem value_input : Cert.algebraic_Kernel4Ideal_Reference4Ideal := by
  intro m g m' g' _ ha
  refine ⟨fun c => Cert.Reference4Ideal.Read.val_main_v17 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
    (θ_run _ _ _).mono (fun r h c => ⟨(h c).1.trans (Cert.Input.value_input m c), (h c).2⟩) (Cert.Kernel4Ideal.Value.run_blocks (F := Ideal) m g),
    (θ_run _ _ _).mono (fun r h c => ⟨?_, (h c).2⟩) (Cert.Reference4Ideal.Value.run (F := Ideal) m' g')⟩
  refine (h c).1.trans ((Cert.Reference4Ideal.Read.val_main_v17_eq _ _ _ _).trans ?_)
  rw [(ha c).1, (ha c).2.1, (ha c).2.2.1, (ha c).2.2.2]

/-- The gradient of the hidden activations runs over float values `F`, its arguments unchanged and every semaphore counter at zero at the end. -/
def FrameAt5 (F : FTy → Type) [FloatOps F] : Prop :=
  ∀ (m : (ℓ : Loc Cert.Kernel5Ideal.nD Cert.Kernel5Ideal.τ Cert.Kernel5Ideal.sig) → Buf (Elt F) ℓ) (g : Dev Cert.Kernel5Ideal.nD → PrngReg), True →
    θ_run (Cert.Kernel5Ideal.defs (F := F)) (onTc (τ := Cert.Kernel5Ideal.τ) (Cert.Kernel5Ideal.main (F := F))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

/-- Its frame: its text is its ideal form's, read at machine numbers. -/
theorem frame_kernel5 : Cert.quiescent_Kernel5 :=
  (show Cert.quiescent_Kernel5 = FrameAt5 Bits from by sl_kernel_rfl).mpr fun m ρ _ => Cert.Kernel5Ideal.Gen.frame (F := Bits) m ρ
/-- Its ideal form's frame. -/
theorem frame_ideal5 : Cert.quiescent_Kernel5Ideal := fun m ρ _ => Cert.Kernel5Ideal.Gen.frame (F := Ideal) m ρ

/-- The frame of its reference. -/
theorem frame_reference5 : Cert.quiescent_Reference5Ideal := fun m ρ _ =>
  (θ_run Cert.Reference5Ideal.defs _ _).mono (fun _ h => ⟨fun c => (h c).2.2, Idealize.ShloMosaic.sem_eq_zero_of_no_sems (by decide) _⟩) (Cert.Reference5Ideal.Value.run (F := Ideal) m ρ)

/-- The kernel's two results are the gradients of the gate and of the up projection. -/
theorem value_hidden : Cert.algebraic_Kernel5Ideal_Reference5Ideal := by
  intro m g m' g' _ ha
  refine ⟨fun c => Cert.Reference5Ideal.Read.val_main_v19 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)),
    fun c => Cert.Reference5Ideal.Read.val_main_v22 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg3)),
    (θ_run _ _ _).mono (fun r h c => ⟨(h c).1.trans (Cert.Hidden.value_first m c), (h c).2.1.trans (Cert.Hidden.value_second m c), (h c).2.2⟩) (Cert.Kernel5Ideal.Value.run_blocks (F := Ideal) m g),
    (θ_run _ _ _).mono (fun r h c => ⟨?_, ?_, (h c).2.2⟩) (Cert.Reference5Ideal.Value.run (F := Ideal) m' g')⟩
  · refine (h c).1.trans ((Cert.Reference5Ideal.Read.val_main_v19_eq _ _ _).trans ?_)
    rw [(ha c).1, (ha c).2.1, (ha c).2.2.1]
  · refine (h c).2.1.trans ((Cert.Reference5Ideal.Read.val_main_v22_eq _ _ _).trans ?_)
    rw [(ha c).1, (ha c).2.1, (ha c).2.2.2]

/-- The down projection runs over float values `F`, its arguments unchanged and every semaphore counter at zero at the end. -/
def FrameAt6 (F : FTy → Type) [FloatOps F] : Prop :=
  ∀ (m : (ℓ : Loc Cert.Kernel6Ideal.nD Cert.Kernel6Ideal.τ Cert.Kernel6Ideal.sig) → Buf (Elt F) ℓ) (g : Dev Cert.Kernel6Ideal.nD → PrngReg), True →
    θ_run (Cert.Kernel6Ideal.defs (F := F)) (onTc (τ := Cert.Kernel6Ideal.τ) (Cert.Kernel6Ideal.main (F := F))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

/-- Its frame: its text is its ideal form's, read at machine numbers. -/
theorem frame_kernel6 : Cert.quiescent_Kernel6 :=
  (show Cert.quiescent_Kernel6 = FrameAt6 Bits from by sl_kernel_rfl).mpr fun m ρ _ => Cert.Kernel6Ideal.Gen.frame (F := Bits) m ρ
/-- Its ideal form's frame. -/
theorem frame_ideal6 : Cert.quiescent_Kernel6Ideal := fun m ρ _ => Cert.Kernel6Ideal.Gen.frame (F := Ideal) m ρ

/-- The frame of its reference. -/
theorem frame_reference6 : Cert.quiescent_Reference6Ideal := fun m ρ _ =>
  (θ_run Cert.Reference6Ideal.defs _ _).mono (fun _ h => ⟨fun c => (h c).2, Idealize.ShloMosaic.sem_eq_zero_of_no_sems (by decide) _⟩) (Cert.Reference6Ideal.Value.run (F := Ideal) m ρ)

/-- The kernel's result is the down projection. -/
theorem value_product : Cert.algebraic_Kernel6Ideal_Reference6Ideal := by
  intro m g m' g' _ ha
  refine ⟨fun c => Cert.Reference6Ideal.Read.val_main_v5 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run _ _ _).mono (fun r h c => ⟨(h c).1.trans (Cert.Down.value_product m c), (h c).2⟩) (Cert.Kernel6Ideal.Value.run_blocks (F := Ideal) m g),
    (θ_run _ _ _).mono (fun r h c => ⟨?_, (h c).2⟩) (Cert.Reference6Ideal.Value.run (F := Ideal) m' g')⟩
  refine (h c).1.trans ((Cert.Reference6Ideal.Read.val_main_v5_eq _ _).trans ?_)
  rw [(ha c).1, (ha c).2]

/-- The hidden activations runs over float values `F`, its arguments unchanged and every semaphore counter at zero at the end. -/
def FrameAt7 (F : FTy → Type) [FloatOps F] : Prop :=
  ∀ (m : (ℓ : Loc Cert.Kernel7Ideal.nD Cert.Kernel7Ideal.τ Cert.Kernel7Ideal.sig) → Buf (Elt F) ℓ) (g : Dev Cert.Kernel7Ideal.nD → PrngReg), True →
    θ_run (Cert.Kernel7Ideal.defs (F := F)) (onTc (τ := Cert.Kernel7Ideal.τ) (Cert.Kernel7Ideal.main (F := F))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

/-- Its frame: its text is its ideal form's, read at machine numbers. -/
theorem frame_kernel7 : Cert.quiescent_Kernel7 :=
  (show Cert.quiescent_Kernel7 = FrameAt7 Bits from by sl_kernel_rfl).mpr fun m ρ _ => Cert.Kernel7Ideal.Gen.frame (F := Bits) m ρ
/-- Its ideal form's frame. -/
theorem frame_ideal7 : Cert.quiescent_Kernel7Ideal := fun m ρ _ => Cert.Kernel7Ideal.Gen.frame (F := Ideal) m ρ

/-- The frame of its reference. -/
theorem frame_reference7 : Cert.quiescent_Reference7Ideal := fun m ρ _ =>
  (θ_run Cert.Reference7Ideal.defs _ _).mono (fun _ h => ⟨fun c => (h c).2.2.2, Idealize.ShloMosaic.sem_eq_zero_of_no_sems (by decide) _⟩) (Cert.Reference7Ideal.Value.run (F := Ideal) m ρ)

/-- The same of finite arguments. -/
theorem frame_ideal7_finite : Cert.quiescent_Kernel7Ideal_pre_finite_ffn := fun m ρ _ => frame_ideal7 m ρ trivial
/-- The same of finite arguments, of its reference. -/
theorem frame_reference7_finite : Cert.quiescent_Reference7Ideal_pre_finite_ffn := fun m ρ _ => frame_reference7 m ρ trivial

/-- Of finite arguments, the kernel's three results are the activations and their two derivatives. -/
theorem value_act_finite : Cert.algebraic_Kernel7Ideal_Reference7Ideal_pre_finite_ffn := by
  intro m g m' g' hp ha
  refine ⟨fun c => Cert.Reference7Ideal.Read.val_main_v17 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    fun c => Cert.Reference7Ideal.Read.val_main_v20 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    fun c => Cert.Reference7Ideal.Read.val_main_v23 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    (θ_run _ _ _).mono (fun r h c => ⟨(h c).1.trans (Cert.Act.value_dgate m c (hp c)), (h c).2.1.trans (Cert.Act.value_silu m c), (h c).2.2.1.trans (Cert.Act.value_act m c), (h c).2.2.2⟩) (Cert.Kernel7Ideal.Value.run_blocks (F := Ideal) m g),
    (θ_run _ _ _).mono (fun r h c => ⟨?_, ?_, ?_, (h c).2.2.2⟩) (Cert.Reference7Ideal.Value.run (F := Ideal) m' g')⟩
  · refine (h c).1.trans ((Cert.Reference7Ideal.Read.val_main_v17_eq _ _ _).trans ?_)
    rw [(ha c).1, (ha c).2.1, (ha c).2.2]
  · refine (h c).2.1.trans ((Cert.Reference7Ideal.Read.val_main_v20_eq _ _).trans ?_)
    rw [(ha c).1, (ha c).2.1]
  · refine (h c).2.2.1.trans ((Cert.Reference7Ideal.Read.val_main_v23_eq _ _ _).trans ?_)
    rw [(ha c).1, (ha c).2.1, (ha c).2.2]

/-- The output projection runs over float values `F`, its arguments unchanged and every semaphore counter at zero at the end. -/
def FrameAt8 (F : FTy → Type) [FloatOps F] : Prop :=
  ∀ (m : (ℓ : Loc Cert.Kernel8Ideal.nD Cert.Kernel8Ideal.τ Cert.Kernel8Ideal.sig) → Buf (Elt F) ℓ) (g : Dev Cert.Kernel8Ideal.nD → PrngReg), True →
    θ_run (Cert.Kernel8Ideal.defs (F := F)) (onTc (τ := Cert.Kernel8Ideal.τ) (Cert.Kernel8Ideal.main (F := F))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

/-- Its frame: its text is its ideal form's, read at machine numbers. -/
theorem frame_kernel8 : Cert.quiescent_Kernel8 :=
  (show Cert.quiescent_Kernel8 = FrameAt8 Bits from by sl_kernel_rfl).mpr fun m ρ _ => Cert.Kernel8Ideal.Gen.frame (F := Bits) m ρ
/-- Its ideal form's frame. -/
theorem frame_ideal8 : Cert.quiescent_Kernel8Ideal := fun m ρ _ => Cert.Kernel8Ideal.Gen.frame (F := Ideal) m ρ

/-- The frame of its reference. -/
theorem frame_reference8 : Cert.quiescent_Reference8Ideal := fun m ρ _ =>
  (θ_run Cert.Reference8Ideal.defs _ _).mono (fun _ h => ⟨fun c => (h c).2, Idealize.ShloMosaic.sem_eq_zero_of_no_sems (by decide) _⟩) (Cert.Reference8Ideal.Value.run (F := Ideal) m ρ)

/-- The kernel's result is the output projection. -/
theorem value_projection : Cert.algebraic_Kernel8Ideal_Reference8Ideal := by
  intro m g m' g' _ ha
  refine ⟨fun c => Cert.Reference8Ideal.Read.val_main_v2 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run _ _ _).mono (fun r h c => ⟨(h c).1.trans (Cert.Out.proj m c), (h c).2⟩) (Cert.Kernel8Ideal.Value.run_blocks (F := Ideal) m g),
    (θ_run _ _ _).mono (fun r h c => ⟨?_, (h c).2⟩) (Cert.Reference8Ideal.Value.run (F := Ideal) m' g')⟩
  refine (h c).1.trans ((Cert.Reference8Ideal.Read.val_main_v2_eq _ _).trans ?_)
  rw [(ha c).1, (ha c).2]

/-- The gradient of the output projection's input runs over float values `F`, its arguments unchanged and every semaphore counter at zero at the end. -/
def FrameAt9 (F : FTy → Type) [FloatOps F] : Prop :=
  ∀ (m : (ℓ : Loc Cert.Kernel9Ideal.nD Cert.Kernel9Ideal.τ Cert.Kernel9Ideal.sig) → Buf (Elt F) ℓ) (g : Dev Cert.Kernel9Ideal.nD → PrngReg), True →
    θ_run (Cert.Kernel9Ideal.defs (F := F)) (onTc (τ := Cert.Kernel9Ideal.τ) (Cert.Kernel9Ideal.main (F := F))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

/-- Its frame: its text is its ideal form's, read at machine numbers. -/
theorem frame_kernel9 : Cert.quiescent_Kernel9 :=
  (show Cert.quiescent_Kernel9 = FrameAt9 Bits from by sl_kernel_rfl).mpr fun m ρ _ => Cert.Kernel9Ideal.Gen.frame (F := Bits) m ρ
/-- Its ideal form's frame. -/
theorem frame_ideal9 : Cert.quiescent_Kernel9Ideal := fun m ρ _ => Cert.Kernel9Ideal.Gen.frame (F := Ideal) m ρ

/-- The frame of its reference. -/
theorem frame_reference9 : Cert.quiescent_Reference9Ideal := fun m ρ _ =>
  (θ_run Cert.Reference9Ideal.defs _ _).mono (fun _ h => ⟨fun c => (h c).2, Idealize.ShloMosaic.sem_eq_zero_of_no_sems (by decide) _⟩) (Cert.Reference9Ideal.Value.run (F := Ideal) m ρ)

/-- The kernel's result is the gradient of the output projection's input. -/
theorem value_projection_input : Cert.algebraic_Kernel9Ideal_Reference9Ideal := by
  intro m g m' g' _ ha
  refine ⟨fun c => Cert.Reference9Ideal.Read.val_main_v4 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run _ _ _).mono (fun r h c => ⟨(h c).1.trans (Cert.Out.input m c), (h c).2⟩) (Cert.Kernel9Ideal.Value.run_blocks (F := Ideal) m g),
    (θ_run _ _ _).mono (fun r h c => ⟨?_, (h c).2⟩) (Cert.Reference9Ideal.Value.run (F := Ideal) m' g')⟩
  refine (h c).1.trans ((Cert.Reference9Ideal.Read.val_main_v4_eq _ _).trans ?_)
  rw [(ha c).1, (ha c).2]

/-- The gradient of the output projection's weight runs over float values `F`, its arguments unchanged and every semaphore counter at zero at the end. -/
def FrameAt10 (F : FTy → Type) [FloatOps F] : Prop :=
  ∀ (m : (ℓ : Loc Cert.Kernel10Ideal.nD Cert.Kernel10Ideal.τ Cert.Kernel10Ideal.sig) → Buf (Elt F) ℓ) (g : Dev Cert.Kernel10Ideal.nD → PrngReg), True →
    θ_run (Cert.Kernel10Ideal.defs (F := F)) (onTc (τ := Cert.Kernel10Ideal.τ) (Cert.Kernel10Ideal.main (F := F))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

/-- Its frame: its text is its ideal form's, read at machine numbers. -/
theorem frame_kernel10 : Cert.quiescent_Kernel10 :=
  (show Cert.quiescent_Kernel10 = FrameAt10 Bits from by sl_kernel_rfl).mpr fun m ρ _ => Cert.Kernel10Ideal.Gen.frame (F := Bits) m ρ
/-- Its ideal form's frame. -/
theorem frame_ideal10 : Cert.quiescent_Kernel10Ideal := fun m ρ _ => Cert.Kernel10Ideal.Gen.frame (F := Ideal) m ρ

/-- The frame of its reference. -/
theorem frame_reference10 : Cert.quiescent_Reference10Ideal := fun m ρ _ =>
  (θ_run Cert.Reference10Ideal.defs _ _).mono (fun _ h => ⟨fun c => (h c).2, Idealize.ShloMosaic.sem_eq_zero_of_no_sems (by decide) _⟩) (Cert.Reference10Ideal.Value.run (F := Ideal) m ρ)

/-- The kernel's result is the gradient of the output projection's weight. -/
theorem value_projection_weight : Cert.algebraic_Kernel10Ideal_Reference10Ideal := by
  intro m g m' g' _ ha
  refine ⟨fun c => Cert.Reference10Ideal.Read.val_main_v6 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run _ _ _).mono (fun r h c => ⟨(h c).1.trans (Cert.Out.weight m c), (h c).2⟩) (Cert.Kernel10Ideal.Value.run_blocks (F := Ideal) m g),
    (θ_run _ _ _).mono (fun r h c => ⟨?_, (h c).2⟩) (Cert.Reference10Ideal.Value.run (F := Ideal) m' g')⟩
  refine (h c).1.trans ((Cert.Reference10Ideal.Read.val_main_v6_eq _ _).trans ?_)
  rw [(ha c).1, (ha c).2]

/-- A wide segment of the input projection runs over float values `F`, its arguments unchanged and every semaphore counter at zero at the end. -/
def FrameAt11 (F : FTy → Type) [FloatOps F] : Prop :=
  ∀ (m : (ℓ : Loc Cert.Kernel11Ideal.nD Cert.Kernel11Ideal.τ Cert.Kernel11Ideal.sig) → Buf (Elt F) ℓ) (g : Dev Cert.Kernel11Ideal.nD → PrngReg), True →
    θ_run (Cert.Kernel11Ideal.defs (F := F)) (onTc (τ := Cert.Kernel11Ideal.τ) (Cert.Kernel11Ideal.main (F := F))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

/-- Its frame: its text is its ideal form's, read at machine numbers. -/
theorem frame_kernel11 : Cert.quiescent_Kernel11 :=
  (show Cert.quiescent_Kernel11 = FrameAt11 Bits from by sl_kernel_rfl).mpr fun m ρ _ => Cert.Kernel11Ideal.Gen.frame (F := Bits) m ρ
/-- Its ideal form's frame. -/
theorem frame_ideal11 : Cert.quiescent_Kernel11Ideal := fun m ρ _ => Cert.Kernel11Ideal.Gen.frame (F := Ideal) m ρ

/-- The frame of its reference. -/
theorem frame_reference11 : Cert.quiescent_Reference11Ideal := fun m ρ _ =>
  (θ_run Cert.Reference11Ideal.defs _ _).mono (fun _ h => ⟨fun c => (h c).2, Idealize.ShloMosaic.sem_eq_zero_of_no_sems (by decide) _⟩) (Cert.Reference11Ideal.Value.run (F := Ideal) m ρ)

/-- The kernel's result is 1024 columns of the input projection. -/
theorem value_segment_wide : Cert.algebraic_Kernel11Ideal_Reference11Ideal := by
  intro m g m' g' _ ha
  refine ⟨fun c => Cert.Reference11Ideal.Read.val_main_v3 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)),
    (θ_run _ _ _).mono (fun r h c => ⟨(h c).1.trans (Cert.Segments.wide m c), (h c).2⟩) (Cert.Kernel11Ideal.Value.run_blocks (F := Ideal) m g),
    (θ_run _ _ _).mono (fun r h c => ⟨?_, (h c).2⟩) (Cert.Reference11Ideal.Value.run (F := Ideal) m' g')⟩
  refine (h c).1.trans ((Cert.Reference11Ideal.Read.val_main_v3_eq _ _).trans ?_)
  rw [(ha c).1, (ha c).2]

/-- The convolution's segment of the input projection runs over float values `F`, its arguments unchanged and every semaphore counter at zero at the end. -/
def FrameAt12 (F : FTy → Type) [FloatOps F] : Prop :=
  ∀ (m : (ℓ : Loc Cert.Kernel12Ideal.nD Cert.Kernel12Ideal.τ Cert.Kernel12Ideal.sig) → Buf (Elt F) ℓ) (g : Dev Cert.Kernel12Ideal.nD → PrngReg), True →
    θ_run (Cert.Kernel12Ideal.defs (F := F)) (onTc (τ := Cert.Kernel12Ideal.τ) (Cert.Kernel12Ideal.main (F := F))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

/-- Its frame: its text is its ideal form's, read at machine numbers. -/
theorem frame_kernel12 : Cert.quiescent_Kernel12 :=
  (show Cert.quiescent_Kernel12 = FrameAt12 Bits from by sl_kernel_rfl).mpr fun m ρ _ => Cert.Kernel12Ideal.Gen.frame (F := Bits) m ρ
/-- Its ideal form's frame. -/
theorem frame_ideal12 : Cert.quiescent_Kernel12Ideal := fun m ρ _ => Cert.Kernel12Ideal.Gen.frame (F := Ideal) m ρ

/-- The frame of its reference. -/
theorem frame_reference12 : Cert.quiescent_Reference12Ideal := fun m ρ _ =>
  (θ_run Cert.Reference12Ideal.defs _ _).mono (fun _ h => ⟨fun c => (h c).2, Idealize.ShloMosaic.sem_eq_zero_of_no_sems (by decide) _⟩) (Cert.Reference12Ideal.Value.run (F := Ideal) m ρ)

/-- The kernel's result is 1536 columns of the input projection. -/
theorem value_segment_conv : Cert.algebraic_Kernel12Ideal_Reference12Ideal := by
  intro m g m' g' _ ha
  refine ⟨fun c => Cert.Reference12Ideal.Read.val_main_v3 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)),
    (θ_run _ _ _).mono (fun r h c => ⟨(h c).1.trans (Cert.Segments.conv m c), (h c).2⟩) (Cert.Kernel12Ideal.Value.run_blocks (F := Ideal) m g),
    (θ_run _ _ _).mono (fun r h c => ⟨?_, (h c).2⟩) (Cert.Reference12Ideal.Value.run (F := Ideal) m' g')⟩
  refine (h c).1.trans ((Cert.Reference12Ideal.Read.val_main_v3_eq _ _).trans ?_)
  rw [(ha c).1, (ha c).2]

/-- The narrow segment of the input projection runs over float values `F`, its arguments unchanged and every semaphore counter at zero at the end. -/
def FrameAt13 (F : FTy → Type) [FloatOps F] : Prop :=
  ∀ (m : (ℓ : Loc Cert.Kernel13Ideal.nD Cert.Kernel13Ideal.τ Cert.Kernel13Ideal.sig) → Buf (Elt F) ℓ) (g : Dev Cert.Kernel13Ideal.nD → PrngReg), True →
    θ_run (Cert.Kernel13Ideal.defs (F := F)) (onTc (τ := Cert.Kernel13Ideal.τ) (Cert.Kernel13Ideal.main (F := F))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

/-- Its frame: its text is its ideal form's, read at machine numbers. -/
theorem frame_kernel13 : Cert.quiescent_Kernel13 :=
  (show Cert.quiescent_Kernel13 = FrameAt13 Bits from by sl_kernel_rfl).mpr fun m ρ _ => Cert.Kernel13Ideal.Gen.frame (F := Bits) m ρ
/-- Its ideal form's frame. -/
theorem frame_ideal13 : Cert.quiescent_Kernel13Ideal := fun m ρ _ => Cert.Kernel13Ideal.Gen.frame (F := Ideal) m ρ

/-- The frame of its reference. -/
theorem frame_reference13 : Cert.quiescent_Reference13Ideal := fun m ρ _ =>
  (θ_run Cert.Reference13Ideal.defs _ _).mono (fun _ h => ⟨fun c => (h c).2, Idealize.ShloMosaic.sem_eq_zero_of_no_sems (by decide) _⟩) (Cert.Reference13Ideal.Value.run (F := Ideal) m ρ)

/-- The kernel's result is 128 columns of the input projection. -/
theorem value_segment_narrow : Cert.algebraic_Kernel13Ideal_Reference13Ideal := by
  intro m g m' g' _ ha
  refine ⟨fun c => Cert.Reference13Ideal.Read.val_main_v3 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    (θ_run _ _ _).mono (fun r h c => ⟨(h c).1.trans (Cert.Segments.narrow m c), (h c).2⟩) (Cert.Kernel13Ideal.Value.run_blocks (F := Ideal) m g),
    (θ_run _ _ _).mono (fun r h c => ⟨?_, (h c).2⟩) (Cert.Reference13Ideal.Value.run (F := Ideal) m' g')⟩
  refine (h c).1.trans ((Cert.Reference13Ideal.Read.val_main_v3_eq _ _).trans ?_)
  rw [(ha c).1, (ha c).2]

/-- The gradient of a wide segment's weight runs over float values `F`, its arguments unchanged and every semaphore counter at zero at the end. -/
def FrameAt14 (F : FTy → Type) [FloatOps F] : Prop :=
  ∀ (m : (ℓ : Loc Cert.Kernel14Ideal.nD Cert.Kernel14Ideal.τ Cert.Kernel14Ideal.sig) → Buf (Elt F) ℓ) (g : Dev Cert.Kernel14Ideal.nD → PrngReg), True →
    θ_run (Cert.Kernel14Ideal.defs (F := F)) (onTc (τ := Cert.Kernel14Ideal.τ) (Cert.Kernel14Ideal.main (F := F))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

/-- Its frame: its text is its ideal form's, read at machine numbers. -/
theorem frame_kernel14 : Cert.quiescent_Kernel14 :=
  (show Cert.quiescent_Kernel14 = FrameAt14 Bits from by sl_kernel_rfl).mpr fun m ρ _ => Cert.Kernel14Ideal.Gen.frame (F := Bits) m ρ
/-- Its ideal form's frame. -/
theorem frame_ideal14 : Cert.quiescent_Kernel14Ideal := fun m ρ _ => Cert.Kernel14Ideal.Gen.frame (F := Ideal) m ρ

/-- The frame of its reference. -/
theorem frame_reference14 : Cert.quiescent_Reference14Ideal := fun m ρ _ =>
  (θ_run Cert.Reference14Ideal.defs _ _).mono (fun _ h => ⟨fun c => (h c).2, Idealize.ShloMosaic.sem_eq_zero_of_no_sems (by decide) _⟩) (Cert.Reference14Ideal.Value.run (F := Ideal) m ρ)

/-- The kernel's result is the gradient of 1024 columns of the input projection's weight. -/
theorem value_weight_wide : Cert.algebraic_Kernel14Ideal_Reference14Ideal := by
  intro m g m' g' _ ha
  refine ⟨fun c => Cert.Reference14Ideal.Read.val_main_v7 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run _ _ _).mono (fun r h c => ⟨(h c).1.trans (Cert.Segments.wideWeight m c), (h c).2⟩) (Cert.Kernel14Ideal.Value.run_blocks (F := Ideal) m g),
    (θ_run _ _ _).mono (fun r h c => ⟨?_, (h c).2⟩) (Cert.Reference14Ideal.Value.run (F := Ideal) m' g')⟩
  refine (h c).1.trans ((Cert.Reference14Ideal.Read.val_main_v7_eq _ _).trans ?_)
  rw [(ha c).1, (ha c).2]

/-- The gradient of the convolution's segment's weight runs over float values `F`, its arguments unchanged and every semaphore counter at zero at the end. -/
def FrameAt15 (F : FTy → Type) [FloatOps F] : Prop :=
  ∀ (m : (ℓ : Loc Cert.Kernel15Ideal.nD Cert.Kernel15Ideal.τ Cert.Kernel15Ideal.sig) → Buf (Elt F) ℓ) (g : Dev Cert.Kernel15Ideal.nD → PrngReg), True →
    θ_run (Cert.Kernel15Ideal.defs (F := F)) (onTc (τ := Cert.Kernel15Ideal.τ) (Cert.Kernel15Ideal.main (F := F))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

/-- Its frame: its text is its ideal form's, read at machine numbers. -/
theorem frame_kernel15 : Cert.quiescent_Kernel15 :=
  (show Cert.quiescent_Kernel15 = FrameAt15 Bits from by sl_kernel_rfl).mpr fun m ρ _ => Cert.Kernel15Ideal.Gen.frame (F := Bits) m ρ
/-- Its ideal form's frame. -/
theorem frame_ideal15 : Cert.quiescent_Kernel15Ideal := fun m ρ _ => Cert.Kernel15Ideal.Gen.frame (F := Ideal) m ρ

/-- The frame of its reference. -/
theorem frame_reference15 : Cert.quiescent_Reference15Ideal := fun m ρ _ =>
  (θ_run Cert.Reference15Ideal.defs _ _).mono (fun _ h => ⟨fun c => (h c).2, Idealize.ShloMosaic.sem_eq_zero_of_no_sems (by decide) _⟩) (Cert.Reference15Ideal.Value.run (F := Ideal) m ρ)

/-- The kernel's result is the gradient of 1536 columns of the input projection's weight. -/
theorem value_weight_conv : Cert.algebraic_Kernel15Ideal_Reference15Ideal := by
  intro m g m' g' _ ha
  refine ⟨fun c => Cert.Reference15Ideal.Read.val_main_v7 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run _ _ _).mono (fun r h c => ⟨(h c).1.trans (Cert.Segments.convWeight m c), (h c).2⟩) (Cert.Kernel15Ideal.Value.run_blocks (F := Ideal) m g),
    (θ_run _ _ _).mono (fun r h c => ⟨?_, (h c).2⟩) (Cert.Reference15Ideal.Value.run (F := Ideal) m' g')⟩
  refine (h c).1.trans ((Cert.Reference15Ideal.Read.val_main_v7_eq _ _).trans ?_)
  rw [(ha c).1, (ha c).2]

/-- The gradient of the narrow segment's weight runs over float values `F`, its arguments unchanged and every semaphore counter at zero at the end. -/
def FrameAt16 (F : FTy → Type) [FloatOps F] : Prop :=
  ∀ (m : (ℓ : Loc Cert.Kernel16Ideal.nD Cert.Kernel16Ideal.τ Cert.Kernel16Ideal.sig) → Buf (Elt F) ℓ) (g : Dev Cert.Kernel16Ideal.nD → PrngReg), True →
    θ_run (Cert.Kernel16Ideal.defs (F := F)) (onTc (τ := Cert.Kernel16Ideal.τ) (Cert.Kernel16Ideal.main (F := F))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

/-- Its frame: its text is its ideal form's, read at machine numbers. -/
theorem frame_kernel16 : Cert.quiescent_Kernel16 :=
  (show Cert.quiescent_Kernel16 = FrameAt16 Bits from by sl_kernel_rfl).mpr fun m ρ _ => Cert.Kernel16Ideal.Gen.frame (F := Bits) m ρ
/-- Its ideal form's frame. -/
theorem frame_ideal16 : Cert.quiescent_Kernel16Ideal := fun m ρ _ => Cert.Kernel16Ideal.Gen.frame (F := Ideal) m ρ

/-- The frame of its reference. -/
theorem frame_reference16 : Cert.quiescent_Reference16Ideal := fun m ρ _ =>
  (θ_run Cert.Reference16Ideal.defs _ _).mono (fun _ h => ⟨fun c => (h c).2, Idealize.ShloMosaic.sem_eq_zero_of_no_sems (by decide) _⟩) (Cert.Reference16Ideal.Value.run (F := Ideal) m ρ)

/-- The kernel's result is the gradient of 128 columns of the input projection's weight. -/
theorem value_weight_narrow : Cert.algebraic_Kernel16Ideal_Reference16Ideal := by
  intro m g m' g' _ ha
  refine ⟨fun c => Cert.Reference16Ideal.Read.val_main_v7 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)),
    (θ_run _ _ _).mono (fun r h c => ⟨(h c).1.trans (Cert.Segments.narrowWeight m c), (h c).2⟩) (Cert.Kernel16Ideal.Value.run_blocks (F := Ideal) m g),
    (θ_run _ _ _).mono (fun r h c => ⟨?_, (h c).2⟩) (Cert.Reference16Ideal.Value.run (F := Ideal) m' g')⟩
  refine (h c).1.trans ((Cert.Reference16Ideal.Read.val_main_v7_eq _ _).trans ?_)
  rw [(ha c).1, (ha c).2]

/-- The gradient of the input projection's input runs over float values `F`, its arguments unchanged and every semaphore counter at zero at the end. -/
def FrameAt17 (F : FTy → Type) [FloatOps F] : Prop :=
  ∀ (m : (ℓ : Loc Cert.Kernel17Ideal.nD Cert.Kernel17Ideal.τ Cert.Kernel17Ideal.sig) → Buf (Elt F) ℓ) (g : Dev Cert.Kernel17Ideal.nD → PrngReg), True →
    θ_run (Cert.Kernel17Ideal.defs (F := F)) (onTc (τ := Cert.Kernel17Ideal.τ) (Cert.Kernel17Ideal.main (F := F))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7))
      ∧ r.2.sem = fun _ => 0)

/-- Its frame: its text is its ideal form's, read at machine numbers. -/
theorem frame_kernel17 : Cert.quiescent_Kernel17 :=
  (show Cert.quiescent_Kernel17 = FrameAt17 Bits from by sl_kernel_rfl).mpr fun m ρ _ => Cert.Kernel17Ideal.Gen.frame (F := Bits) m ρ
/-- Its ideal form's frame. -/
theorem frame_ideal17 : Cert.quiescent_Kernel17Ideal := fun m ρ _ => Cert.Kernel17Ideal.Gen.frame (F := Ideal) m ρ

/-- The frame of its reference. -/
theorem frame_reference17 : Cert.quiescent_Reference17Ideal := fun m ρ _ =>
  (θ_run Cert.Reference17Ideal.defs _ _).mono (fun _ h => ⟨fun c => (h c).2, Idealize.ShloMosaic.sem_eq_zero_of_no_sems (by decide) _⟩) (Cert.Reference17Ideal.Value.run (F := Ideal) m ρ)

/-- The kernel's result is the gradient of the input projection's input. -/
theorem value_segments_input : Cert.algebraic_Kernel17Ideal_Reference17Ideal := by
  intro m g m' g' _ ha
  refine ⟨fun c => Cert.Reference17Ideal.Read.val_main_v23 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5)) (m ((c.tc : Thread Cert.Kernel17Ideal.nD Cert.Kernel17Ideal.τ).loc Cert.Kernel17Ideal.main_arg6)) (m ((c.tc : Thread Cert.Kernel17Ideal.nD Cert.Kernel17Ideal.τ).loc Cert.Kernel17Ideal.main_arg7)),
    (θ_run _ _ _).mono (fun r h c => ⟨(h c).1.trans (Cert.Segments.sum m c), (h c).2⟩) (Cert.Kernel17Ideal.Value.run_blocks (F := Ideal) m g),
    (θ_run _ _ _).mono (fun r h c => ⟨?_, (h c).2⟩) (Cert.Reference17Ideal.Value.run (F := Ideal) m' g')⟩
  refine (h c).1.trans ((Cert.Reference17Ideal.Read.val_main_v23_eq _ _ _ _ _ _ _ _).trans ?_)
  rw [(ha c).1, (ha c).2.1, (ha c).2.2.1, (ha c).2.2.2.1, (ha c).2.2.2.2.1, (ha c).2.2.2.2.2.1, (ha c).2.2.2.2.2.2.1, (ha c).2.2.2.2.2.2.2]

/-- Every claim. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts,
  Cert.Pre_finite.Gen.facts, Cert.Pre_finite_ffn.Gen.facts, by
  exact ⟨frame_kernel, frame_ideal, frame_ideal_finite, frame_reference, frame_reference_finite, frame_kernel2, frame_ideal2, frame_reference2, frame_reference3, frame_kernel4, frame_ideal4, frame_reference4,
    frame_kernel5, frame_ideal5, frame_reference5, frame_kernel6, frame_ideal6, frame_reference6,
    frame_kernel7, frame_ideal7, frame_ideal7_finite, frame_reference7, frame_reference7_finite,
    frame_kernel8, frame_ideal8, frame_reference8, frame_kernel9, frame_ideal9, frame_reference9, frame_kernel10, frame_ideal10, frame_reference10,
    frame_kernel11, frame_ideal11, frame_reference11, frame_kernel12, frame_ideal12, frame_reference12, frame_kernel13, frame_ideal13, frame_reference13, frame_kernel14, frame_ideal14, frame_reference14, frame_kernel15, frame_ideal15, frame_reference15, frame_kernel16, frame_ideal16, frame_reference16, frame_kernel17, frame_ideal17, frame_reference17,
    trivial, value_finite, trivial, value_down, value_gate, trivial, value_input,
    trivial, value_hidden, trivial, value_product, trivial, value_act_finite,
    trivial, value_projection, trivial, value_projection_input, trivial, value_projection_weight,
    trivial, value_segment_wide, trivial, value_segment_conv, trivial, value_segment_narrow, trivial, value_weight_wide, trivial, value_weight_conv, trivial, value_weight_narrow, trivial, value_segments_input⟩⟩

end Cert.Proof
